-- ==== Defs.lean ====
def Pre_Kernel [hPre_counts_split : Cert.Pre_counts_split.Facts] (m : (ℓ : Loc Cert.Kernel.nD Cert.Kernel.τ Cert.Kernel.sig) → Buf (Elt Bits) ℓ) : Prop :=
  ∀ c : Dev Cert.Kernel.nD,
    (Cert.Pre_counts_split.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_counts_split : Cert.Pre_counts_split.Facts] (m : (ℓ : Loc Cert.KernelIdeal.nD Cert.KernelIdeal.τ Cert.KernelIdeal.sig) → Buf (Elt Ideal) ℓ) : Prop :=
  ∀ c : Dev Cert.KernelIdeal.nD,
    (Cert.Pre_counts_split.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_split [hPre_counts_split : Cert.Pre_counts_split.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_split.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_buckets_in_range [hPre_buckets_in_range : Cert.Pre_buckets_in_range.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_buckets_in_range.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_buckets_in_range [hPre_buckets_in_range : Cert.Pre_buckets_in_range.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_buckets_in_range.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def quiescent_Kernel [hKernel : Cert.Kernel.Facts] [hPre_counts_split : Cert.Pre_counts_split.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_counts_split : Cert.Pre_counts_split.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_counts_split [hReferenceIdeal : Cert.ReferenceIdeal.Facts] [hPre_counts_split : Cert.Pre_counts_split.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_split m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_buckets_in_range [hKernel6Ideal : Cert.Kernel6Ideal.Facts] [hPre_buckets_in_range : Cert.Pre_buckets_in_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_buckets_in_range m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_buckets_in_range [hReference6Ideal : Cert.Reference6Ideal.Facts] [hPre_buckets_in_range : Cert.Pre_buckets_in_range.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_buckets_in_range m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_split : Cert.Pre_counts_split.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v220) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_buckets_in_range [hKernel6Ideal : Cert.Kernel6Ideal.Facts] [hReference6Ideal : Cert.Reference6Ideal.Facts] [hPre_buckets_in_range : Cert.Pre_buckets_in_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_buckets_in_range m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_counts_split : Cert.Pre_counts_split.Facts) (hPre_buckets_in_range : Cert.Pre_buckets_in_range.Facts),
    quiescent_Kernel (hKernel := hKernel) (hPre_counts_split := hPre_counts_split)
    ∧ quiescent_KernelIdeal (hKernelIdeal := hKernelIdeal) (hPre_counts_split := hPre_counts_split)
    ∧ quiescent_ReferenceIdeal (hReferenceIdeal := hReferenceIdeal)
    ∧ quiescent_ReferenceIdeal_pre_counts_split (hReferenceIdeal := hReferenceIdeal) (hPre_counts_split := hPre_counts_split)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_buckets_in_range (hKernel6Ideal := hKernel6Ideal) (hPre_buckets_in_range := hPre_buckets_in_range)
    ∧ quiescent_Reference6Ideal (hReference6Ideal := hReference6Ideal)
    ∧ quiescent_Reference6Ideal_pre_buckets_in_range (hReference6Ideal := hReference6Ideal) (hPre_buckets_in_range := hPre_buckets_in_range)
    ∧ preserves_Kernel_KernelIdeal
    ∧ algebraic_KernelIdeal_ReferenceIdeal (hKernelIdeal := hKernelIdeal) (hReferenceIdeal := hReferenceIdeal) (hPre_counts_split := hPre_counts_split)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_buckets_in_range (hKernel6Ideal := hKernel6Ideal) (hReference6Ideal := hReference6Ideal) (hPre_buckets_in_range := hPre_buckets_in_range)
-- ==== Pre_buckets_in_range.lean ====
abbrev S32x8 : Shape := ⟨2, ![32, 8]⟩
abbrev S2x256x256 : Shape := ⟨3, ![2, 256, 256]⟩
abbrev S_ : Shape := ⟨0, ![]⟩

class Facts : Prop where
  bcast_S_S2x256x256 : S_.BroadcastsInDim S2x256x256 (![] : Fin 0 → Fin S2x256x256.rank)
  reducesTo_S2x256x256_S_d0_1_2 : S2x256x256.ReducesTo [0, 1, 2] S_
  h_S_ : 0 < S_.numel

variable [Facts]

def fn {F : FTy → Type} [FloatOps F] (main_arg0 : FVec F S32x8 .f32) (main_arg1 : IVec S2x256x256 32) : IVec S_ 1 :=
  let main_c : IVec S_ 32 := constantI S_ 32 0#32
  let main_v0 : IVec S2x256x256 32 := broadcastInDim S2x256x256 ![] bcast_S_S2x256x256 main_c
  let main_v1 : IVec S2x256x256 1 := cmpi .sge main_arg1 main_v0
  let main_c_0 : IVec S_ 1 := constantI S_ 1 1#1
  let main_v2 : IVec S_ 1 := (fun x v => Host.reduce IntOp.andi x v reducesTo_S2x256x256_S_d0_1_2 h_S_) main_v1 main_c_0
  let main_c_1 : IVec S_ 32 := constantI S_ 32 32#32
  let main_v3 : IVec S2x256x256 32 := broadcastInDim S2x256x256 ![] bcast_S_S2x256x256 main_c_1
  let main_v4 : IVec S2x256x256 1 := cmpi .slt main_arg1 main_v3
  let main_c_2 : IVec S_ 1 := constantI S_ 1 1#1
  let main_v5 : IVec S_ 1 := (fun x v => Host.reduce IntOp.andi x v reducesTo_S2x256x256_S_d0_1_2 h_S_) main_v4 main_c_2
  let main_v6 : IVec S_ 1 := andi main_v2 main_v5
  main_v6
-- ==== Pre_counts_split.lean ====
abbrev S8 : Shape := ⟨1, ![8]⟩
abbrev S131072x512 : Shape := ⟨2, ![131072, 512]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : IVec S131072x512 32) (main_arg2 : FVec F S8x1024x3584 .bf16) (main_arg3 : FVec F S8x1024x3584 .bf16) (main_arg4 : FVec F S8x3584x1024 .bf16) : IVec S_ 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 131072#32
  let main_v3 : IVec S8 32 := broadcastInDim S8 ![] bcast_S_S8 main_c_1
  let main_v4 : IVec S8 1 := cmpi .sle main_arg0 main_v3
  let main_c_2 : IVec S_ 1 := constantI S_ 1 1#1
  let main_v5 : IVec S_ 1 := (fun x v => Host.reduce IntOp.andi x v reducesTo_S8_S_d0 h_S_) main_v4 main_c_2
  let main_c_3 : IVec S_ 32 := constantI S_ 32 0#32
  let main_v6 : IVec S_ 32 := (fun x v => Host.reduce IntOp.addi x v reducesTo_S8_S_d0 h_S_) main_arg0 main_c_3
  let main_c_4 : IVec S_ 32 := constantI S_ 32 131072#32
  let main_v7 : IVec S_ 1 := cmpi .eq main_v6 main_c_4
  let main_v8 : IVec S_ 1 := andi main_v5 main_v7
  let main_v9 : IVec S_ 1 := andi main_v2 main_v8
  main_v9
-- ==== Kernel.lean ====
abbrev S8 : Shape := ⟨1, ![8]⟩
abbrev S131072x512 : Shape := ⟨2, ![131072, 512]⟩
abbrev S8x1024x3584 : Shape := ⟨3, ![8, 1024, 3584]⟩
abbrev S8x3584x1024 : Shape := ⟨3, ![8, 3584, 1024]⟩
abbrev S_ : Shape := ⟨0, ![]⟩
abbrev S7 : Shape := ⟨1, ![7]⟩
abbrev S263 : Shape := ⟨1, ![263]⟩
abbrev S263x1 : Shape := ⟨2, ![263, 1]⟩
abbrev S1x7 : Shape := ⟨2, ![1, 7]⟩
abbrev S263x7 : Shape := ⟨2, ![263, 7]⟩
abbrev S262 : Shape := ⟨1, ![262]⟩
abbrev S1 : Shape := ⟨1, ![1]⟩
abbrev S1x8 : Shape := ⟨2, ![1, 8]⟩
abbrev S263x8 : Shape := ⟨2, ![263, 8]⟩
abbrev S131072x1024 : Shape := ⟨2, ![131072, 1024]⟩
abbrev S512x512 : Shape := ⟨2, ![512, 512]⟩
abbrev S1x1024x3584 : Shape := ⟨3, ![1, 1024, 3584]⟩
abbrev S1x3584x1024 : Shape := ⟨3, ![1, 3584, 1024]⟩
abbrev S512x1024 : Shape := ⟨2, ![512, 1024]⟩
abbrev S1x1024x512 : Shape := ⟨3, ![1, 1024, 512]⟩
abbrev S1024x512 : Shape := ⟨2, ![1024, 512]⟩
abbrev S1x512x1024 : Shape := ⟨3, ![1, 512, 1024]⟩

abbrev nBuf : Space → Nat
  | .hbm => 98
  | .vmem => 10
  | .smem => 4
  | _ => 0

abbrev bufTy : (tb : Table) → Fin (tcTables nBuf tb) → BufTy
  | .hbm, ⟨0, _⟩ => ⟨S8, .i32⟩
  | .hbm, ⟨1, _⟩ => ⟨S131072x512, .i32⟩
  | .hbm, ⟨2, _⟩ => ⟨S8x1024x3584, .bf16⟩
  | .hbm, ⟨3, _⟩ => ⟨S8x1024x3584, .bf16⟩
  | .hbm, ⟨4, _⟩ => ⟨S8x3584x1024, .bf16⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S7, .i32⟩
  | .hbm, ⟨10, _⟩ => ⟨S7, .i32⟩
  | .hbm, ⟨11, _⟩ => ⟨S_, .i32⟩
  | .hbm, ⟨12, _⟩ => ⟨S_, .i32⟩
  | .hbm, ⟨13, _⟩ => ⟨S7, .i32⟩
  | .hbm, ⟨14, _⟩ => ⟨S7, .i32⟩
  | .hbm, ⟨15, _⟩ => ⟨S7, .i32⟩
  | .hbm, ⟨16, _⟩ => ⟨S_, .i32⟩
  | .hbm, ⟨17, _⟩ => ⟨S7, .i32⟩
  | .hbm, ⟨18, _⟩ => ⟨S7, .i1⟩
  | .hbm, ⟨19, _⟩ => ⟨S7, .i32⟩
  | .hbm, ⟨20, _⟩ => ⟨S7, .i32⟩
  | .hbm, ⟨21, _⟩ => ⟨S_, .i32⟩
  | .hbm, ⟨22, _⟩ => ⟨S7, .i32⟩
  | .hbm, ⟨23, _⟩ => ⟨S7, .i1⟩
  | .hbm, ⟨24, _⟩ => ⟨S7, .i1⟩
  | .hbm, ⟨25, _⟩ => ⟨S_, .i32⟩
  | .hbm, ⟨26, _⟩ => ⟨S7, .i32⟩
  | .hbm, ⟨27, _⟩ => ⟨S7, .i32⟩
  | .hbm, ⟨28, _⟩ => ⟨S7, .i32⟩
  | .hbm, ⟨29, _⟩ => ⟨S_, .i32⟩
  | .hbm, ⟨30, _⟩ => ⟨S7, .i32⟩
  | .hbm, ⟨31, _⟩ => ⟨S7, .i32⟩
  | .hbm, ⟨32, _⟩ => ⟨S_, .i32⟩
  | .hbm, ⟨33, _⟩ => ⟨S7, .i32⟩
  | .hbm, ⟨34, _⟩ => ⟨S7, .i32⟩
  | .hbm, ⟨35, _⟩ => ⟨S7, .i32⟩
  | .hbm, ⟨36, _⟩ => ⟨S263, .i32⟩
  | .hbm, ⟨37, _⟩ => ⟨S263x1, .i32⟩
  | .hbm, ⟨38, _⟩ => ⟨S1x7, .i32⟩
  | .hbm, ⟨39, _⟩ => ⟨S263x7, .i32⟩
  | .hbm, ⟨40, _⟩ => ⟨S263x7, .i32⟩
  | .hbm, ⟨41, _⟩ => ⟨S263x7, .i1⟩
  | .hbm, ⟨42, _⟩ => ⟨S263x7, .i32⟩
  | .hbm, ⟨43, _⟩ => ⟨S_, .i32⟩
  | .hbm, ⟨44, _⟩ => ⟨S263, .i32⟩
  | .hbm, ⟨45, _⟩ => ⟨S1x7, .i32⟩
  | .hbm, ⟨46, _⟩ => ⟨S263x7, .i32⟩
  | .hbm, ⟨47, _⟩ => ⟨S263x7, .i32⟩
  | .hbm, ⟨48, _⟩ => ⟨S263x7, .i1⟩
  | .hbm, ⟨49, _⟩ => ⟨S_, .i1⟩
  | .hbm, ⟨50, _⟩ => ⟨S263, .i1⟩
  | .hbm, ⟨51, _⟩ => ⟨S1x7, .i32⟩
  | .hbm, ⟨52, _⟩ => ⟨S_, .i32⟩
  | .hbm, ⟨53, _⟩ => ⟨S_, .i32⟩
  | .hbm, ⟨54, _⟩ => ⟨S263x7, .i32⟩
  | .hbm, ⟨55, _⟩ => ⟨S263x7, .i32⟩
  | .hbm, ⟨56, _⟩ => ⟨S263x7, .i32⟩
  | .hbm, ⟨57, _⟩ => ⟨S_, .i32⟩
  | .hbm, ⟨58, _⟩ => ⟨S263, .i32⟩
  | .hbm, ⟨59, _⟩ => ⟨S263, .i32⟩
  | .hbm, ⟨60, _⟩ => ⟨S263, .i32⟩
  | .hbm, ⟨61, _⟩ => ⟨S_, .i32⟩
  | .hbm, ⟨62, _⟩ => ⟨S263, .i32⟩
  | .hbm, ⟨63, _⟩ => ⟨S263, .i32⟩
  | .hbm, ⟨64, _⟩ => ⟨S262, .i32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S_, .i32⟩
  | .hbm, ⟨69, _⟩ => ⟨S263, .i32⟩
  | .hbm, ⟨70, _⟩ => ⟨S263, .i32⟩
  | .hbm, ⟨71, _⟩ => ⟨S263, .i32⟩
  | .hbm, ⟨72, _⟩ => ⟨S_, .i32⟩
  | .hbm, ⟨73, _⟩ => ⟨S263, .i32⟩
  | .hbm, ⟨74, _⟩ => ⟨S263, .i1⟩
  | .hbm, ⟨75, _⟩ => ⟨S263, .i32⟩
  | .hbm, ⟨76, _⟩ => ⟨S263, .i32⟩
  | .hbm, ⟨77, _⟩ => ⟨S_, .i32⟩
  | .hbm, ⟨78, _⟩ => ⟨S263, .i32⟩
  | .hbm, ⟨79, _⟩ => ⟨S263, .i1⟩
  | .hbm, ⟨80, _⟩ => ⟨S263, .i1⟩
  | .hbm, ⟨81, _⟩ => ⟨S_, .i32⟩
  | .hbm, ⟨82, _⟩ => ⟨S263, .i32⟩
  | .hbm, ⟨83, _⟩ => ⟨S263, .i32⟩
  | .hbm, ⟨84, _⟩ => ⟨S263, .i32⟩
  | .hbm, ⟨85, _⟩ => ⟨S_, .i32⟩
  | .hbm, ⟨86, _⟩ => ⟨S263, .i32⟩
  | .hbm, ⟨87, _⟩ => ⟨S1x8, .i32⟩
  | .hbm, ⟨88, _⟩ => ⟨S263x1, .i32⟩
  | .hbm, ⟨89, _⟩ => ⟨S263x8, .i32⟩
  | .hbm, ⟨90, _⟩ => ⟨S263x8, .i32⟩
  | .hbm, ⟨91, _⟩ => ⟨S263x8, .i1⟩
  | .hbm, ⟨92, _⟩ => ⟨S263x8, .i32⟩
  | .hbm, ⟨93, _⟩ => ⟨S_, .i32⟩
  | .hbm, ⟨94, _⟩ => ⟨S263, .i32⟩
  | .hbm, ⟨95, _⟩ => ⟨S_, .i32⟩
  | .hbm, ⟨96, _⟩ => ⟨S263, .i32⟩
  | .hbm, ⟨97, _⟩ => ⟨S131072x1024, .bf16⟩
  | .local _ .vmem, ⟨0, _⟩ => ⟨S512x512, .i32⟩
  | .local _ .vmem, ⟨1, _⟩ => ⟨S512x512, .i32⟩
  | .local _ .vmem, ⟨2, _⟩ => ⟨S1x1024x3584, .bf16⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x3584x1024, .bf16⟩
  | .local _ .vmem, ⟨7, _⟩ => ⟨S1x3584x1024, .bf16⟩
  | .local _ .vmem, ⟨8, _⟩ => ⟨S512x1024, .bf16⟩
  | .local _ .vmem, ⟨9, _⟩ => ⟨S512x1024, .bf16⟩
  | .local _ .smem, ⟨0, _⟩ => ⟨S263, .i32⟩
  | .local _ .smem, ⟨1, _⟩ => ⟨S263, .i32⟩
  | .local _ .smem, ⟨2, _⟩ => ⟨S263, .i32⟩
  | .local _ .smem, ⟨3, _⟩ => ⟨S263, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_c : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_0 : Ref sig .tc := ⟨.hbm, 25, rfl⟩
abbrev main_call1_v12 : Ref sig .tc := ⟨.hbm, 26, rfl⟩
abbrev main_call1_v13 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_3 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_v29 : Ref sig .tc := ⟨.hbm, 63, rfl⟩
abbrev main_v31 : Ref sig .tc := ⟨.hbm, 64, rfl⟩
abbrev main_c_7 : Ref sig .tc := ⟨.hbm, 65, rfl⟩
abbrev main_v32 : Ref sig .tc := ⟨.hbm, 66, rfl⟩
abbrev main_c_8 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_c : Ref sig .tc := ⟨.hbm, 77, rfl⟩
abbrev main_call4_v9 : Ref sig .tc := ⟨.hbm, 78, rfl⟩
abbrev main_call4_v10 : Ref sig .tc := ⟨.hbm, 79, rfl⟩
abbrev main_call4_v11 : Ref sig .tc := ⟨.hbm, 80, rfl⟩
abbrev main_call4_c_0 : Ref sig .tc := ⟨.hbm, 81, rfl⟩
abbrev main_call4_v12 : Ref sig .tc := ⟨.hbm, 82, rfl⟩
abbrev main_call4_v13 : Ref sig .tc := ⟨.hbm, 83, rfl⟩
abbrev main_v34 : Ref sig .tc := ⟨.hbm, 84, rfl⟩
abbrev main_c_9 : Ref sig .tc := ⟨.hbm, 85, rfl⟩
abbrev main_v35 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_c_10 : Ref sig .tc := ⟨.hbm, 93, rfl⟩
abbrev main_v43 : Ref sig .tc := ⟨.hbm, 94, rfl⟩
abbrev main_c_11 : Ref sig .tc := ⟨.hbm, 95, rfl⟩
abbrev main_v44 : Ref sig .tc := ⟨.hbm, 96, rfl⟩
abbrev main_v46 : Ref sig .tc := ⟨.hbm, 97, rfl⟩
abbrev main_v36 : Ref sig .tc := ⟨.smem, 0, rfl⟩
abbrev main_v45 : Ref sig .tc := ⟨.smem, 1, rfl⟩
abbrev main_v30 : Ref sig .tc := ⟨.smem, 2, rfl⟩
abbrev main_v33 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![263], ![false]⟩

abbrev pre0 : Pipeline.Prefetch sig := ⟨4, ![main_v36.idx, main_v45.idx, main_v30.idx, main_v33.idx], fun | 0 => main_v36.names | 1 => main_v45.names | 2 => main_v30.names | 3 => main_v33.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v114 : Index := Scalar.indexCast arg0
  ![v114.toNat]
def k0_cond1 (v1 : BitVec 32) (v3 : BitVec 32) : BitVec 1 :=
  let v4 : BitVec 1 := Scalar.cmpi .sgt v3 v1
  let v5 : BitVec 32 := Scalar.extui v4
  let c0_i32 : BitVec 32 := 0#32
  let v6 : BitVec 1 := Scalar.cmpi .ne v5 c0_i32
  v6

def k0_cond2 (v1 : BitVec 32) (v115 : BitVec 32) : BitVec 1 :=
  let c512_i32 : BitVec 32 := 512#32
  let v116 : BitVec 32 := Scalar.muli v115 c512_i32
  let v117 : BitVec 32 := Scalar.subi v1 v116
  let c0_i32_78 : BitVec 32 := 0#32
  let v118 : BitVec 1 := Scalar.cmpi .eq v117 c0_i32_78
  let v119 : BitVec 32 := Scalar.extui v118
  let c0_i32_79 : BitVec 32 := 0#32
  let v120 : BitVec 1 := Scalar.cmpi .ne v119 c0_i32_79
  v120

def k0_cond3 (v1 : BitVec 32) (v115 : BitVec 32) : BitVec 1 :=
  let c512_i32 : BitVec 32 := 512#32
  let v116 : BitVec 32 := Scalar.muli v115 c512_i32
  let v117 : BitVec 32 := Scalar.subi v1 v116
  let c0_i32_80 : BitVec 32 := 0#32
  let v121 : BitVec 1 := Scalar.cmpi .sgt v117 c0_i32_80
  let v122 : BitVec 32 := Scalar.extui v121
  let c0_i32_81 : BitVec 32 := 0#32
  let v123 : BitVec 1 := Scalar.cmpi .ne v122 c0_i32_81
  v123

def cc0_transform_0 (k0_off1_inb : ∀ i : grid0.Coords, ∀ a, (k0_off1 i) a + S1.size a ≤ S263.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S263) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S263.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S263) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S263.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S263) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S263.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S263) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S263.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S263) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8 : Shape := ⟨1, ![8]⟩
abbrev S131072x512 : Shape := ⟨2, ![131072, 512]⟩
abbrev S8x1024x3584 : Shape := ⟨3, ![8, 1024, 3584]⟩
abbrev S8x3584x1024 : Shape := ⟨3, ![8, 3584, 1024]⟩
abbrev S_ : Shape := ⟨0, ![]⟩
abbrev S131072x1024 : Shape := ⟨2, ![131072, 1024]⟩
abbrev S1x8 : Shape := ⟨2, ![1, 8]⟩
abbrev S131072 : Shape := ⟨1, ![131072]⟩
abbrev S131072x1 : Shape := ⟨2, ![131072, 1]⟩
abbrev S131072x8 : Shape := ⟨2, ![131072, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S131072x3584 : Shape := ⟨2, ![131072, 3584]⟩

abbrev nBuf : Space → Nat
  | .hbm => 285
  | .vmem => 0
  | .smem => 0
  | _ => 0

abbrev hbmTy0_0 (i : Nat) : BufTy := match i % 128 with
  | 0 => ⟨S8, .i32⟩
  | 1 => ⟨S131072x512, .i32⟩
  | 2 => ⟨S8x1024x3584, .bf16⟩
  | 3 => ⟨S8x1024x3584, .bf16⟩
  | 4 => ⟨S8x3584x1024, .bf16⟩
  | 5 => ⟨S_, .i32⟩
  | 6 => ⟨S131072x512, .i32⟩
  | 7 => ⟨S131072x512, .i32⟩
  | 8 => ⟨S131072x512, .f32⟩
  | 9 => ⟨S_, .i32⟩
  | 10 => ⟨S131072x512, .i32⟩
  | 11 => ⟨S131072x512, .i32⟩
  | 12 => ⟨S131072x512, .f32⟩
  | 13 => ⟨S131072x1024, .f32⟩
  | 14 => ⟨S_, .i32⟩
  | 15 => ⟨S_, .i32⟩
  | 16 => ⟨S8, .i32⟩
  | 17 => ⟨S1x8, .i32⟩
  | 18 => ⟨S131072, .i32⟩
  | 19 => ⟨S131072x1, .i32⟩
  | 20 => ⟨S131072x8, .i32⟩
  | 21 => ⟨S131072x8, .i32⟩
  | 22 => ⟨S131072x8, .i1⟩
  | 23 => ⟨S131072x8, .i32⟩
  | 24 => ⟨S_, .i32⟩
  | 25 => ⟨S131072, .i32⟩
  | 26 => ⟨S_, .f32⟩
  | 27 => ⟨S131072x1024, .f32⟩
  | 28 => ⟨S1x1024x3584, .bf16⟩
  | 29 => ⟨S1024x3584, .bf16⟩
  | 30 => ⟨S1024x3584, .f32⟩
  | 31 => ⟨S1x1024x3584, .bf16⟩
  | 32 => ⟨S1024x3584, .bf16⟩
  | 33 => ⟨S1024x3584, .f32⟩
  | 34 => ⟨S1x3584x1024, .bf16⟩
  | 35 => ⟨S3584x1024, .bf16⟩
  | 36 => ⟨S3584x1024, .f32⟩
  | 37 => ⟨S131072x3584, .f32⟩
  | 38 => ⟨S131072x3584, .f32⟩
  | 39 => ⟨S131072x3584, .f32⟩
  | 40 => ⟨S_, .f32⟩
  | 41 => ⟨S131072x3584, .f32⟩
  | 42 => ⟨S131072x3584, .f32⟩
  | 43 => ⟨S_, .f32⟩
  | 44 => ⟨S131072x3584, .f32⟩
  | 45 => ⟨S131072x3584, .f32⟩
  | 46 => ⟨S131072x3584, .f32⟩
  | 47 => ⟨S131072x3584, .f32⟩
  | 48 => ⟨S131072x3584, .f32⟩
  | 49 => ⟨S131072x1024, .f32⟩
  | 50 => ⟨S_, .i32⟩
  | 51 => ⟨S131072, .i32⟩
  | 52 => ⟨S131072, .i1⟩
  | 53 => ⟨S131072x1, .i1⟩
  | 54 => ⟨S_, .f32⟩
  | 55 => ⟨S_, .f32⟩
  | 56 => ⟨S131072x1024, .i1⟩
  | 57 => ⟨S131072x1024, .f32⟩
  | 58 => ⟨S131072x1024, .f32⟩
  | 59 => ⟨S131072x1024, .f32⟩
  | 60 => ⟨S1x1024x3584, .bf16⟩
  | 61 => ⟨S1024x3584, .bf16⟩
  | 62 => ⟨S1024x3584, .f32⟩
  | 63 => ⟨S1x1024x3584, .bf16⟩
  | 64 => ⟨S1024x3584, .bf16⟩
  | 65 => ⟨S1024x3584, .f32⟩
  | 66 => ⟨S1x3584x1024, .bf16⟩
  | 67 => ⟨S3584x1024, .bf16⟩
  | 68 => ⟨S3584x1024, .f32⟩
  | 69 => ⟨S131072x3584, .f32⟩
  | 70 => ⟨S131072x3584, .f32⟩
  | 71 => ⟨S131072x3584, .f32⟩
  | 72 => ⟨S_, .f32⟩
  | 73 => ⟨S131072x3584, .f32⟩
  | 74 => ⟨S131072x3584, .f32⟩
  | 75 => ⟨S_, .f32⟩
  | 76 => ⟨S131072x3584, .f32⟩
  | 77 => ⟨S131072x3584, .f32⟩
  | 78 => ⟨S131072x3584, .f32⟩
  | 79 => ⟨S131072x3584, .f32⟩
  | 80 => ⟨S131072x3584, .f32⟩
  | 81 => ⟨S131072x1024, .f32⟩
  | 82 => ⟨S_, .i32⟩
  | 83 => ⟨S131072, .i32⟩
  | 84 => ⟨S131072, .i1⟩
  | 85 => ⟨S131072x1, .i1⟩
  | 86 => ⟨S_, .f32⟩
  | 87 => ⟨S_, .f32⟩
  | 88 => ⟨S131072x1024, .i1⟩
  | 89 => ⟨S131072x1024, .f32⟩
  | 90 => ⟨S131072x1024, .f32⟩
  | 91 => ⟨S131072x1024, .f32⟩
  | 92 => ⟨S1x1024x3584, .bf16⟩
  | 93 => ⟨S1024x3584, .bf16⟩
  | 94 => ⟨S1024x3584, .f32⟩
  | 95 => ⟨S1x1024x3584, .bf16⟩
  | 96 => ⟨S1024x3584, .bf16⟩
  | 97 => ⟨S1024x3584, .f32⟩
  | 98 => ⟨S1x3584x1024, .bf16⟩
  | 99 => ⟨S3584x1024, .bf16⟩
  | 100 => ⟨S3584x1024, .f32⟩
  | 101 => ⟨S131072x3584, .f32⟩
  | 102 => ⟨S131072x3584, .f32⟩
  | 103 => ⟨S131072x3584, .f32⟩
  | 104 => ⟨S_, .f32⟩
  | 105 => ⟨S131072x3584, .f32⟩
  | 106 => ⟨S131072x3584, .f32⟩
  | 107 => ⟨S_, .f32⟩
  | 108 => ⟨S131072x3584, .f32⟩
  | 109 => ⟨S131072x3584, .f32⟩
  | 110 => ⟨S131072x3584, .f32⟩
  | 111 => ⟨S131072x3584, .f32⟩
  | 112 => ⟨S131072x3584, .f32⟩
  | 113 => ⟨S131072x1024, .f32⟩
  | 114 => ⟨S_, .i32⟩
  | 115 => ⟨S131072, .i32⟩
  | 116 => ⟨S131072, .i1⟩
  | 117 => ⟨S131072x1, .i1⟩
  | 118 => ⟨S_, .f32⟩
  | 119 => ⟨S_, .f32⟩
  | 120 => ⟨S131072x1024, .i1⟩
  | 121 => ⟨S131072x1024, .f32⟩
  | 122 => ⟨S131072x1024, .f32⟩
  | 123 => ⟨S131072x1024, .f32⟩
  | 124 => ⟨S1x1024x3584, .bf16⟩
  | 125 => ⟨S1024x3584, .bf16⟩
  | 126 => ⟨S1024x3584, .f32⟩
  | 127 => ⟨S1x1024x3584, .bf16⟩
  | _ => ⟨S8, .i32⟩

abbrev hbmTy0_1 (i : Nat) : BufTy := match i % 128 with
  | 0 => ⟨S1024x3584, .bf16⟩
  | 1 => ⟨S1024x3584, .f32⟩
  | 2 => ⟨S1x3584x1024, .bf16⟩
  | 3 => ⟨S3584x1024, .bf16⟩
  | 4 => ⟨S3584x1024, .f32⟩
  | 5 => ⟨S131072x3584, .f32⟩
  | 6 => ⟨S131072x3584, .f32⟩
  | 7 => ⟨S131072x3584, .f32⟩
  | 8 => ⟨S_, .f32⟩
  | 9 => ⟨S131072x3584, .f32⟩
  | 10 => ⟨S131072x3584, .f32⟩
  | 11 => ⟨S_, .f32⟩
  | 12 => ⟨S131072x3584, .f32⟩
  | 13 => ⟨S131072x3584, .f32⟩
  | 14 => ⟨S131072x3584, .f32⟩
  | 15 => ⟨S131072x3584, .f32⟩
  | 16 => ⟨S131072x3584, .f32⟩
  | 17 => ⟨S131072x1024, .f32⟩
  | 18 => ⟨S_, .i32⟩
  | 19 => ⟨S131072, .i32⟩
  | 20 => ⟨S131072, .i1⟩
  | 21 => ⟨S131072x1, .i1⟩
  | 22 => ⟨S_, .f32⟩
  | 23 => ⟨S_, .f32⟩
  | 24 => ⟨S131072x1024, .i1⟩
  | 25 => ⟨S131072x1024, .f32⟩
  | 26 => ⟨S131072x1024, .f32⟩
  | 27 => ⟨S131072x1024, .f32⟩
  | 28 => ⟨S1x1024x3584, .bf16⟩
  | 29 => ⟨S1024x3584, .bf16⟩
  | 30 => ⟨S1024x3584, .f32⟩
  | 31 => ⟨S1x1024x3584, .bf16⟩
  | 32 => ⟨S1024x3584, .bf16⟩
  | 33 => ⟨S1024x3584, .f32⟩
  | 34 => ⟨S1x3584x1024, .bf16⟩
  | 35 => ⟨S3584x1024, .bf16⟩
  | 36 => ⟨S3584x1024, .f32⟩
  | 37 => ⟨S131072x3584, .f32⟩
  | 38 => ⟨S131072x3584, .f32⟩
  | 39 => ⟨S131072x3584, .f32⟩
  | 40 => ⟨S_, .f32⟩
  | 41 => ⟨S131072x3584, .f32⟩
  | 42 => ⟨S131072x3584, .f32⟩
  | 43 => ⟨S_, .f32⟩
  | 44 => ⟨S131072x3584, .f32⟩
  | 45 => ⟨S131072x3584, .f32⟩
  | 46 => ⟨S131072x3584, .f32⟩
  | 47 => ⟨S131072x3584, .f32⟩
  | 48 => ⟨S131072x3584, .f32⟩
  | 49 => ⟨S131072x1024, .f32⟩
  | 50 => ⟨S_, .i32⟩
  | 51 => ⟨S131072, .i32⟩
  | 52 => ⟨S131072, .i1⟩
  | 53 => ⟨S131072x1, .i1⟩
  | 54 => ⟨S_, .f32⟩
  | 55 => ⟨S_, .f32⟩
  | 56 => ⟨S131072x1024, .i1⟩
  | 57 => ⟨S131072x1024, .f32⟩
  | 58 => ⟨S131072x1024, .f32⟩
  | 59 => ⟨S131072x1024, .f32⟩
  | 60 => ⟨S1x1024x3584, .bf16⟩
  | 61 => ⟨S1024x3584, .bf16⟩
  | 62 => ⟨S1024x3584, .f32⟩
  | 63 => ⟨S1x1024x3584, .bf16⟩
  | 64 => ⟨S1024x3584, .bf16⟩
  | 65 => ⟨S1024x3584, .f32⟩
  | 66 => ⟨S1x3584x1024, .bf16⟩
  | 67 => ⟨S3584x1024, .bf16⟩
  | 68 => ⟨S3584x1024, .f32⟩
  | 69 => ⟨S131072x3584, .f32⟩
  | 70 => ⟨S131072x3584, .f32⟩
  | 71 => ⟨S131072x3584, .f32⟩
  | 72 => ⟨S_, .f32⟩
  | 73 => ⟨S131072x3584, .f32⟩
  | 74 => ⟨S131072x3584, .f32⟩
  | 75 => ⟨S_, .f32⟩
  | 76 => ⟨S131072x3584, .f32⟩
  | 77 => ⟨S131072x3584, .f32⟩
  | 78 => ⟨S131072x3584, .f32⟩
  | 79 => ⟨S131072x3584, .f32⟩
  | 80 => ⟨S131072x3584, .f32⟩
  | 81 => ⟨S131072x1024, .f32⟩
  | 82 => ⟨S_, .i32⟩
  | 83 => ⟨S131072, .i32⟩
  | 84 => ⟨S131072, .i1⟩
  | 85 => ⟨S131072x1, .i1⟩
  | 86 => ⟨S_, .f32⟩
  | 87 => ⟨S_, .f32⟩
  | 88 => ⟨S131072x1024, .i1⟩
  | 89 => ⟨S131072x1024, .f32⟩
  | 90 => ⟨S131072x1024, .f32⟩
  | 91 => ⟨S131072x1024, .f32⟩
  | 92 => ⟨S1x1024x3584, .bf16⟩
  | 93 => ⟨S1024x3584, .bf16⟩
  | 94 => ⟨S1024x3584, .f32⟩
  | 95 => ⟨S1x1024x3584, .bf16⟩
  | 96 => ⟨S1024x3584, .bf16⟩
  | 97 => ⟨S1024x3584, .f32⟩
  | 98 => ⟨S1x3584x1024, .bf16⟩
  | 99 => ⟨S3584x1024, .bf16⟩
  | 100 => ⟨S3584x1024, .f32⟩
  | 101 => ⟨S131072x3584, .f32⟩
  | 102 => ⟨S131072x3584, .f32⟩
  | 103 => ⟨S131072x3584, .f32⟩
  | 104 => ⟨S_, .f32⟩
  | 105 => ⟨S131072x3584, .f32⟩
  | 106 => ⟨S131072x3584, .f32⟩
  | 107 => ⟨S_, .f32⟩
  | 108 => ⟨S131072x3584, .f32⟩
  | 109 => ⟨S131072x3584, .f32⟩
  | 110 => ⟨S131072x3584, .f32⟩
  | 111 => ⟨S131072x3584, .f32⟩
  | 112 => ⟨S131072x3584, .f32⟩
  | 113 => ⟨S131072x1024, .f32⟩
  | 114 => ⟨S_, .i32⟩
  | 115 => ⟨S131072, .i32⟩
  | 116 => ⟨S131072, .i1⟩
  | 117 => ⟨S131072x1, .i1⟩
  | 118 => ⟨S_, .f32⟩
  | 119 => ⟨S_, .f32⟩
  | 120 => ⟨S131072x1024, .i1⟩
  | 121 => ⟨S131072x1024, .f32⟩
  | 122 => ⟨S131072x1024, .f32⟩
  | 123 => ⟨S131072x1024, .f32⟩
  | 124 => ⟨S1x1024x3584, .bf16⟩
  | 125 => ⟨S1024x3584, .bf16⟩
  | 126 => ⟨S1024x3584, .f32⟩
  | 127 => ⟨S1x1024x3584, .bf16⟩
  | _ => ⟨S8, .i32⟩

abbrev hbmTy0_2 (i : Nat) : BufTy := match i % 128 with
  | 0 => ⟨S1024x3584, .bf16⟩
  | 1 => ⟨S1024x3584, .f32⟩
  | 2 => ⟨S1x3584x1024, .bf16⟩
  | 3 => ⟨S3584x1024, .bf16⟩
  | 4 => ⟨S3584x1024, .f32⟩
  | 5 => ⟨S131072x3584, .f32⟩
  | 6 => ⟨S131072x3584, .f32⟩
  | 7 => ⟨S131072x3584, .f32⟩
  | 8 => ⟨S_, .f32⟩
  | 9 => ⟨S131072x3584, .f32⟩
  | 10 => ⟨S131072x3584, .f32⟩
  | 11 => ⟨S_, .f32⟩
  | 12 => ⟨S131072x3584, .f32⟩
  | 13 => ⟨S131072x3584, .f32⟩
  | 14 => ⟨S131072x3584, .f32⟩
  | 15 => ⟨S131072x3584, .f32⟩
  | 16 => ⟨S131072x3584, .f32⟩
  | 17 => ⟨S131072x1024, .f32⟩
  | 18 => ⟨S_, .i32⟩
  | 19 => ⟨S131072, .i32⟩
  | 20 => ⟨S131072, .i1⟩
  | 21 => ⟨S131072x1, .i1⟩
  | 22 => ⟨S_, .f32⟩
  | 23 => ⟨S_, .f32⟩
  | 24 => ⟨S131072x1024, .i1⟩
  | 25 => ⟨S131072x1024, .f32⟩
  | 26 => ⟨S131072x1024, .f32⟩
  | 27 => ⟨S131072x1024, .f32⟩
  | 28 => ⟨S131072x1024, .bf16⟩
  | _ => ⟨S8, .i32⟩

abbrev hbmTy (i : Nat) : BufTy := match i / 128 with
  | 0 => hbmTy0_0 i
  | 1 => hbmTy0_1 i
  | 2 => hbmTy0_2 i
  | _ => ⟨S8, .i32⟩

abbrev bufTy : (tb : Table) → Fin (tcTables nBuf tb) → BufTy
  | .hbm, ⟨i, _⟩ => hbmTy i
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_call0_c : Ref sig .tc := ⟨.hbm, 14, rfl⟩
abbrev main_call0_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call3_v0 : Ref sig .tc := ⟨.hbm, 70, rfl⟩
abbrev main_call3_v1 : Ref sig .tc := ⟨.hbm, 71, rfl⟩
abbrev main_call3_cst : Ref sig .tc := ⟨.hbm, 72, rfl⟩
abbrev main_call3_v2 : Ref sig .tc := ⟨.hbm, 73, rfl⟩
abbrev main_call3_v3 : Ref sig .tc := ⟨.hbm, 74, rfl⟩
abbrev main_call3_cst_0 : Ref sig .tc := ⟨.hbm, 75, rfl⟩
abbrev main_call3_v4 : Ref sig .tc := ⟨.hbm, 76, rfl⟩
abbrev main_call3_v5 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_4 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_5 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call5_v0 : Ref sig .tc := ⟨.hbm, 102, rfl⟩
abbrev main_call5_v1 : Ref sig .tc := ⟨.hbm, 103, rfl⟩
abbrev main_call5_cst : Ref sig .tc := ⟨.hbm, 104, rfl⟩
abbrev main_call5_v2 : Ref sig .tc := ⟨.hbm, 105, rfl⟩
abbrev main_call5_v3 : Ref sig .tc := ⟨.hbm, 106, rfl⟩
abbrev main_call5_cst_0 : Ref sig .tc := ⟨.hbm, 107, rfl⟩
abbrev main_call5_v4 : Ref sig .tc := ⟨.hbm, 108, rfl⟩
abbrev main_call5_v5 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c_6 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_7 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_call7_v0 : Ref sig .tc := ⟨.hbm, 134, rfl⟩
abbrev main_call7_v1 : Ref sig .tc := ⟨.hbm, 135, rfl⟩
abbrev main_call7_cst : Ref sig .tc := ⟨.hbm, 136, rfl⟩
abbrev main_call7_v2 : Ref sig .tc := ⟨.hbm, 137, rfl⟩
abbrev main_call7_v3 : Ref sig .tc := ⟨.hbm, 138, rfl⟩
abbrev main_call7_cst_0 : Ref sig .tc := ⟨.hbm, 139, rfl⟩
abbrev main_call7_v4 : Ref sig .tc := ⟨.hbm, 140, rfl⟩
abbrev main_call7_v5 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_c_8 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_9 : Ref sig .tc := ⟨.hbm, 150, rfl⟩
abbrev main_call8_v0 : Ref sig .tc := ⟨.hbm, 151, rfl⟩
abbrev main_call8_v1 : Ref sig .tc := ⟨.hbm, 152, rfl⟩
abbrev main_call8_v2 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_call9_v0 : Ref sig .tc := ⟨.hbm, 166, rfl⟩
abbrev main_call9_v1 : Ref sig .tc := ⟨.hbm, 167, rfl⟩
abbrev main_call9_cst : Ref sig .tc := ⟨.hbm, 168, rfl⟩
abbrev main_call9_v2 : Ref sig .tc := ⟨.hbm, 169, rfl⟩
abbrev main_call9_v3 : Ref sig .tc := ⟨.hbm, 170, rfl⟩
abbrev main_call9_cst_0 : Ref sig .tc := ⟨.hbm, 171, rfl⟩
abbrev main_call9_v4 : Ref sig .tc := ⟨.hbm, 172, rfl⟩
abbrev main_call9_v5 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_c_10 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_11 : Ref sig .tc := ⟨.hbm, 182, rfl⟩
abbrev main_call10_v0 : Ref sig .tc := ⟨.hbm, 183, rfl⟩
abbrev main_call10_v1 : Ref sig .tc := ⟨.hbm, 184, rfl⟩
abbrev main_call10_v2 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_call11_v0 : Ref sig .tc := ⟨.hbm, 198, rfl⟩
abbrev main_call11_v1 : Ref sig .tc := ⟨.hbm, 199, rfl⟩
abbrev main_call11_cst : Ref sig .tc := ⟨.hbm, 200, rfl⟩
abbrev main_call11_v2 : Ref sig .tc := ⟨.hbm, 201, rfl⟩
abbrev main_call11_v3 : Ref sig .tc := ⟨.hbm, 202, rfl⟩
abbrev main_call11_cst_0 : Ref sig .tc := ⟨.hbm, 203, rfl⟩
abbrev main_call11_v4 : Ref sig .tc := ⟨.hbm, 204, rfl⟩
abbrev main_call11_v5 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_c_12 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_cst_13 : Ref sig .tc := ⟨.hbm, 214, rfl⟩
abbrev main_call12_v0 : Ref sig .tc := ⟨.hbm, 215, rfl⟩
abbrev main_call12_v1 : Ref sig .tc := ⟨.hbm, 216, rfl⟩
abbrev main_call12_v2 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_call13_v0 : Ref sig .tc := ⟨.hbm, 230, rfl⟩
abbrev main_call13_v1 : Ref sig .tc := ⟨.hbm, 231, rfl⟩
abbrev main_call13_cst : Ref sig .tc := ⟨.hbm, 232, rfl⟩
abbrev main_call13_v2 : Ref sig .tc := ⟨.hbm, 233, rfl⟩
abbrev main_call13_v3 : Ref sig .tc := ⟨.hbm, 234, rfl⟩
abbrev main_call13_cst_0 : Ref sig .tc := ⟨.hbm, 235, rfl⟩
abbrev main_call13_v4 : Ref sig .tc := ⟨.hbm, 236, rfl⟩
abbrev main_call13_v5 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_c_14 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_cst_15 : Ref sig .tc := ⟨.hbm, 246, rfl⟩
abbrev main_call14_v0 : Ref sig .tc := ⟨.hbm, 247, rfl⟩
abbrev main_call14_v1 : Ref sig .tc := ⟨.hbm, 248, rfl⟩
abbrev main_call14_v2 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_call15_v0 : Ref sig .tc := ⟨.hbm, 262, rfl⟩
abbrev main_call15_v1 : Ref sig .tc := ⟨.hbm, 263, rfl⟩
abbrev main_call15_cst : Ref sig .tc := ⟨.hbm, 264, rfl⟩
abbrev main_call15_v2 : Ref sig .tc := ⟨.hbm, 265, rfl⟩
abbrev main_call15_v3 : Ref sig .tc := ⟨.hbm, 266, rfl⟩
abbrev main_call15_cst_0 : Ref sig .tc := ⟨.hbm, 267, rfl⟩
abbrev main_call15_v4 : Ref sig .tc := ⟨.hbm, 268, rfl⟩
abbrev main_call15_v5 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_c_16 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_cst_17 : Ref sig .tc := ⟨.hbm, 278, rfl⟩
abbrev main_call16_v0 : Ref sig .tc := ⟨.hbm, 279, rfl⟩
abbrev main_call16_v1 : Ref sig .tc := ⟨.hbm, 280, rfl⟩
abbrev main_call16_v2 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩

abbrev nD : Nat := 1
abbrev τ : Topo := Topo.v7x

variable {F : FTy → Type} [FloatOps F]
-- ==== Kernel2.lean ====
abbrev S65536x1024 : Shape := ⟨2, ![65536, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩

abbrev nBuf : Space → Nat
  | .hbm => 7
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S65536x1024 : Shape := ⟨2, ![65536, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S65536x2816 : Shape := ⟨2, ![65536, 2816]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S1024x2816, .f32⟩
  | .hbm, ⟨22, _⟩ => ⟨S1024x2816, .f32⟩
  | .hbm, ⟨23, _⟩ => ⟨S2816x1024, .f32⟩
  | .hbm, ⟨24, _⟩ => ⟨S65536x2816, .f32⟩
  | .hbm, ⟨25, _⟩ => ⟨S65536x2816, .f32⟩
  | .hbm, ⟨26, _⟩ => ⟨S65536x2816, .f32⟩
  | .hbm, ⟨27, _⟩ => ⟨S_, .f32⟩
  | .hbm, ⟨28, _⟩ => ⟨S65536x2816, .f32⟩
  | .hbm, ⟨29, _⟩ => ⟨S65536x2816, .f32⟩
  | .hbm, ⟨30, _⟩ => ⟨S_, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S65536x2816, .f32⟩
  | .hbm, ⟨36, _⟩ => ⟨S65536x1024, .f32⟩
  | .hbm, ⟨37, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S65536x1024 : Shape := ⟨2, ![65536, 1024]⟩
abbrev S1x1024 : Shape := ⟨2, ![1, 1024]⟩
abbrev S1024x2560 : Shape := ⟨2, ![1024, 2560]⟩
abbrev S65536x2560 : Shape := ⟨2, ![65536, 2560]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x2560, .bf16⟩
  | .hbm, ⟨3, _⟩ => ⟨S65536x2560, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2560, .f32⟩
  | .local _ .vmem, ⟨5, _⟩ => ⟨S1024x2560, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S65536x1024 : Shape := ⟨2, ![65536, 1024]⟩
abbrev S1x1024 : Shape := ⟨2, ![1, 1024]⟩
abbrev S1024x2560 : Shape := ⟨2, ![1024, 2560]⟩
abbrev S_ : Shape := ⟨0, ![]⟩
abbrev S65536 : Shape := ⟨1, ![65536]⟩
abbrev S65536x1 : Shape := ⟨2, ![65536, 1]⟩
abbrev S65536x2560 : Shape := ⟨2, ![65536, 2560]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x2560, .bf16⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S1024x2560, .f32⟩
  | .hbm, ⟨19, _⟩ => ⟨S65536x2560, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S65536x1024 : Shape := ⟨2, ![65536, 1024]⟩
abbrev S1x1024 : Shape := ⟨2, ![1, 1024]⟩
abbrev S1024x4096 : Shape := ⟨2, ![1024, 4096]⟩
abbrev S65536x256 : Shape := ⟨2, ![65536, 256]⟩
abbrev S65536x2560 : Shape := ⟨2, ![65536, 2560]⟩
abbrev S3x256 : Shape := ⟨2, ![3, 256]⟩
abbrev S4x64x64 : Shape := ⟨3, ![4, 64, 64]⟩
abbrev S1x256 : Shape := ⟨2, ![1, 256]⟩
abbrev S1024x1024 : Shape := ⟨2, ![1024, 1024]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1024x256 : Shape := ⟨2, ![1024, 256]⟩
abbrev S16x256 : Shape := ⟨2, ![16, 256]⟩
abbrev S1040x256 : Shape := ⟨2, ![1040, 256]⟩
abbrev S1024 : Shape := ⟨1, ![1024]⟩
abbrev S1024x1 : Shape := ⟨2, ![1024, 1]⟩
abbrev S256x1024 : Shape := ⟨2, ![256, 1024]⟩
abbrev S1039x256 : Shape := ⟨2, ![1039, 256]⟩
abbrev S1037x256 : Shape := ⟨2, ![1037, 256]⟩
abbrev S1033x256 : Shape := ⟨2, ![1033, 256]⟩
abbrev S1025x256 : Shape := ⟨2, ![1025, 256]⟩

abbrev nBuf : Space → Nat
  | .hbm => 26
  | .vmem => 31
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x4096, .bf16⟩
  | .hbm, ⟨3, _⟩ => ⟨S65536x256, .bf16⟩
  | .hbm, ⟨4, _⟩ => ⟨S65536x256, .bf16⟩
  | .hbm, ⟨5, _⟩ => ⟨S65536x2560, .f32⟩
  | .hbm, ⟨6, _⟩ => ⟨S3x256, .f32⟩
  | .hbm, ⟨7, _⟩ => ⟨S4x64x64, .f32⟩
  | .hbm, ⟨8, _⟩ => ⟨S1x256, .f32⟩
  | .hbm, ⟨9, _⟩ => ⟨S1024x1024, .bf16⟩
  | .hbm, ⟨10, _⟩ => ⟨S1024x1024, .bf16⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S4x1x4x1, .f32⟩
  | .hbm, ⟨19, _⟩ => ⟨S4x64x1x64, .f32⟩
  | .hbm, ⟨20, _⟩ => ⟨S4x64x4x64, .f32⟩
  | .hbm, ⟨21, _⟩ => ⟨S4x64x4x64, .f32⟩
  | .hbm, ⟨22, _⟩ => ⟨S4x64x4x64, .f32⟩
  | .hbm, ⟨23, _⟩ => ⟨S256x256, .f32⟩
  | .hbm, ⟨24, _⟩ => ⟨S256x256, .bf16⟩
  | .hbm, ⟨25, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S16x256, .f32⟩
  | .local _ .vmem, ⟨17, _⟩ => ⟨S16x256, .f32⟩
  | .local _ .vmem, ⟨18, _⟩ => ⟨S16x256, .f32⟩
  | .local _ .vmem, ⟨19, _⟩ => ⟨S16x256, .f32⟩
  | .local _ .vmem, ⟨20, _⟩ => ⟨S16x256, .f32⟩
  | .local _ .vmem, ⟨21, _⟩ => ⟨S16x256, .f32⟩
  | .local _ .vmem, ⟨22, _⟩ => ⟨S3x256, .f32⟩
  | .local _ .vmem, ⟨23, _⟩ => ⟨S256x256, .bf16⟩
  | .local _ .vmem, ⟨24, _⟩ => ⟨S1x256, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .f32⟩
  | .local _ .vmem, ⟨28, _⟩ => ⟨S1024x1024, .f32⟩
  | .local _ .vmem, ⟨29, _⟩ => ⟨S1040x256, .f32⟩
  | .local _ .vmem, ⟨30, _⟩ => ⟨S1040x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_10 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_11 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S65536x1024 : Shape := ⟨2, ![65536, 1024]⟩
abbrev S1x1024 : Shape := ⟨2, ![1, 1024]⟩
abbrev S1024x4096 : Shape := ⟨2, ![1024, 4096]⟩
abbrev S65536x256 : Shape := ⟨2, ![65536, 256]⟩
abbrev S65536x2560 : Shape := ⟨2, ![65536, 2560]⟩
abbrev S3x256 : Shape := ⟨2, ![3, 256]⟩
abbrev S4x64x64 : Shape := ⟨3, ![4, 64, 64]⟩
abbrev S1x256 : Shape := ⟨2, ![1, 256]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S32x2048x2560 : Shape := ⟨3, ![32, 2048, 2560]⟩
abbrev S32x2048x256 : Shape := ⟨3, ![32, 2048, 256]⟩
abbrev S32x2050x256 : Shape := ⟨3, ![32, 2050, 256]⟩
abbrev S256 : Shape := ⟨1, ![256]⟩
abbrev S1x1x256 : Shape := ⟨3, ![1, 1, 256]⟩
abbrev S32x2048x4x64 : Shape := ⟨4, ![32, 2048, 4, 64]⟩
abbrev S32x2048x1x64 : Shape := ⟨4, ![32, 2048, 1, 64]⟩
abbrev S32x2048x64 : Shape := ⟨3, ![32, 2048, 64]⟩
abbrev S32x2049x64 : Shape := ⟨3, ![32, 2049, 64]⟩
abbrev S2048 : Shape := ⟨1, ![2048]⟩
abbrev S1x2048x1 : Shape := ⟨3, ![1, 2048, 1]⟩
abbrev S32x2050x64 : Shape := ⟨3, ![32, 2050, 64]⟩
abbrev S32x2051x64 : Shape := ⟨3, ![32, 2051, 64]⟩
abbrev S32x2052x64 : Shape := ⟨3, ![32, 2052, 64]⟩
abbrev S32x2053x64 : Shape := ⟨3, ![32, 2053, 64]⟩
abbrev S32x2054x64 : Shape := ⟨3, ![32, 2054, 64]⟩
abbrev S32x2055x64 : Shape := ⟨3, ![32, 2055, 64]⟩
abbrev S32x2056x64 : Shape := ⟨3, ![32, 2056, 64]⟩
abbrev S32x2057x64 : Shape := ⟨3, ![32, 2057, 64]⟩
abbrev S32x2058x64 : Shape := ⟨3, ![32, 2058, 64]⟩
abbrev S32x2059x64 : Shape := ⟨3, ![32, 2059, 64]⟩
abbrev S32x2060x64 : Shape := ⟨3, ![32, 2060, 64]⟩
abbrev S32x2061x64 : Shape := ⟨3, ![32, 2061, 64]⟩
abbrev S32x2062x64 : Shape := ⟨3, ![32, 2062, 64]⟩
abbrev S32x2063x64 : Shape := ⟨3, ![32, 2063, 64]⟩
abbrev S4x64x32x2048 : Shape := ⟨4, ![4, 64, 32, 2048]⟩
abbrev S65536x4096 : Shape := ⟨2, ![65536, 4096]⟩
abbrev S65536x4x1024 : Shape := ⟨3, ![65536, 4, 1024]⟩
abbrev S4x256x1024 : Shape := ⟨3, ![4, 256, 1024]⟩
abbrev S65536x1x1024 : Shape := ⟨3, ![65536, 1, 1024]⟩
abbrev S1x256x1024 : Shape := ⟨3, ![1, 256, 1024]⟩
abbrev S256x1024 : Shape := ⟨2, ![256, 1024]⟩

abbrev nBuf : Space → Nat
  | .hbm => 299
  | .vmem => 0
  | .smem => 0
  | _ => 0

abbrev hbmTy0_0 (i : Nat) : BufTy := match i % 128 with
  | 0 => ⟨S65536x1024, .f32⟩
  | 1 => ⟨S1x1024, .f32⟩
  | 2 => ⟨S1024x4096, .bf16⟩
  | 3 => ⟨S65536x256, .bf16⟩
  | 4 => ⟨S65536x256, .bf16⟩
  | 5 => ⟨S65536x2560, .f32⟩
  | 6 => ⟨S3x256, .f32⟩
  | 7 => ⟨S4x64x64, .f32⟩
  | 8 => ⟨S1x256, .f32⟩
  | 9 => ⟨S1024x1024, .bf16⟩
  | 10 => ⟨S1024x1024, .bf16⟩
  | 11 => ⟨S65536x1024, .f32⟩
  | 12 => ⟨S_, .f32⟩
  | 13 => ⟨S65536, .f32⟩
  | 14 => ⟨S65536x1, .f32⟩
  | 15 => ⟨S_, .f32⟩
  | 16 => ⟨S65536x1, .f32⟩
  | 17 => ⟨S65536x1, .f32⟩
  | 18 => ⟨S_, .f32⟩
  | 19 => ⟨S65536x1, .f32⟩
  | 20 => ⟨S65536x1, .f32⟩
  | 21 => ⟨S65536x1, .f32⟩
  | 22 => ⟨S65536x1024, .f32⟩
  | 23 => ⟨S65536x1024, .f32⟩
  | 24 => ⟨S65536x1024, .f32⟩
  | 25 => ⟨S65536x1024, .f32⟩
  | 26 => ⟨S32x2048x2560, .f32⟩
  | 27 => ⟨S32x2048x256, .f32⟩
  | 28 => ⟨S32x2048x256, .f32⟩
  | 29 => ⟨S32x2048x256, .f32⟩
  | 30 => ⟨S32x2048x256, .f32⟩
  | 31 => ⟨S32x2048x256, .f32⟩
  | 32 => ⟨S_, .i32⟩
  | 33 => ⟨S_, .f32⟩
  | 34 => ⟨S32x2050x256, .f32⟩
  | 35 => ⟨S1x256, .f32⟩
  | 36 => ⟨S256, .f32⟩
  | 37 => ⟨S32x2048x256, .f32⟩
  | 38 => ⟨S1x1x256, .f32⟩
  | 39 => ⟨S32x2048x256, .f32⟩
  | 40 => ⟨S32x2048x256, .f32⟩
  | 41 => ⟨S1x256, .f32⟩
  | 42 => ⟨S256, .f32⟩
  | 43 => ⟨S32x2048x256, .f32⟩
  | 44 => ⟨S1x1x256, .f32⟩
  | 45 => ⟨S32x2048x256, .f32⟩
  | 46 => ⟨S32x2048x256, .f32⟩
  | 47 => ⟨S32x2048x256, .f32⟩
  | 48 => ⟨S1x256, .f32⟩
  | 49 => ⟨S256, .f32⟩
  | 50 => ⟨S32x2048x256, .f32⟩
  | 51 => ⟨S1x1x256, .f32⟩
  | 52 => ⟨S32x2048x256, .f32⟩
  | 53 => ⟨S32x2048x256, .f32⟩
  | 54 => ⟨S32x2048x256, .f32⟩
  | 55 => ⟨S32x2048x256, .f32⟩
  | 56 => ⟨S65536x256, .f32⟩
  | 57 => ⟨S256, .f32⟩
  | 58 => ⟨S32x2048x4x64, .f32⟩
  | 59 => ⟨S32x2048x1x64, .f32⟩
  | 60 => ⟨S32x2048x64, .f32⟩
  | 61 => ⟨S_, .i32⟩
  | 62 => ⟨S_, .f32⟩
  | 63 => ⟨S32x2049x64, .f32⟩
  | 64 => ⟨S32x2048x64, .f32⟩
  | 65 => ⟨S32x2048x64, .f32⟩
  | 66 => ⟨S2048, .i32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S2048, .f32⟩
  | 74 => ⟨S1x2048x1, .f32⟩
  | 75 => ⟨S32x2048x64, .f32⟩
  | 76 => ⟨S32x2048x64, .f32⟩
  | 77 => ⟨S32x2048x1x64, .f32⟩
  | 78 => ⟨S32x2048x64, .f32⟩
  | 79 => ⟨S_, .i32⟩
  | 80 => ⟨S_, .f32⟩
  | 81 => ⟨S32x2049x64, .f32⟩
  | 82 => ⟨S32x2048x64, .f32⟩
  | 83 => ⟨S32x2048x64, .f32⟩
  | 84 => ⟨S_, .i32⟩
  | 85 => ⟨S_, .f32⟩
  | 86 => ⟨S32x2050x64, .f32⟩
  | 87 => ⟨S32x2048x64, .f32⟩
  | 88 => ⟨S32x2048x64, .f32⟩
  | 89 => ⟨S_, .i32⟩
  | 90 => ⟨S_, .f32⟩
  | 91 => ⟨S32x2051x64, .f32⟩
  | 92 => ⟨S32x2048x64, .f32⟩
  | 93 => ⟨S32x2048x64, .f32⟩
  | 94 => ⟨S2048, .i32⟩
  | 95 => ⟨S_, .i32⟩
  | 96 => ⟨S2048, .i32⟩
  | 97 => ⟨S2048, .i32⟩
  | 98 => ⟨S_, .i32⟩
  | 99 => ⟨S2048, .i32⟩
  | 100 => ⟨S2048, .i32⟩
  | 101 => ⟨S2048, .f32⟩
  | 102 => ⟨S1x2048x1, .f32⟩
  | 103 => ⟨S32x2048x64, .f32⟩
  | 104 => ⟨S32x2048x64, .f32⟩
  | 105 => ⟨S32x2048x1x64, .f32⟩
  | 106 => ⟨S32x2048x64, .f32⟩
  | 107 => ⟨S_, .i32⟩
  | 108 => ⟨S_, .f32⟩
  | 109 => ⟨S32x2049x64, .f32⟩
  | 110 => ⟨S32x2048x64, .f32⟩
  | 111 => ⟨S32x2048x64, .f32⟩
  | 112 => ⟨S_, .i32⟩
  | 113 => ⟨S_, .f32⟩
  | 114 => ⟨S32x2050x64, .f32⟩
  | 115 => ⟨S32x2048x64, .f32⟩
  | 116 => ⟨S32x2048x64, .f32⟩
  | 117 => ⟨S_, .i32⟩
  | 118 => ⟨S_, .f32⟩
  | 119 => ⟨S32x2051x64, .f32⟩
  | 120 => ⟨S32x2048x64, .f32⟩
  | 121 => ⟨S32x2048x64, .f32⟩
  | 122 => ⟨S_, .i32⟩
  | 123 => ⟨S_, .f32⟩
  | 124 => ⟨S32x2052x64, .f32⟩
  | 125 => ⟨S32x2048x64, .f32⟩
  | 126 => ⟨S32x2048x64, .f32⟩
  | 127 => ⟨S_, .i32⟩
  | _ => ⟨S65536x1024, .f32⟩

abbrev hbmTy0_1 (i : Nat) : BufTy := match i % 128 with
  | 0 => ⟨S_, .f32⟩
  | 1 => ⟨S32x2053x64, .f32⟩
  | 2 => ⟨S32x2048x64, .f32⟩
  | 3 => ⟨S32x2048x64, .f32⟩
  | 4 => ⟨S_, .i32⟩
  | 5 => ⟨S_, .f32⟩
  | 6 => ⟨S32x2054x64, .f32⟩
  | 7 => ⟨S32x2048x64, .f32⟩
  | 8 => ⟨S32x2048x64, .f32⟩
  | 9 => ⟨S_, .i32⟩
  | 10 => ⟨S_, .f32⟩
  | 11 => ⟨S32x2055x64, .f32⟩
  | 12 => ⟨S32x2048x64, .f32⟩
  | 13 => ⟨S32x2048x64, .f32⟩
  | 14 => ⟨S2048, .i32⟩
  | 15 => ⟨S_, .i32⟩
  | 16 => ⟨S2048, .i32⟩
  | 17 => ⟨S2048, .i32⟩
  | 18 => ⟨S_, .i32⟩
  | 19 => ⟨S2048, .i32⟩
  | 20 => ⟨S2048, .i32⟩
  | 21 => ⟨S2048, .f32⟩
  | 22 => ⟨S1x2048x1, .f32⟩
  | 23 => ⟨S32x2048x64, .f32⟩
  | 24 => ⟨S32x2048x64, .f32⟩
  | 25 => ⟨S32x2048x1x64, .f32⟩
  | 26 => ⟨S32x2048x64, .f32⟩
  | 27 => ⟨S_, .i32⟩
  | 28 => ⟨S_, .f32⟩
  | 29 => ⟨S32x2049x64, .f32⟩
  | 30 => ⟨S32x2048x64, .f32⟩
  | 31 => ⟨S32x2048x64, .f32⟩
  | 32 => ⟨S_, .i32⟩
  | 33 => ⟨S_, .f32⟩
  | 34 => ⟨S32x2050x64, .f32⟩
  | 35 => ⟨S32x2048x64, .f32⟩
  | 36 => ⟨S32x2048x64, .f32⟩
  | 37 => ⟨S_, .i32⟩
  | 38 => ⟨S_, .f32⟩
  | 39 => ⟨S32x2051x64, .f32⟩
  | 40 => ⟨S32x2048x64, .f32⟩
  | 41 => ⟨S32x2048x64, .f32⟩
  | 42 => ⟨S_, .i32⟩
  | 43 => ⟨S_, .f32⟩
  | 44 => ⟨S32x2052x64, .f32⟩
  | 45 => ⟨S32x2048x64, .f32⟩
  | 46 => ⟨S32x2048x64, .f32⟩
  | 47 => ⟨S_, .i32⟩
  | 48 => ⟨S_, .f32⟩
  | 49 => ⟨S32x2053x64, .f32⟩
  | 50 => ⟨S32x2048x64, .f32⟩
  | 51 => ⟨S32x2048x64, .f32⟩
  | 52 => ⟨S_, .i32⟩
  | 53 => ⟨S_, .f32⟩
  | 54 => ⟨S32x2054x64, .f32⟩
  | 55 => ⟨S32x2048x64, .f32⟩
  | 56 => ⟨S32x2048x64, .f32⟩
  | 57 => ⟨S_, .i32⟩
  | 58 => ⟨S_, .f32⟩
  | 59 => ⟨S32x2055x64, .f32⟩
  | 60 => ⟨S32x2048x64, .f32⟩
  | 61 => ⟨S32x2048x64, .f32⟩
  | 62 => ⟨S_, .i32⟩
  | 63 => ⟨S_, .f32⟩
  | 64 => ⟨S32x2056x64, .f32⟩
  | 65 => ⟨S32x2048x64, .f32⟩
  | 66 => ⟨S32x2048x64, .f32⟩
  | 67 => ⟨S_, .i32⟩
  | 68 => ⟨S_, .f32⟩
  | 69 => ⟨S32x2057x64, .f32⟩
  | 70 => ⟨S32x2048x64, .f32⟩
  | 71 => ⟨S32x2048x64, .f32⟩
  | 72 => ⟨S_, .i32⟩
  | 73 => ⟨S_, .f32⟩
  | 74 => ⟨S32x2058x64, .f32⟩
  | 75 => ⟨S32x2048x64, .f32⟩
  | 76 => ⟨S32x2048x64, .f32⟩
  | 77 => ⟨S_, .i32⟩
  | 78 => ⟨S_, .f32⟩
  | 79 => ⟨S32x2059x64, .f32⟩
  | 80 => ⟨S32x2048x64, .f32⟩
  | 81 => ⟨S32x2048x64, .f32⟩
  | 82 => ⟨S_, .i32⟩
  | 83 => ⟨S_, .f32⟩
  | 84 => ⟨S32x2060x64, .f32⟩
  | 85 => ⟨S32x2048x64, .f32⟩
  | 86 => ⟨S32x2048x64, .f32⟩
  | 87 => ⟨S_, .i32⟩
  | 88 => ⟨S_, .f32⟩
  | 89 => ⟨S32x2061x64, .f32⟩
  | 90 => ⟨S32x2048x64, .f32⟩
  | 91 => ⟨S32x2048x64, .f32⟩
  | 92 => ⟨S_, .i32⟩
  | 93 => ⟨S_, .f32⟩
  | 94 => ⟨S32x2062x64, .f32⟩
  | 95 => ⟨S32x2048x64, .f32⟩
  | 96 => ⟨S32x2048x64, .f32⟩
  | 97 => ⟨S_, .i32⟩
  | 98 => ⟨S_, .f32⟩
  | 99 => ⟨S32x2063x64, .f32⟩
  | 100 => ⟨S32x2048x64, .f32⟩
  | 101 => ⟨S32x2048x64, .f32⟩
  | 102 => ⟨S2048, .i32⟩
  | 103 => ⟨S_, .i32⟩
  | 104 => ⟨S2048, .i32⟩
  | 105 => ⟨S2048, .i32⟩
  | 106 => ⟨S_, .i32⟩
  | 107 => ⟨S2048, .i32⟩
  | 108 => ⟨S2048, .i32⟩
  | 109 => ⟨S2048, .f32⟩
  | 110 => ⟨S1x2048x1, .f32⟩
  | 111 => ⟨S32x2048x64, .f32⟩
  | 112 => ⟨S32x2048x64, .f32⟩
  | 113 => ⟨S32x2048x1x64, .f32⟩
  | 114 => ⟨S32x2048x1x64, .f32⟩
  | 115 => ⟨S32x2048x1x64, .f32⟩
  | 116 => ⟨S32x2048x1x64, .f32⟩
  | 117 => ⟨S32x2048x4x64, .f32⟩
  | 118 => ⟨S32x2048x4x64, .f32⟩
  | 119 => ⟨S4x64x32x2048, .f32⟩
  | 120 => ⟨S32x2048x4x64, .f32⟩
  | 121 => ⟨S32x2048x256, .f32⟩
  | 122 => ⟨S1x1x256, .f32⟩
  | 123 => ⟨S32x2048x256, .f32⟩
  | 124 => ⟨S32x2048x256, .f32⟩
  | 125 => ⟨S65536x256, .f32⟩
  | 126 => ⟨S1024x4096, .f32⟩
  | 127 => ⟨S65536x4096, .f32⟩
  | _ => ⟨S65536x1024, .f32⟩

abbrev hbmTy0_2 (i : Nat) : BufTy := match i % 128 with
  | 0 => ⟨S65536x4x1024, .f32⟩
  | 1 => ⟨S65536x4x1024, .f32⟩
  | 2 => ⟨S65536x4x1024, .f32⟩
  | 3 => ⟨S_, .f32⟩
  | 4 => ⟨S65536x4x1024, .f32⟩
  | 5 => ⟨S65536x4x1024, .f32⟩
  | 6 => ⟨S_, .f32⟩
  | 7 => ⟨S65536x4x1024, .f32⟩
  | 8 => ⟨S65536x4x1024, .f32⟩
  | 9 => ⟨S1024x1024, .f32⟩
  | 10 => ⟨S4x256x1024, .f32⟩
  | 11 => ⟨S65536x1x1024, .f32⟩
  | 12 => ⟨S65536x1024, .f32⟩
  | 13 => ⟨S65536x256, .f32⟩
  | 14 => ⟨S1x256x1024, .f32⟩
  | 15 => ⟨S256x1024, .f32⟩
  | 16 => ⟨S65536x1024, .f32⟩
  | 17 => ⟨S65536x1024, .f32⟩
  | 18 => ⟨S65536x1x1024, .f32⟩
  | 19 => ⟨S65536x1024, .f32⟩
  | 20 => ⟨S1x256x1024, .f32⟩
  | 21 => ⟨S256x1024, .f32⟩
  | 22 => ⟨S65536x1024, .f32⟩
  | 23 => ⟨S65536x1024, .f32⟩
  | 24 => ⟨S65536x1024, .f32⟩
  | 25 => ⟨S65536x1x1024, .f32⟩
  | 26 => ⟨S65536x1024, .f32⟩
  | 27 => ⟨S1x256x1024, .f32⟩
  | 28 => ⟨S256x1024, .f32⟩
  | 29 => ⟨S65536x1024, .f32⟩
  | 30 => ⟨S65536x1024, .f32⟩
  | 31 => ⟨S65536x1024, .f32⟩
  | 32 => ⟨S65536x1x1024, .f32⟩
  | 33 => ⟨S65536x1024, .f32⟩
  | 34 => ⟨S65536x256, .f32⟩
  | 35 => ⟨S1x256x1024, .f32⟩
  | 36 => ⟨S256x1024, .f32⟩
  | 37 => ⟨S65536x1024, .f32⟩
  | 38 => ⟨S65536x1024, .f32⟩
  | 39 => ⟨S65536x1024, .f32⟩
  | 40 => ⟨S1024x1024, .f32⟩
  | 41 => ⟨S65536x1024, .f32⟩
  | 42 => ⟨S65536x1024, .f32⟩
  | _ => ⟨S65536x1024, .f32⟩

abbrev hbmTy (i : Nat) : BufTy := match i / 128 with
  | 0 => hbmTy0_0 i
  | 1 => hbmTy0_1 i
  | 2 => hbmTy0_2 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_2 : Ref sig .tc := ⟨.hbm, 61, rfl⟩
abbrev main_call1_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_3 : Ref sig .tc := ⟨.hbm, 67, rfl⟩
abbrev main_v49 : Ref sig .tc := ⟨.hbm, 68, rfl⟩
abbrev main_v50 : Ref sig .tc := ⟨.hbm, 69, rfl⟩
abbrev main_c_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_5 : Ref sig .tc := ⟨.hbm, 79, rfl⟩
abbrev main_call2_v0 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_6 : Ref sig .tc := ⟨.hbm, 84, rfl⟩
abbrev main_call3_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_7 : Ref sig .tc := ⟨.hbm, 89, rfl⟩
abbrev main_call4_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_8 : Ref sig .tc := ⟨.hbm, 95, rfl⟩
abbrev main_v69 : Ref sig .tc := ⟨.hbm, 96, rfl⟩
abbrev main_v70 : Ref sig .tc := ⟨.hbm, 97, rfl⟩
abbrev main_c_9 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_10 : Ref sig .tc := ⟨.hbm, 107, rfl⟩
abbrev main_call5_v0 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_11 : Ref sig .tc := ⟨.hbm, 112, rfl⟩
abbrev main_call6_v0 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_12 : Ref sig .tc := ⟨.hbm, 117, rfl⟩
abbrev main_call7_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_13 : Ref sig .tc := ⟨.hbm, 122, rfl⟩
abbrev main_call8_v0 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_14 : Ref sig .tc := ⟨.hbm, 127, rfl⟩
abbrev main_call9_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_c_15 : Ref sig .tc := ⟨.hbm, 132, rfl⟩
abbrev main_call10_v0 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_16 : Ref sig .tc := ⟨.hbm, 137, rfl⟩
abbrev main_call11_v0 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c_17 : Ref sig .tc := ⟨.hbm, 143, rfl⟩
abbrev main_v101 : Ref sig .tc := ⟨.hbm, 144, rfl⟩
abbrev main_v102 : Ref sig .tc := ⟨.hbm, 145, rfl⟩
abbrev main_c_18 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_19 : Ref sig .tc := ⟨.hbm, 155, rfl⟩
abbrev main_call12_v0 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_20 : Ref sig .tc := ⟨.hbm, 160, rfl⟩
abbrev main_call13_v0 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_c_21 : Ref sig .tc := ⟨.hbm, 165, rfl⟩
abbrev main_call14_v0 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_c_22 : Ref sig .tc := ⟨.hbm, 170, rfl⟩
abbrev main_call15_v0 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_c_23 : Ref sig .tc := ⟨.hbm, 175, rfl⟩
abbrev main_call16_v0 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_c_24 : Ref sig .tc := ⟨.hbm, 180, rfl⟩
abbrev main_call17_v0 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_c_25 : Ref sig .tc := ⟨.hbm, 185, rfl⟩
abbrev main_call18_v0 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_c_26 : Ref sig .tc := ⟨.hbm, 190, rfl⟩
abbrev main_call19_v0 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_c_27 : Ref sig .tc := ⟨.hbm, 195, rfl⟩
abbrev main_call20_v0 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_c_28 : Ref sig .tc := ⟨.hbm, 200, rfl⟩
abbrev main_call21_v0 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_c_29 : Ref sig .tc := ⟨.hbm, 205, rfl⟩
abbrev main_call22_v0 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_c_30 : Ref sig .tc := ⟨.hbm, 210, rfl⟩
abbrev main_call23_v0 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_c_31 : Ref sig .tc := ⟨.hbm, 215, rfl⟩
abbrev main_call24_v0 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_c_32 : Ref sig .tc := ⟨.hbm, 220, rfl⟩
abbrev main_call25_v0 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_c_33 : Ref sig .tc := ⟨.hbm, 225, rfl⟩
abbrev main_call26_v0 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_c_34 : Ref sig .tc := ⟨.hbm, 231, rfl⟩
abbrev main_v157 : Ref sig .tc := ⟨.hbm, 232, rfl⟩
abbrev main_v158 : Ref sig .tc := ⟨.hbm, 233, rfl⟩
abbrev main_c_35 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_36 : Ref sig .tc := ⟨.hbm, 259, rfl⟩
abbrev main_v183 : Ref sig .tc := ⟨.hbm, 260, rfl⟩
abbrev main_v184 : Ref sig .tc := ⟨.hbm, 261, rfl⟩
abbrev main_cst_37 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩

abbrev nD : Nat := 1
abbrev τ : Topo := Topo.v7x

variable {F : FTy → Type} [FloatOps F]
-- ==== Kernel5.lean ====
abbrev S65536x1024 : Shape := ⟨2, ![65536, 1024]⟩
abbrev S131072x512 : Shape := ⟨2, ![131072, 512]⟩
abbrev S65536x8 : Shape := ⟨2, ![65536, 8]⟩
abbrev S1x1024 : Shape := ⟨2, ![1, 1024]⟩
abbrev S512x1024 : Shape := ⟨2, ![512, 1024]⟩
abbrev S512x512 : Shape := ⟨2, ![512, 512]⟩
abbrev S512x8 : Shape := ⟨2, ![512, 8]⟩
abbrev S512x1 : Shape := ⟨2, ![512, 1]⟩
abbrev S512 : Shape := ⟨1, ![512]⟩

abbrev nBuf : Space → Nat
  | .hbm => 5
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S131072x512, .i32⟩
  | .hbm, ⟨2, _⟩ => ⟨S65536x8, .f32⟩
  | .hbm, ⟨3, _⟩ => ⟨S1x1024, .f32⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x8, .f32⟩
  | .local _ .vmem, ⟨7, _⟩ => ⟨S512x8, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S65536x1024 : Shape := ⟨2, ![65536, 1024]⟩
abbrev S131072x512 : Shape := ⟨2, ![131072, 512]⟩
abbrev S65536x8 : Shape := ⟨2, ![65536, 8]⟩
abbrev S1x1024 : Shape := ⟨2, ![1, 1024]⟩
abbrev S_ : Shape := ⟨0, ![]⟩
abbrev S131072x1024 : Shape := ⟨2, ![131072, 1024]⟩
abbrev S65536x1 : Shape := ⟨2, ![65536, 1]⟩
abbrev S65536 : Shape := ⟨1, ![65536]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S131072x512, .i32⟩
  | .hbm, ⟨2, _⟩ => ⟨S65536x8, .f32⟩
  | .hbm, ⟨3, _⟩ => ⟨S1x1024, .f32⟩
  | .hbm, ⟨4, _⟩ => ⟨S_, .i32⟩
  | .hbm, ⟨5, _⟩ => ⟨S131072x512, .i32⟩
  | .hbm, ⟨6, _⟩ => ⟨S131072x512, .i32⟩
  | .hbm, ⟨7, _⟩ => ⟨S131072x512, .f32⟩
  | .hbm, ⟨8, _⟩ => ⟨S_, .i32⟩
  | .hbm, ⟨9, _⟩ => ⟨S131072x512, .i32⟩
  | .hbm, ⟨10, _⟩ => ⟨S131072x512, .i32⟩
  | .hbm, ⟨11, _⟩ => ⟨S131072x512, .f32⟩
  | .hbm, ⟨12, _⟩ => ⟨S131072x1024, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel6.lean ====
abbrev S32x8 : Shape := ⟨2, ![32, 8]⟩
abbrev S2x256x256 : Shape := ⟨3, ![2, 256, 256]⟩
abbrev S8x2x256x256 : Shape := ⟨4, ![8, 2, 256, 256]⟩
abbrev S1x2x256x256 : Shape := ⟨4, ![1, 2, 256, 256]⟩
abbrev S1x1 : Shape := ⟨2, ![1, 1]⟩

abbrev nBuf : Space → Nat
  | .hbm => 3
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S2x256x256, .i32⟩
  | .hbm, ⟨2, _⟩ => ⟨S8x2x256x256, .f32⟩
  | .local _ .vmem, ⟨0, _⟩ => ⟨S2x256x256, .i32⟩
  | .local _ .vmem, ⟨1, _⟩ => ⟨S1x2x256x256, .f32⟩
  | .local _ .vmem, ⟨2, _⟩ => ⟨S1x2x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_2 : Index := 0#32
  let arg0 : BitVec 32 := BitVec.ofNat 32 (i 0).val
  let v4 : Index := Scalar.indexCast arg0
  ![0, v4.toNat]
def k0_off2 (i : grid0.Coords) : Fin 2 → Nat :=
  let c1 : Index := 1#32
  let arg0 : BitVec 32 := BitVec.ofNat 32 (i 0).val
  let v10 : Index := Scalar.indexCast arg0
  ![1, v10.toNat]
def k0_off3 (i : grid0.Coords) : Fin 2 → Nat :=
  let c2 : Index := 2#32
  let arg0 : BitVec 32 := BitVec.ofNat 32 (i 0).val
  let v16 : Index := Scalar.indexCast arg0
  ![2, v16.toNat]
def k0_off4 (i : grid0.Coords) : Fin 2 → Nat :=
  let c3 : Index := 3#32
  let arg0 : BitVec 32 := BitVec.ofNat 32 (i 0).val
  let v22 : Index := Scalar.indexCast arg0
  ![3, v22.toNat]
def k0_off5 (i : grid0.Coords) : Fin 2 → Nat :=
  let c4 : Index := 4#32
  let arg0 : BitVec 32 := BitVec.ofNat 32 (i 0).val
  let v28 : Index := Scalar.indexCast arg0
  ![4, v28.toNat]
def k0_off6 (i : grid0.Coords) : Fin 2 → Nat :=
  let c5 : Index := 5#32
  let arg0 : BitVec 32 := BitVec.ofNat 32 (i 0).val
  let v34 : Index := Scalar.indexCast arg0
  ![5, v34.toNat]
def k0_off7 (i : grid0.Coords) : Fin 2 → Nat :=
  let c6 : Index := 6#32
  let arg0 : BitVec 32 := BitVec.ofNat 32 (i 0).val
  let v40 : Index := Scalar.indexCast arg0
  ![6, v40.toNat]
def k0_off8 (i : grid0.Coords) : Fin 2 → Nat :=
  let c7 : Index := 7#32
  let arg0 : BitVec 32 := BitVec.ofNat 32 (i 0).val
  let v46 : Index := Scalar.indexCast arg0
  ![7, v46.toNat]
def k0_off9 (i : grid0.Coords) : Fin 2 → Nat :=
  let c8 : Index := 8#32
  let arg0 : BitVec 32 := BitVec.ofNat 32 (i 0).val
  let v52 : Index := Scalar.indexCast arg0
  ![8, v52.toNat]
def k0_off10 (i : grid0.Coords) : Fin 2 → Nat :=
  let c9 : Index := 9#32
  let arg0 : BitVec 32 := BitVec.ofNat 32 (i 0).val
  let v58 : Index := Scalar.indexCast arg0
  ![9, v58.toNat]
def k0_off11 (i : grid0.Coords) : Fin 2 → Nat :=
  let c10 : Index := 10#32
  let arg0 : BitVec 32 := BitVec.ofNat 32 (i 0).val
  let v64 : Index := Scalar.indexCast arg0
  ![10, v64.toNat]
def k0_off12 (i : grid0.Coords) : Fin 2 → Nat :=
  let c11 : Index := 11#32
  let arg0 : BitVec 32 := BitVec.ofNat 32 (i 0).val
  let v70 : Index := Scalar.indexCast arg0
  ![11, v70.toNat]
def k0_off13 (i : grid0.Coords) : Fin 2 → Nat :=
  let c12 : Index := 12#32
  let arg0 : BitVec 32 := BitVec.ofNat 32 (i 0).val
  let v76 : Index := Scalar.indexCast arg0
  ![12, v76.toNat]
def k0_off14 (i : grid0.Coords) : Fin 2 → Nat :=
  let c13 : Index := 13#32
  let arg0 : BitVec 32 := BitVec.ofNat 32 (i 0).val
  let v82 : Index := Scalar.indexCast arg0
  ![13, v82.toNat]
def k0_off15 (i : grid0.Coords) : Fin 2 → Nat :=
  let c14 : Index := 14#32
  let arg0 : BitVec 32 := BitVec.ofNat 32 (i 0).val
  let v88 : Index := Scalar.indexCast arg0
  ![14, v88.toNat]
def k0_off16 (i : grid0.Coords) : Fin 2 → Nat :=
  let c15 : Index := 15#32
  let arg0 : BitVec 32 := BitVec.ofNat 32 (i 0).val
  let v94 : Index := Scalar.indexCast arg0
  ![15, v94.toNat]
def k0_off17 (i : grid0.Coords) : Fin 2 → Nat :=
  let c16 : Index := 16#32
  let arg0 : BitVec 32 := BitVec.ofNat 32 (i 0).val
  let v100 : Index := Scalar.indexCast arg0
  ![16, v100.toNat]
def k0_off18 (i : grid0.Coords) : Fin 2 → Nat :=
  let c17 : Index := 17#32
  let arg0 : BitVec 32 := BitVec.ofNat 32 (i 0).val
  let v106 : Index := Scalar.indexCast arg0
  ![17, v106.toNat]
def k0_off19 (i : grid0.Coords) : Fin 2 → Nat :=
  let c18 : Index := 18#32
  let arg0 : BitVec 32 := BitVec.ofNat 32 (i 0).val
  let v112 : Index := Scalar.indexCast arg0
  ![18, v112.toNat]
def k0_off20 (i : grid0.Coords) : Fin 2 → Nat :=
  let c19 : Index := 19#32
  let arg0 : BitVec 32 := BitVec.ofNat 32 (i 0).val
  let v118 : Index := Scalar.indexCast arg0
  ![19, v118.toNat]
def k0_off21 (i : grid0.Coords) : Fin 2 → Nat :=
  let c20 : Index := 20#32
  let arg0 : BitVec 32 := BitVec.ofNat 32 (i 0).val
  let v124 : Index := Scalar.indexCast arg0
  ![20, v124.toNat]
def k0_off22 (i : grid0.Coords) : Fin 2 → Nat :=
  let c21 : Index := 21#32
  let arg0 : BitVec 32 := BitVec.ofNat 32 (i 0).val
  let v130 : Index := Scalar.indexCast arg0
  ![21, v130.toNat]
def k0_off23 (i : grid0.Coords) : Fin 2 → Nat :=
  let c22 : Index := 22#32
  let arg0 : BitVec 32 := BitVec.ofNat 32 (i 0).val
  let v136 : Index := Scalar.indexCast arg0
  ![22, v136.toNat]
def k0_off24 (i : grid0.Coords) : Fin 2 → Nat :=
  let c23 : Index := 23#32
  let arg0 : BitVec 32 := BitVec.ofNat 32 (i 0).val
  let v142 : Index := Scalar.indexCast arg0
  ![23, v142.toNat]
def k0_off25 (i : grid0.Coords) : Fin 2 → Nat :=
  let c24 : Index := 24#32
  let arg0 : BitVec 32 := BitVec.ofNat 32 (i 0).val
  let v148 : Index := Scalar.indexCast arg0
  ![24, v148.toNat]
def k0_off26 (i : grid0.Coords) : Fin 2 → Nat :=
  let c25 : Index := 25#32
  let arg0 : BitVec 32 := BitVec.ofNat 32 (i 0).val
  let v154 : Index := Scalar.indexCast arg0
  ![25, v154.toNat]
def k0_off27 (i : grid0.Coords) : Fin 2 → Nat :=
  let c26 : Index := 26#32
  let arg0 : BitVec 32 := BitVec.ofNat 32 (i 0).val
  let v160 : Index := Scalar.indexCast arg0
  ![26, v160.toNat]
def k0_off28 (i : grid0.Coords) : Fin 2 → Nat :=
  let c27 : Index := 27#32
  let arg0 : BitVec 32 := BitVec.ofNat 32 (i 0).val
  let v166 : Index := Scalar.indexCast arg0
  ![27, v166.toNat]
def k0_off29 (i : grid0.Coords) : Fin 2 → Nat :=
  let c28 : Index := 28#32
  let arg0 : BitVec 32 := BitVec.ofNat 32 (i 0).val
  let v172 : Index := Scalar.indexCast arg0
  ![28, v172.toNat]
def k0_off30 (i : grid0.Coords) : Fin 2 → Nat :=
  let c29 : Index := 29#32
  let arg0 : BitVec 32 := BitVec.ofNat 32 (i 0).val
  let v178 : Index := Scalar.indexCast arg0
  ![29, v178.toNat]
def k0_off31 (i : grid0.Coords) : Fin 2 → Nat :=
  let c30 : Index := 30#32
  let arg0 : BitVec 32 := BitVec.ofNat 32 (i 0).val
  let v184 : Index := Scalar.indexCast arg0
  ![30, v184.toNat]
def k0_off32 (i : grid0.Coords) : Fin 2 → Nat :=
  let c31 : Index := 31#32
  let arg0 : BitVec 32 := BitVec.ofNat 32 (i 0).val
  let v190 : Index := Scalar.indexCast arg0
  ![31, v190.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x256x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S32x8 : Shape := ⟨2, ![32, 8]⟩
abbrev S2x256x256 : Shape := ⟨3, ![2, 256, 256]⟩
abbrev S8x32 : Shape := ⟨2, ![8, 32]⟩
abbrev S_ : Shape := ⟨0, ![]⟩
abbrev S2x256x256x1 : Shape := ⟨4, ![2, 256, 256, 1]⟩
abbrev S8x2x256x256 : Shape := ⟨4, ![8, 2, 256, 256]⟩
abbrev S1x8 : Shape := ⟨2, ![1, 8]⟩
abbrev S8 : Shape := ⟨1, ![8]⟩
abbrev S8x1x1x1 : Shape := ⟨4, ![8, 1, 1, 1]⟩

abbrev nBuf : Space → Nat
  | .hbm => 20
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S2x256x256, .i32⟩
  | .hbm, ⟨2, _⟩ => ⟨S8x32, .f32⟩
  | .hbm, ⟨3, _⟩ => ⟨S_, .i32⟩
  | .hbm, ⟨4, _⟩ => ⟨S2x256x256, .i32⟩
  | .hbm, ⟨5, _⟩ => ⟨S2x256x256, .i1⟩
  | .hbm, ⟨6, _⟩ => ⟨S_, .i32⟩
  | .hbm, ⟨7, _⟩ => ⟨S2x256x256, .i32⟩
  | .hbm, ⟨8, _⟩ => ⟨S2x256x256, .i32⟩
  | .hbm, ⟨9, _⟩ => ⟨S2x256x256, .i32⟩
  | .hbm, ⟨10, _⟩ => ⟨S2x256x256x1, .i32⟩
  | .hbm, ⟨11, _⟩ => ⟨S8x2x256x256, .f32⟩
  | .hbm, ⟨12, _⟩ => ⟨S1x8, .f32⟩
  | .hbm, ⟨13, _⟩ => ⟨S8, .f32⟩
  | .hbm, ⟨14, _⟩ => ⟨S8x1x1x1, .f32⟩
  | .hbm, ⟨15, _⟩ => ⟨S8x2x256x256, .f32⟩
  | .hbm, ⟨16, _⟩ => ⟨S8x2x256x256, .f32⟩
  | .hbm, ⟨17, _⟩ => ⟨S_, .f32⟩
  | .hbm, ⟨18, _⟩ => ⟨S8x2x256x256, .f32⟩
  | .hbm, ⟨19, _⟩ => ⟨S8x2x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Items.lean ====
/- The work items of the routed experts, over the natural numbers.

   The 131072 routed rows lie sorted by expert: expert `e` owns the rows from `ends (e - 1)` to `ends e`. They are
   worked through in 263 items: the 256 tiles of 512 rows, cut once more at each of the 7 boundaries between experts.
   Boundary `j` opens item `pos j`; every other item opens a tile. This file proves what the kernel needs of the
   items: they follow one another without a gap (`hi k = lo (k + 1)`), each lies in one tile, a tile's first item
   starts at the tile's first row, and all rows of an item belong to one expert. -/
module

public import Idealize.ShloMosaic.Lib.Routing.Words

@[expose] public section

namespace Cert.Items

/-- A count below `n` of a property that, once false, stays false: the numbers with the property are those below the count. -/
theorem lt_count_iff (P : ℕ → Prop) [DecidablePred P] (n : ℕ) (hP : ∀ i j, i ≤ j → j < n → P j → P i) {j : ℕ} (hj : j < n) :
    P j ↔ j < Nat.count P n := by
  induction n with
  | zero => omega
  | succ n ih =>
    rw [Nat.count_succ]
    by_cases h : P n
    · have hall : ∀ i, i < n + 1 → P i := fun i hi => hP i n (by omega) (by omega) h
      have hc : Nat.count P n = n := by
        rw [Nat.count_iff_forall]
        intro i hi; exact hall i (by omega)
      rw [if_pos h, hc]
      exact ⟨fun _ => hj, fun _ => hall j hj⟩
    · rw [if_neg h, Nat.add_zero]
      rcases Nat.lt_or_ge j n with h' | h'
      · exact ih (fun i k hik hk => hP i k hik (by omega)) h'
      · obtain rfl : j = n := by omega
        have : Nat.count P j ≤ j := Nat.count_le _
        exact ⟨fun hh => absurd hh h, fun hh => by omega⟩

variable (c : ℕ → ℕ)

/-- Where expert `j`'s rows end: the counts of the experts up to and with `j`. -/
def ends (j : ℕ) : ℕ := ((List.range (j + 1)).map c).sum

/-- The item that boundary `j` opens. -/
def pos (j : ℕ) : ℕ := j + min (ends c j / 512 + 1) 256

/-- How many boundaries open an item before item `k`. -/
def before (k : ℕ) : ℕ := Nat.count (fun j => pos c j < k) 7

/-- Item `k`'s first row. -/
def lo (k : ℕ) : ℕ :=
  if ∃ j < 7, pos c j = k then ∑ j : Fin 7, (if pos c j.val = k then ends c j.val else 0) else 512 * (k - before c k)

/-- The row after item `k`'s last. -/
def hi (k : ℕ) : ℕ := if k < 262 then lo c (k + 1) else 131072

/-- The tile that item `k` lies in. -/
def tile (k : ℕ) : ℕ := min (lo c k / 512) 255

/-- The expert that row `r` belongs to: how many experts end at or before it. -/
def owner (r : ℕ) : ℕ := Nat.count (fun e => ends c e ≤ r) 8

/-- The expert of item `k`. -/
def expert (k : ℕ) : ℕ := min (owner c (lo c k)) 7

theorem ends_succ (j : ℕ) : ends c (j + 1) = ends c j + c (j + 1) := by
  unfold ends
  rw [List.range_succ, List.map_append, List.sum_append]
  simp

theorem ends_mono {i j : ℕ} (h : i ≤ j) : ends c i ≤ ends c j := by
  induction j, h using Nat.le_induction with
  | base => exact le_rfl
  | succ n _ ih => rw [ends_succ]; omega

theorem pos_lt {i j : ℕ} (h : i < j) : pos c i < pos c j := by
  have := ends_mono c h.le
  unfold pos
  omega

theorem before_le (k : ℕ) : before c k ≤ 7 := Nat.count_le _

theorem before_iff (k : ℕ) {j : ℕ} (hj : j < 7) : pos c j < k ↔ j < before c k :=
  lt_count_iff (fun j => pos c j < k) 7 (fun i j hij _ h => by
    rcases Nat.eq_or_lt_of_le hij with rfl | h'
    · exact h
    · exact lt_trans (pos_lt c h') h) hj

/-- An item that a boundary opens starts at that boundary. -/
theorem lo_of_pos {j k : ℕ} (hj : j < 7) (h : pos c j = k) : lo c k = ends c j := by
  unfold lo
  rw [if_pos ⟨j, hj, h⟩, Finset.sum_eq_single (⟨j, hj⟩ : Fin 7)]
  · exact if_pos h
  · intro i _ hi
    refine if_neg fun h' => hi (Fin.ext ?_)
    rcases Nat.lt_trichotomy i.val j with hh | hh | hh
    · have := pos_lt c hh; omega
    · exact hh
    · have := pos_lt c hh; omega
  · intro h'; exact absurd (Finset.mem_univ _) h'

/-- Every other item starts at a tile. -/
theorem lo_of_not {k : ℕ} (h : ∀ j < 7, pos c j ≠ k) : lo c k = 512 * (k - before c k) := by
  unfold lo
  exact if_neg fun ⟨j, hj, e⟩ => h j hj e

/-- The two kinds of item. -/
theorem kinds (k : ℕ) : (before c k < 7 ∧ pos c (before c k) = k ∧ lo c k = ends c (before c k) ∧ before c (k + 1) = before c k + 1)
    ∨ ((∀ j < 7, pos c j ≠ k) ∧ lo c k = 512 * (k - before c k) ∧ before c (k + 1) = before c k) := by
  have hb := before_le c k
  have hb' := before_le c (k + 1)
  by_cases h : ∃ j < 7, pos c j = k
  · obtain ⟨j, hj, e⟩ := h
    have h1 : before c k = j := by
      have a := (before_iff c k hj).not.1 (by omega)
      by_contra hne
      have : pos c (before c k) < pos c j := pos_lt c (by omega)
      have := (before_iff c k (j := before c k) (by omega)).1 (by omega)
      omega
    have h2 : before c (k + 1) = j + 1 := by
      have a := (before_iff c (k + 1) hj).1 (by omega)
      by_contra hne
      have : pos c j < pos c (j + 1) := pos_lt c (by omega)
      have := (before_iff c (k + 1) (j := j + 1) (by omega)).2 (by omega)
      omega
    left
    rw [h1, h2]
    exact ⟨hj, e, lo_of_pos c hj e, rfl⟩
  · have h' : ∀ j < 7, pos c j ≠ k := fun j hj e => h ⟨j, hj, e⟩
    right
    refine ⟨h', lo_of_not c h', ?_⟩
    by_contra hne
    rcases Nat.lt_or_ge (before c k) (before c (k + 1)) with hlt | hge
    · have a := (before_iff c (k + 1) (j := before c k) (by omega)).2 hlt
      have b := (before_iff c k (j := before c k) (by omega)).not.2 (by omega)
      have := h' (before c k) (by omega)
      omega
    · have a := (before_iff c k (j := before c (k + 1)) (by omega)).2 (by omega)
      have b := (before_iff c (k + 1) (j := before c (k + 1)) (by omega)).not.2 (by omega)
      omega

variable (hc : ends c 7 = 131072)
include hc

theorem ends_le {j : ℕ} (h : j < 8) : ends c j ≤ 131072 := hc ▸ ends_mono c (by omega)

/-- Where an item lies: its tile is its number less the boundaries that opened an item up to it. -/
theorem tile_eq {k : ℕ} (hk : k < 263) : tile c k = k - before c (k + 1) ∧ 512 * tile c k ≤ lo c k ∧ tile c k ≤ 255
    ∧ before c (k + 1) ≤ k := by
  have hb := before_le c k
  unfold tile
  rcases kinds c k with ⟨h1, h2, h3, h4⟩ | ⟨h1, h3, h4⟩
  · rw [h3, h4]
    have := ends_le c hc (j := before c k) (by omega)
    unfold pos at h2
    omega
  · rw [h3, h4]
    have hs : before c k < 7 → k < before c k + 256 := fun h => by
      have a := (before_iff c k h).not.2 (by omega)
      have := h1 _ h
      have : pos c (before c k) ≤ before c k + 256 := by unfold pos; omega
      omega
    have hs' : 0 < before c k → before c k < k := fun h => by
      have a := (before_iff c k (j := before c k - 1) (by omega)).2 (by omega)
      unfold pos at a
      omega
    have := Nat.mul_div_cancel_left (k - before c k) (n := 512) (by omega)
    omega

/-- How an item ends: in its tile, and the next item lies in the same tile or opens the next one. -/
theorem hi_facts {k : ℕ} (hk : k < 263) : lo c k ≤ hi c k ∧ hi c k ≤ 512 * (tile c k + 1)
    ∧ (k < 262 → tile c (k + 1) = tile c k ∨ (tile c (k + 1) = tile c k + 1 ∧ hi c k = 512 * tile c (k + 1))) := by
  have hb := before_le c k
  have t0 := tile_eq c hc hk
  unfold hi
  split
  case isTrue hk' =>
    have t1 := tile_eq c hc (k := k + 1) (by omega)
    have hb' := before_le c (k + 1)
    rcases kinds c k with ⟨h1, h2, h3, h4⟩ | ⟨h1, h3, h4⟩ <;> rcases kinds c (k + 1) with ⟨g1, g2, g3, g4⟩ | ⟨g1, g3, g4⟩
    · have := ends_le c hc (j := before c (k + 1)) (by omega)
      have := ends_mono c (i := before c k) (j := before c (k + 1)) (by omega)
      rw [h3, g3]
      unfold pos at h2 g2
      omega
    · have := ends_le c hc (j := before c k) (by omega)
      rw [h3, g3]
      unfold pos at h2
      omega
    · have := ends_le c hc (j := before c (k + 1)) (by omega)
      rw [h3, g3]
      unfold pos at g2
      omega
    · rw [h3, g3]
      omega
  case isFalse hk' =>
    obtain rfl : k = 262 := by omega
    have hl : lo c 262 ≤ 131072 ∧ tile c 262 = 255 := by
      rcases kinds c 262 with ⟨h1, h2, h3, h4⟩ | ⟨h1, h3, h4⟩
      · have := ends_le c hc (j := before c 262) (by omega)
        unfold pos at h2
        omega
      · have : before c 262 = 7 := by
          by_contra hne
          have a := (before_iff c 262 (j := before c 262) (by omega)).not.2 (by omega)
          have := h1 (before c 262) (by omega)
          have : pos c (before c 262) ≤ before c 262 + 256 := by unfold pos; omega
          omega
        omega
    omega

/-- The items cover the rows from the first … -/
theorem first_item : lo c 0 = 0 ∧ tile c 0 = 0 := by
  have t := tile_eq c hc (k := 0) (by omega)
  have h : lo c 0 = 0 := by
    rw [lo_of_not c (fun j _ => by unfold pos; omega)]
    omega
  exact ⟨h, by omega⟩

/-- … to the last. -/
theorem last_item : hi c 262 = 131072 ∧ tile c 262 = 255 := by
  have h := hi_facts c hc (k := 262) (by omega)
  have t := tile_eq c hc (k := 262) (by omega)
  have e : hi c 262 = 131072 := if_neg (by omega)
  exact ⟨e, by omega⟩

/-- On which side of an item's start a boundary lies. -/
theorem side {k e : ℕ} (hk : k < 263) (he : e < 7) : (pos c e ≤ k → ends c e ≤ lo c k) ∧ (k ≤ pos c e → lo c k ≤ ends c e) := by
  have hb := before_le c k
  rcases kinds c k with ⟨h1, h2, h3, h4⟩ | ⟨h1, h3, h4⟩
  · constructor
    · intro h
      rw [h3]
      refine ends_mono c ?_
      by_contra hh
      have := pos_lt c (i := before c k) (j := e) (by omega)
      omega
    · intro h
      rw [h3]
      refine ends_mono c ?_
      by_contra hh
      have := pos_lt c (i := e) (j := before c k) (by omega)
      omega
  · have := h1 e he
    have := ends_le c hc (j := e) (by omega)
    constructor
    · intro h
      have a := (before_iff c k he).1 (by omega)
      have b := (before_iff c k (j := before c k - 1) (by omega)).2 (by omega)
      have := ends_mono c (i := e) (j := before c k - 1) (by omega)
      have := ends_le c hc (j := before c k - 1) (by omega)
      unfold pos at b
      omega
    · intro h
      have a := (before_iff c k he).not.1 (by omega)
      have b := (before_iff c k (j := before c k) (by omega)).not.2 (by omega)
      have d := h1 (before c k) (by omega)
      have := ends_mono c (i := before c k) (j := e) (by omega)
      unfold pos at b d
      omega

theorem owner_iff (r : ℕ) {e : ℕ} (he : e < 8) : ends c e ≤ r ↔ e < owner c r :=
  lt_count_iff (fun e => ends c e ≤ r) 8 (fun i j hij _ h => le_trans (ends_mono c hij) h) he

/-- All rows of an item belong to the item's expert. -/
theorem owner_eq {k r : ℕ} (hk : k < 263) (h0 : lo c k ≤ r) (h1 : r < hi c k) : owner c r = expert c k := by
  have hh := hi_facts c hc hk
  have tt := tile_eq c hc hk
  have h8 : ∀ s, s ≤ r → owner c s ≤ 7 := fun s hs => by
    have a := (owner_iff c hc s (e := 7) (by omega)).not.1 (by omega)
    omega
  have hcount : owner c r = owner c (lo c k) := by
    have b1 := h8 r le_rfl
    have b2 := h8 (lo c k) h0
    have key : ∀ e < 7, ends c e ≤ r → ends c e ≤ lo c k := fun e he h => by
      by_contra hn
      have a : ¬ pos c e ≤ k := fun a => hn ((side c hc hk he).1 a)
      have hk' : k < 262 := by
        have : pos c e ≤ e + 256 := by unfold pos; omega
        omega
      have b := (side c hc (k := k + 1) (by omega) he).2 (by omega)
      have : hi c k = lo c (k + 1) := if_pos hk'
      omega
    by_contra hne
    rcases Nat.lt_or_ge (owner c r) (owner c (lo c k)) with hlt | hge
    · have a := (owner_iff c hc (lo c k) (e := owner c r) (by omega)).2 hlt
      have b := (owner_iff c hc r (e := owner c r) (by omega)).not.2 (by omega)
      omega
    · have a := (owner_iff c hc r (e := owner c (lo c k)) (by omega)).2 (by omega)
      have b := (owner_iff c hc (lo c k) (e := owner c (lo c k)) (by omega)).not.2 (by omega)
      exact b (key _ (by omega) a)
  have b2 := h8 (lo c k) h0
  unfold expert
  omega

end Cert.Items
-- ==== Proof.ItemWords.lean ====
/- The work-item tables as the host computes them from the experts' row counts, in 32-bit words, and what the words hold:
   the naturals of Items.lean. -/
module

public import proofs.«01_k».proof.Proof.Items
public import Idealize.ShloMosaic.Lib.Pointwise.SelectCore
public import Idealize.ShloMosaic.Lib.PlanTiles.Rows

@[expose] public section

noncomputable section

namespace Cert.Items

open Idealize.ShloMosaic hiding ix0 ix1 ix2 ix3
open Idealize.ShloMosaic.ValueIdx Idealize.ShloMosaic.Routing Idealize.ShloMosaic.WordCmp

/-! ## Sums and disjunctions along the rows of a rectangle -/

/-- The index of a rectangle that lies over row `i` at column `q`. -/
theorem lift_row {n m : ℕ} (h : (shape2 n m).Reduces [1] (shape1 n)) (i : Fin n) (q : Fin m) : h.lift (ix1 i) q = ix2 i q := by
  funext a; apply Fin.ext
  fin_cases a <;> rfl

theorem fold_addi_ofNat {ι : Type} [DecidableEq ι] (S : Finset ι) (f : ι → BitVec 32) (g : ι → ℕ) (hf : ∀ i ∈ S, f i = BitVec.ofNat 32 (g i)) :
    S.fold IntOp.addi 0#32 f = BitVec.ofNat 32 (∑ i ∈ S, g i) := by
  induction S using Finset.cons_induction with
  | empty => rfl
  | cons a S ha ih =>
    rw [Finset.fold_cons, Finset.sum_cons, ih fun i hi => hf i (Finset.mem_cons_of_mem hi), hf a (Finset.mem_cons_self a S)]
    exact addi_ofNat _ _

theorem fold_ori_iff {ι : Type} [DecidableEq ι] (S : Finset ι) (f : ι → BitVec 1) : S.fold IntOp.ori 0#1 f = 1#1 ↔ ∃ i ∈ S, f i = 1#1 := by
  induction S using Finset.cons_induction with
  | empty => simp
  | cons a S ha ih =>
    rw [Finset.fold_cons]
    have e : ∀ x y : BitVec 1, IntOp.ori x y = 1#1 ↔ x = 1#1 ∨ y = 1#1 := by decide
    rw [e, ih]
    simp

theorem reduce_row_sum {n m : ℕ} (x : IVec (shape2 n m) 32) (h' : (shape2 n m).ReducesTo [1] (shape1 n)) (h : (shape2 n m).Reduces [1] (shape1 n))
    (hu : 0 < shape0.numel) (i : Fin n) (f : Fin m → ℕ) (hx : ∀ q, x (ix2 i q) = BitVec.ofNat 32 (f q)) :
    Host.reduce IntOp.addi x (constantI shape0 32 0#32) h' hu (ix1 i) = BitVec.ofNat 32 (∑ q, f q) := by
  rw [Host.reduce_eq_fold_single _ _ _ h' h]
  refine fold_addi_ofNat _ _ f fun q _ => ?_
  show x (h.lift (ix1 i) q) = _
  rw [lift_row h i q, hx]

theorem reduce_row_or {n m : ℕ} (x : IVec (shape2 n m) 1) (h' : (shape2 n m).ReducesTo [1] (shape1 n)) (h : (shape2 n m).Reduces [1] (shape1 n))
    (hu : 0 < shape0.numel) (i : Fin n) : Host.reduce IntOp.ori x (constantI shape0 1 0#1) h' hu (ix1 i) = 1#1 ↔ ∃ q, x (ix2 i q) = 1#1 := by
  rw [Host.reduce_eq_fold_single _ _ _ h' h]
  refine (fold_ori_iff _ _).trans ?_
  constructor
  · rintro ⟨q, _, hq⟩; exact ⟨q, by rw [← lift_row h i q]; exact hq⟩
  · rintro ⟨q, hq⟩; exact ⟨q, Finset.mem_univ _, by show x (h.lift (ix1 i) q) = _; rw [lift_row h i q]; exact hq⟩

/-! ## The shapes' facts -/

theorem pos0 : 0 < shape0.numel := by decide
theorem lt32 : (1 : ℕ) < 32 := by decide
theorem b00 : shape0.BroadcastsInDim shape0 (![] : Fin 0 → Fin shape0.rank) := by decide
theorem b01 : shape0.BroadcastsInDim (shape1 1) (![] : Fin 0 → Fin (shape1 1).rank) := by decide
theorem b07 : shape0.BroadcastsInDim (shape1 7) (![] : Fin 0 → Fin (shape1 7).rank) := by decide
theorem b0n : shape0.BroadcastsInDim (shape1 263) (![] : Fin 0 → Fin (shape1 263).rank) := by decide
theorem b0n7 : shape0.BroadcastsInDim (shape2 263 7) (![] : Fin 0 → Fin (shape2 263 7).rank) := by decide
theorem row7 : (shape1 7).BroadcastsInDim (shape2 1 7) (![1] : Fin 1 → Fin (shape2 1 7).rank) := by decide
theorem rows7 : (shape2 1 7).BroadcastsInDim (shape2 263 7) (![0, 1] : Fin 2 → Fin (shape2 263 7).rank) := by decide
theorem row8 : (shape1 8).BroadcastsInDim (shape2 1 8) (![1] : Fin 1 → Fin (shape2 1 8).rank) := by decide
theorem rows8 : (shape2 1 8).BroadcastsInDim (shape2 263 8) (![0, 1] : Fin 2 → Fin (shape2 263 8).rank) := by decide
theorem col : (shape1 263).BroadcastsInDim (shape2 263 1) (![0] : Fin 1 → Fin (shape2 263 1).rank) := by decide
theorem cols7 : (shape2 263 1).BroadcastsInDim (shape2 263 7) (![0, 1] : Fin 2 → Fin (shape2 263 7).rank) := by decide
theorem cols8 : (shape2 263 1).BroadcastsInDim (shape2 263 8) (![0, 1] : Fin 2 → Fin (shape2 263 8).rank) := by decide
theorem win8 : (shape1 8).ReduceWindows (![8] : Fin 1 → ℕ) ![1] ![7] ![0] (shape1 8) := by decide
theorem sl7 : (shape1 8).Slices ![1] (shape1 7) := by decide
theorem sl262 : (shape1 263).Slices ![1] (shape1 262) := by decide
theorem red7 : (shape2 263 7).ReducesTo [1] (shape1 263) := by decide
theorem red8 : (shape2 263 8).ReducesTo [1] (shape1 263) := by decide
theorem red7' : (shape2 263 7).Reduces [1] (shape1 263) := by decide
theorem cast263 : (shape2 263 1).ShapeCasts (shape1 263) := by decide
theorem cat263 : Shape.Concatenates [shape1 262, shape1 1] (shape1 263) 0 := by decide

/-! ## The tables -/

variable (x : IVec (shape1 8) 32)

def endsW : IVec (shape1 8) 32 :=
  Host.reduceWindow IntOp.addi ![8] ![1] ![7] ![0] x (broadcastInDim shape0 ![] b00 (constantI shape0 32 0#32)) win8 pos0
def startsW : IVec (shape1 7) 32 := extractStridedSlice (shape1 7) ![1] (subi (endsW x) x) sl7
def posW : IVec (shape1 7) 32 :=
  addi (iotaInDim (shape1 7) 32 0)
    (minsi (addi (pyDiv b07 (startsW x) (id (constantI shape0 32 512#32))) (broadcastInDim (shape1 7) ![] b07 (constantI shape0 32 1#32)))
      (broadcastInDim (shape1 7) ![] b07 (constantI shape0 32 256#32)))
def itemCol : IVec (shape2 263 1) 32 := broadcastInDim (shape2 263 1) ![0] col (iotaInDim (shape1 263) 32 0)
def itemGrid : IVec (shape2 263 7) 32 := broadcastInDim (shape2 263 7) ![0, 1] cols7 itemCol
def posGrid : IVec (shape2 263 7) 32 := broadcastInDim (shape2 263 7) ![0, 1] rows7 (broadcastInDim (shape2 1 7) ![1] row7 (posW x))
def beforeW : IVec (shape1 263) 32 :=
  Host.reduce IntOp.addi (extui 32 (cmpi .slt (posGrid x) itemGrid) lt32) (constantI shape0 32 0#32) red7 pos0
def opensW : IVec (shape1 263) 1 := Host.reduce IntOp.ori (cmpi .eq (posGrid x) itemGrid) (constantI shape0 1 0#1) red7 pos0
def startW : IVec (shape1 263) 32 :=
  Host.reduce IntOp.addi (select (cmpi .eq (posGrid x) itemGrid)
      (broadcastInDim (shape2 263 7) ![0, 1] rows7 (broadcastInDim (shape2 1 7) ![1] row7 (startsW x)))
      (broadcastInDim (shape2 263 7) ![] b0n7 (id (constantI shape0 32 0#32))))
    (constantI shape0 32 0#32) red7 pos0
def loW : IVec (shape1 263) 32 :=
  select (opensW x) (startW x)
    (muli (subi (shapeCast (shape1 263) itemCol cast263) (beforeW x)) (broadcastInDim (shape1 263) ![] b0n (constantI shape0 32 512#32)))
/-- 262 words and one more. -/
def join (a : IVec (shape1 262) 32) (b : IVec (shape1 1) 32) : IVec (shape1 263) 32 :=
  concatenate (shape1 263) 0 [⟨shape1 262, a⟩, ⟨shape1 1, b⟩] cat263
def hiW : IVec (shape1 263) 32 :=
  join (extractStridedSlice (shape1 262) ![1] (loW x) sl262) (broadcastInDim (shape1 1) ![] b01 (constantI shape0 32 131072#32))
def tileW : IVec (shape1 263) 32 :=
  minsi (pyDiv b0n (loW x) (id (constantI shape0 32 512#32))) (broadcastInDim (shape1 263) ![] b0n (constantI shape0 32 255#32))
def expertW : IVec (shape1 263) 32 :=
  minsi (Host.reduce IntOp.addi (extui 32 (cmpi .sle
        (broadcastInDim (shape2 263 8) ![0, 1] rows8 (broadcastInDim (shape2 1 8) ![1] row8 (endsW x)))
        (broadcastInDim (shape2 263 8) ![0, 1] cols8 (broadcastInDim (shape2 263 1) ![0] col (loW x)))) lt32)
      (constantI shape0 32 0#32) red8 pos0)
    (broadcastInDim (shape1 263) ![] b0n (constantI shape0 32 7#32))

/-! ## What they hold -/

variable {x} {c : ℕ → ℕ} (hx : ∀ i : Fin 8, x (ix1 i) = BitVec.ofNat 32 (c i.val)) (hc : ends c 7 = 131072)
include hx

theorem endsW_at (i : Fin 8) : endsW x (ix1 i) = BitVec.ofNat 32 (ends c i.val) :=
  cumsum1 rfl x c hx _ (bc0 _ _ _) _ _ i

theorem startsW_at (i : Fin 7) : startsW x (ix1 i) = BitVec.ofNat 32 (ends c i.val) := by
  unfold startsW
  rw [slice1 1 _ _ i (by omega), subi_ap, endsW_at hx, hx]
  show BitVec.ofNat 32 (ends c (1 + i.val)) - BitVec.ofNat 32 (c (1 + i.val)) = _
  have h := ends_succ c i.val
  rw [Nat.add_comm 1]
  rw [ofNat32_sub (by omega), h, Nat.add_sub_cancel]

include hc

theorem posW_at (i : Fin 7) : posW x (ix1 i) = BitVec.ofNat 32 (pos c i.val) := by
  have hi := ends_le c hc (j := i.val) (by omega)
  unfold posW
  rw [addi_ap, iota1_ap, minsi_apply, addi_ap, bc0, bc0, constantI_at, constantI_at,
    pyDiv_ap b07 _ _ _ (startsW_at hx i) (b := 512) rfl (by omega) (by decide) (by decide)]
  rw [show (1#32 : BitVec 32) = BitVec.ofNat 32 1 from rfl, show (256#32 : BitVec 32) = BitVec.ofNat 32 256 from rfl,
    BitVec.ofNat_add_ofNat, Idealize.ShloMosaic.PlanTiles.minsi_word (by omega) (by decide), BitVec.ofNat_add_ofNat]
  rw [Nat.min_comm]
  rfl

theorem itemCol_at (k : Fin 263) : itemCol (ix2 k (0 : Fin 1)) = BitVec.ofNat 32 k.val := by
  unfold itemCol
  rw [bcCol, iota1_ap]

theorem itemGrid_at (k : Fin 263) (q : Fin 7) : itemGrid (ix2 k q) = BitVec.ofNat 32 k.val := by
  unfold itemGrid itemCol
  rw [bcRows, iota1_ap]

theorem posGrid_at (k : Fin 263) (q : Fin 7) : posGrid x (ix2 k q) = BitVec.ofNat 32 (pos c q.val) := by
  unfold posGrid
  rw [bcCols, posW_at hx hc]

theorem pos_small (q : Fin 7) : pos c q.val < 2 ^ 31 := by
  unfold pos
  omega

theorem beforeW_at (k : Fin 263) : beforeW x (ix1 k) = BitVec.ofNat 32 (before c k.val) := by
  unfold beforeW
  refine reduce_count (by decide) _ _ _ _ k (fun q => pos c q < k.val) fun q => ?_
  rw [cmpi_at, posGrid_at hx hc, itemGrid_at hx hc]
  exact cmpi_slt_ofNat_eq_one_iff (w := 32) (pos_small hx hc q) (by omega)

theorem eqGrid_at (k : Fin 263) (q : Fin 7) : cmpi .eq (posGrid x) itemGrid (ix2 k q) = BitVec.ofBool (decide (pos c q.val = k.val)) := by
  rw [cmpi_at, posGrid_at hx hc, itemGrid_at hx hc]
  exact cmpi_eq_ofNat (w := 32) (by have := pos_small hx hc q; omega) (by omega)

theorem opensW_iff (k : Fin 263) : opensW x (ix1 k) = 1#1 ↔ ∃ j < 7, pos c j = k.val := by
  unfold opensW
  rw [reduce_row_or _ _ red7']
  constructor
  · rintro ⟨q, hq⟩
    rw [eqGrid_at hx hc, ofBool_decide_eq_one_iff] at hq
    exact ⟨q.val, q.isLt, hq⟩
  · rintro ⟨j, hj, e⟩
    refine ⟨⟨j, hj⟩, ?_⟩
    rw [eqGrid_at hx hc, ofBool_decide_eq_one_iff]
    exact e

theorem startW_at (k : Fin 263) : startW x (ix1 k) = BitVec.ofNat 32 (∑ j : Fin 7, if pos c j.val = k.val then ends c j.val else 0) := by
  unfold startW
  refine reduce_row_sum _ _ red7' _ k _ fun q => ?_
  rw [select_at, eqGrid_at hx hc, WordCmp.select_decide, bcCols, startsW_at hx, bc0]
  split <;> rfl

theorem loW_at (k : Fin 263) : loW x (ix1 k) = BitVec.ofNat 32 (lo c k.val) := by
  unfold loW
  rw [select_at, startW_at hx hc, muli_ap, subi_ap, bc0, constantI_at, beforeW_at hx hc,
    cast21 itemCol _ k (0 : Fin 1) k (by simp), itemCol_at hx hc]
  unfold lo
  by_cases h : ∃ j < 7, pos c j = k.val
  · rw [if_pos h, select_of_eq_one ((opensW_iff hx hc k).2 h)]
  · have h0 : opensW x (ix1 k) = 0#1 := by
      rcases BitVec.eq_zero_or_eq_one (opensW x (ix1 k)) with e | e
      · exact e
      · exact absurd ((opensW_iff hx hc k).1 e) h
    have hb : before c k.val ≤ k.val := by
      have t := tile_eq c hc k.isLt
      rcases kinds c k.val with ⟨h1, h2, _, _⟩ | ⟨_, _, h4⟩
      · exact absurd ⟨_, h1, h2⟩ h
      · omega
    rw [if_neg h, select_of_eq_zero h0, ofNat32_sub hb, show (512#32 : BitVec 32) = BitVec.ofNat 32 512 from rfl, BitVec.ofNat_mul_ofNat,
      Nat.mul_comm]

theorem lo_small (k : Fin 263) : lo c k.val ≤ 131072 := by
  have h := hi_facts c hc k.isLt
  have t := tile_eq c hc k.isLt
  omega

theorem hiW_at (k : Fin 263) : hiW x (ix1 k) = BitVec.ofNat 32 (hi c k.val) := by
  unfold hiW join
  rw [concatenate_pair_apply]
  unfold hi
  by_cases h : k.val < 262
  · refine Eq.trans (dif_pos (show _ < _ from h)) ?_
    rw [if_pos h]
    refine Eq.trans ?_ (loW_at hx hc ⟨k.val + 1, by omega⟩)
    refine Eq.trans ?_ ((slice1 1 (loW x) sl262 ⟨k.val, h⟩ (by show 1 + k.val < 263; omega)).trans
      (congrArg (fun j => loW x (ix1 j)) (Fin.ext (Nat.add_comm 1 k.val))))
    refine congrArg _ (funext fun a => ?_)
    match a with | ⟨0, _⟩ => rfl
  · refine Eq.trans (dif_neg (show ¬ _ < _ from h)) ?_
    rw [if_neg h]
    exact bc0 _ _ _

theorem tileW_at (k : Fin 263) : tileW x (ix1 k) = BitVec.ofNat 32 (tile c k.val) := by
  have hl := lo_small hx hc k
  unfold tileW
  rw [minsi_apply, bc0, constantI_at, pyDiv_ap b0n _ _ _ (loW_at hx hc k) (b := 512) rfl (by omega) (by decide) (by decide),
    show (255#32 : BitVec 32) = BitVec.ofNat 32 255 from rfl, Idealize.ShloMosaic.PlanTiles.minsi_word (by omega) (by decide), Nat.min_comm]
  rfl

theorem expertW_at (k : Fin 263) : expertW x (ix1 k) = BitVec.ofNat 32 (expert c k.val) := by
  have hl := lo_small hx hc k
  have ho : Host.reduce IntOp.addi (extui 32 (cmpi .sle
        (broadcastInDim (shape2 263 8) ![0, 1] rows8 (broadcastInDim (shape2 1 8) ![1] row8 (endsW x)))
        (broadcastInDim (shape2 263 8) ![0, 1] cols8 (broadcastInDim (shape2 263 1) ![0] col (loW x)))) lt32)
      (constantI shape0 32 0#32) red8 pos0 (ix1 k) = BitVec.ofNat 32 (owner c (lo c k.val)) := by
    refine reduce_count (by decide) _ _ _ _ k (fun e => ends c e ≤ lo c k.val) fun q => ?_
    rw [cmpi_at, bcCols, bcRows, endsW_at hx, loW_at hx hc]
    have := ends_le c hc q.isLt
    exact cmpi_sle_ofNat_eq_one_iff (w := 32) (by omega) (by omega)
  have hn : owner c (lo c k.val) ≤ 8 := Nat.count_le _
  unfold expertW
  rw [minsi_apply, bc0, constantI_at, ho,
    show (7#32 : BitVec 32) = BitVec.ofNat 32 7 from rfl, Idealize.ShloMosaic.PlanTiles.minsi_word (by omega) (by decide), Nat.min_comm]
  rfl

end Cert.Items
end
-- ==== Proof.Pre.lean ====
/- What the precondition says of the counts: eight naturals that sum to the number of rows. -/
module

public import proofs.«01_k».proof.Proof.Items
public import proofs.«01_k».proof.Proof.Gen.Pre_counts_split
public import Idealize.ShloMosaic.Lib.ReduceAll
public import Idealize.ShloMosaic.Lib.Pointwise.SelectCore
public import Idealize.ShloMosaic.Lib.StableHlo.Predicate
public import Idealize.ShloMosaic.Lib.Routing.Ops

@[expose] public section

namespace Cert.Items

open Idealize.ShloMosaic hiding ix0 ix1 ix2 ix3
open Idealize.ShloMosaic.ValueIdx Idealize.ShloMosaic.Routing Idealize.ShloMosaic.WordCmp

theorem andi_one (x y : BitVec 1) (h : IntOp.andi x y = 1#1) : x = 1#1 ∧ y = 1#1 := by revert x y; decide

/-- The words of the counts as naturals. -/
def countOf (x : IVec (shape1 8) 32) (i : ℕ) : ℕ := if h : i < 8 then (x (ix1 ⟨i, h⟩)).toNat else 0

theorem countOf_at (x : IVec (shape1 8) 32) (i : Fin 8) : x (ix1 i) = BitVec.ofNat 32 (countOf x i.val) := by
  unfold countOf
  rw [dif_pos i.isLt, BitVec.ofNat_toNat, BitVec.setWidth_eq]

/-- The precondition's words read back. -/
theorem counts_of_pre {F : FTy → Type} [FloatOps F] (x : IVec (shape1 8) 32) (a1 : IVec Cert.Pre_counts_split.S131072x512 32)
    (a2 a3 : FVec F Cert.Pre_counts_split.S8x1024x3584 .bf16) (a4 : FVec F Cert.Pre_counts_split.S8x3584x1024 .bf16)
    (h : Cert.Pre_counts_split.fn x a1 a2 a3 a4 = fun _ => 1#1) : ends (countOf x) 7 = 131072 := by
  have e := congrFun h ix0
  dsimp only [Cert.Pre_counts_split.fn] at e
  obtain ⟨h0, e⟩ := andi_one _ _ e
  obtain ⟨h1, h2⟩ := andi_one _ _ e
  have hs : Host.reduce IntOp.addi x (constantI shape0 32 0#32) Cert.Pre_counts_split.Facts.reducesTo_S8_S_d0 Cert.Pre_counts_split.Facts.h_S_ ix0
      = BitVec.ofNat 32 ((List.range 8).map (countOf x)).sum := reduce_sum x (countOf x) (countOf_at x) _ _
  have b : ∀ i : ℕ, countOf x i ≤ 131072 := by
    intro i
    unfold countOf
    split
    · rename_i hi
      have g0 := Host.reduce_andi_all _ _ _ _ _ h0 (ix1 ⟨i, hi⟩)
      have g1 := Host.reduce_andi_all _ _ _ _ _ h1 (ix1 ⟨i, hi⟩)
      have g0' : IntOp.cmpi .sge (x (ix1 ⟨i, hi⟩)) 0#32 = 1#1 := g0
      have g1' : IntOp.cmpi .sle (x (ix1 ⟨i, hi⟩)) 131072#32 = 1#1 := g1
      rw [cmpi_sge_zero, ofBool_decide_eq_one_iff] at g0'
      rw [cmpi_sle_of_lt g0' (by decide), ofBool_decide_eq_one_iff] at g1'
      exact g1'
    · exact Nat.zero_le _
  have h2' : Host.reduce IntOp.addi x (constantI shape0 32 0#32) Cert.Pre_counts_split.Facts.reducesTo_S8_S_d0 Cert.Pre_counts_split.Facts.h_S_ ix0
      = 131072#32 := StableHlo.Predicate.cmpi_eq_iff.mp h2
  rw [hs] at h2'
  have h3 := congrArg BitVec.toNat h2'
  have e7 : ends (countOf x) 7 = ((List.range 8).map (countOf x)).sum := rfl
  have hb : ((List.range 8).map (countOf x)).sum ≤ 8 * 131072 := by
    have := b 0; have := b 1; have := b 2; have := b 3; have := b 4; have := b 5; have := b 6; have := b 7
    simp only [show List.range 8 = [0, 1, 2, 3, 4, 5, 6, 7] from rfl, List.map_cons, List.map_nil, List.sum_cons, List.sum_nil]
    omega
  rw [e7]
  rw [BitVec.toNat_ofNat, Nat.mod_eq_of_lt (by omega)] at h3
  exact h3

end Cert.Items
-- ==== Proof.KernelIdeal.Host.lean ====
/- The host prefix of the routed experts' program and its tables: what the pallas_call is entered with. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host operations before the region -/

/-- The buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

set_option maxHeartbeats 800000 in
/-- The program up to the region: its host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered. -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- Every block that a table's words pick lies inside its array. -/
abbrev Ok : Prop := ok0 (F := F) (tbl m)
/-- The tables' contents with that condition, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S263 .i32 := Memref.whole main_v36
abbrev htbM0_0 : tbM0_0.IsWhole := Memref.isWhole_whole _
abbrev tbM0_1 : Memref sig .tc .smem S263 .i32 := Memref.whole main_v45
abbrev htbM0_1 : tbM0_1.IsWhole := Memref.isWhole_whole _
abbrev tbM0_2 : Memref sig .tc .smem S263 .i32 := Memref.whole main_v30
abbrev htbM0_2 : tbM0_2.IsWhole := Memref.isWhole_whole _
abbrev tbM0_3 : Memref sig .tc .smem S263 .i32 := Memref.whole main_v33
abbrev htbM0_3 : tbM0_3.IsWhole := Memref.isWhole_whole _

/-- A table's buffer as the body holds it: half of it, to be read only; the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = {(0 : Fin 4), 1, 2, 3} from by decide,
    bigSep_insert (by decide), bigSep_insert (by decide), bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The frame, from the launch -/

/-- A launch that leaves the arrays as its proof data say leaves the arguments as launched. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c))⟩) h

/-! ## The staging buffers -/

/-- Each window's current staging buffer at point `t`. -/
abbrev ms0_0 (hO : Ok m) (t : Fin (cfgM m hO).N) : Memref sig .tc .vmem S512x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x3584 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x3584 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3584x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.KernelIdeal.Hand

end
-- ==== Proof.KernelIdeal.Body.lean ====
/- The expert kernel's body: what one work item leaves in the output's staging buffer. -/
module

public import proofs.«01_k».proof.Proof.KernelIdeal.Host
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

/-- Columns `o … o + 511` of a 1 x 1024 x 3584 block, and rows `o … o + 511` of a 1 x 3584 x 1024 block. -/
abbrev cols (x : Vec F S1x1024x3584 .bf16) (o : ℕ) (h : ∀ a, (![0, 0, o] : Fin 3 → ℕ) a + S1x1024x512.size a ≤ S1x1024x3584.size a) :
    Vec F S1x1024x512 .bf16 := View.ld x (Rect.unit (s := S1x1024x3584) ![0, 0, o] S1x1024x512.size h)
abbrev rows (x : Vec F S1x3584x1024 .bf16) (o : ℕ) (h : ∀ a, (![0, o, 0] : Fin 3 → ℕ) a + S1x512x1024.size a ≤ S1x3584x1024.size a) :
    Vec F S1x512x1024 .bf16 := View.ld x (Rect.unit (s := S1x3584x1024) ![0, o, 0] S1x512x1024.size h)

/-- The sum of the first four chunks' products, of the rows `h` unpacked from `x0`. -/
def acc4 (x0 : Vec F S512x512 .i32) (x1 x2 : Vec F S1x1024x3584 .bf16) (x3 : Vec F S1x3584x1024 .bf16) : FVec F S512x1024 .f32 :=
  k0_pay7 (k0_pay3 x0)
    (k0_pay4 x0 (cols x1 0 inb_S1x1024x3584_S1x1024x512_0_0_0) (cols x2 0 inb_S1x1024x3584_S1x1024x512_0_0_0) (rows x3 0 inb_S1x3584x1024_S1x512x1024_0_0_0))
    (k0_pay5 (rows x3 512 inb_S1x3584x1024_S1x512x1024_0_512_0))
    (k0_pay6 x0 (cols x1 512 inb_S1x1024x3584_S1x1024x512_0_0_512) (cols x2 512 inb_S1x1024x3584_S1x1024x512_0_0_512))
    (cols x1 1024 inb_S1x1024x3584_S1x1024x512_0_0_1024) (cols x2 1024 inb_S1x1024x3584_S1x1024x512_0_0_1024) (rows x3 1024 inb_S1x3584x1024_S1x512x1024_0_1024_0)
    (cols x1 1536 inb_S1x1024x3584_S1x1024x512_0_0_1536) (cols x2 1536 inb_S1x1024x3584_S1x1024x512_0_0_1536) (rows x3 1536 inb_S1x3584x1024_S1x512x1024_0_1536_0)

/-- The sum of the first six. -/
def acc6 (x0 : Vec F S512x512 .i32) (x1 x2 : Vec F S1x1024x3584 .bf16) (x3 : Vec F S1x3584x1024 .bf16) : FVec F S512x1024 .f32 :=
  k0_pay8 (k0_pay3 x0) (acc4 x0 x1 x2 x3)
    (cols x1 2048 inb_S1x1024x3584_S1x1024x512_0_0_2048) (cols x2 2048 inb_S1x1024x3584_S1x1024x512_0_0_2048) (rows x3 2048 inb_S1x3584x1024_S1x512x1024_0_2048_0)
    (cols x1 2560 inb_S1x1024x3584_S1x1024x512_0_0_2560) (cols x2 2560 inb_S1x1024x3584_S1x1024x512_0_0_2560) (rows x3 2560 inb_S1x3584x1024_S1x512x1024_0_2560_0)

/-- The tile's rows through one expert: all seven chunks, rounded. -/
def mlp (x0 : Vec F S512x512 .i32) (x1 x2 : Vec F S1x1024x3584 .bf16) (x3 : Vec F S1x3584x1024 .bf16) : FVec F S512x1024 .bf16 :=
  k0_pay1 (k0_pay3 x0) (acc6 x0 x1 x2 x3) (k0_pay9 (cols x1 3072 inb_S1x1024x3584_S1x1024x512_0_0_3072)) (k0_pay10 (cols x2 3072 inb_S1x1024x3584_S1x1024x512_0_0_3072))
    (rows x3 3072 inb_S1x3584x1024_S1x512x1024_0_3072_0)

/-- The same laid over `y` from row `lo - 512 * tile` on. -/
def mlpOver (lo tile : BitVec 32) (x0 : Vec F S512x512 .i32) (x1 x2 : Vec F S1x1024x3584 .bf16) (x3 : Vec F S1x3584x1024 .bf16) (y : Vec F S512x1024 .bf16) :
    FVec F S512x1024 .bf16 :=
  k0_pay2 lo (k0_pay3 x0) (acc6 x0 x1 x2 x3) (k0_pay9 (cols x1 3072 inb_S1x1024x3584_S1x1024x512_0_0_3072)) (k0_pay10 (cols x2 3072 inb_S1x1024x3584_S1x1024x512_0_0_3072))
    (rows x3 3072 inb_S1x3584x1024_S1x512x1024_0_3072_0) tile y

/-- A table's word at a grid point. -/
def word (x : Vec F S263 .i32) (i : grid0.Coords) : BitVec 32 := x ((Rect.unit (s := S263) (k0_off1 i) S1.size (k0_off1_inb i)).idx (Shape.Idx.first (numel1_S1.symm ▸ Nat.one_pos)))

/-- What a work item leaves of a buffer holding `y`: nothing new if it has no rows; the tile's rows whole if it begins the tile,
    and laid over `y` from its first row on if it begins within the tile. -/
def step (lo hi tile : BitVec 32) (x0 : Vec F S512x512 .i32) (x1 x2 : Vec F S1x1024x3584 .bf16) (x3 : Vec F S1x3584x1024 .bf16) (y : Vec F S512x1024 .bf16) :
    FVec F S512x1024 .bf16 :=
  if k0_cond1 lo hi = 1#1 then
    if k0_cond3 lo tile = 1#1 then
      mlpOver lo tile x0 x1 x2 x3 (if k0_cond2 lo tile = 1#1 then mlp x0 x1 x2 x3 else y)
    else if k0_cond2 lo tile = 1#1 then mlp x0 x1 x2 x3 else y
  else y

set_option maxHeartbeats 1000000 in
theorem run (c : Dev nD) (i : grid0.Coords) (arg5 : Memref sig .tc .vmem S512x512 .i32) (harg5 : arg5.IsWhole) (arg6 : Memref sig .tc .vmem S1x1024x3584 .bf16) (harg6 : arg6.IsWhole) (arg7 : Memref sig .tc .vmem S1x1024x3584 .bf16) (harg7 : arg7.IsWhole) (arg8 : Memref sig .tc .vmem S1x3584x1024 .bf16) (harg8 : arg8.IsWhole) (arg9 : Memref sig .tc .vmem S512x1024 .bf16) (harg9 : arg9.IsWhole)
    (x0 : Vec F S512x512 .i32) (x1 : Vec F S1x1024x3584 .bf16) (x2 : Vec F S1x1024x3584 .bf16) (x3 : Vec F S1x3584x1024 .bf16) (y : Vec F S512x1024 .bf16) (xt0 : TbBuf0 (F := F) c tbM0_0) (xt1 : TbBuf0 (F := F) c tbM0_1) (xt2 : TbBuf0 (F := F) c tbM0_2) (xt3 : TbBuf0 (F := F) c tbM0_3) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare y ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (step (word xt2 i) (word xt3 i) (word xt0 i) x0 x1 x2 x3 y) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_ffn i tbM0_0 htbM0_0 tbM0_1 htbM0_1 tbM0_2 htbM0_2 tbM0_3 htbM0_3 arg5 harg5 arg6 harg6 arg7 harg7 arg8 harg8 arg9 harg9) K := by
    intro E K
    simp only [cc0_expert_ffn_eq_skeleton, k0_part1_eq_skeleton, k0_part2_eq_skeleton, k0_part3_eq_skeleton]; unfold cc0_expert_ffn_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      have hw2 : run.sl.r c i xt2 = word xt2 i := rfl
      have hw3 : run.sl.r_1 c i xt3 = word xt3 i := rfl
      have hw0 : run.sl.r_11 c i xt0 = word xt0 i := rfl
      have h2 : run.sl.r_2 c arg5 harg5 x0 = k0_pay3 x0 := by
        unfold run.sl.r_2
        rw [View.readAt_full, harg5.read_unread]
      have h8 : run.sl.r_8 c arg5 harg5 arg6 harg6 arg7 harg7 arg8 harg8 x0 x1 x2 x3 = acc6 x0 x1 x2 x3 := by
        unfold run.sl.r_8 run.sl.r_7 run.sl.r_6 run.sl.r_5 run.sl.r_4 run.sl.r_3
        rw [h2]
        rw [View.readAt_full, harg5.read_unread]
        unfold acc6 acc4
        conv_rhs => rw [← hf1, ← hf2, ← hf3]
        rfl
      have h9 : run.sl.r_9 c arg6 harg6 x1 = k0_pay9 (cols x1 3072 inb_S1x1024x3584_S1x1024x512_0_0_3072) := by
        unfold run.sl.r_9
        rw [View.readAt_eq_ld, harg6.read_unread]
      have h10 : run.sl.r_10 c arg7 harg7 x2 = k0_pay10 (cols x2 3072 inb_S1x1024x3584_S1x1024x512_0_0_3072) := by
        unfold run.sl.r_10
        rw [View.readAt_eq_ld, harg7.read_unread]
      have hv : run.sl.v127 c i arg5 harg5 arg6 harg6 arg7 harg7 arg8 harg8 arg9 harg9 x0 x1 x2 x3 y xt0 xt2
          = if k0_cond2 (word xt2 i) (word xt0 i) = 1#1 then mlp x0 x1 x2 x3 else y := by
        unfold run.sl.v127
        rw [View.readAt_full, hw2, hw0, h2, h8, h9, h10, View.readAt_eq_ld, harg8.read_unread]
        split
        · exact View.read_writes_full _ _ _ _ _
        · exact harg9.read_unread _
      rw [hw2, hw3, hw0, hv, h2, h8, h9, h10, View.readAt_eq_ld, harg8.read_unread]
      unfold step
      split
      · split
        · exact View.read_writes_full _ _ _ _ _
        · split
          · exact View.read_writes_full _ _ _ _ _
          · exact harg9.read_unread _
      · exact harg9.read_unread _
    isplitl [HT0]; · iexact HT0
    isplitl [HT1]; · iexact HT1
    isplitl [HT2]; · iexact HT2
    iexact HT3
end Cert.KernelIdeal.Hand
end
-- ==== Proof.KernelIdeal.Frame.lean ====
/- The expert kernel's launch: what the pipeline's output buffer holds from item to item, and the frame. -/
module

public import proofs.«01_k».proof.Proof.KernelIdeal.Body
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline: an input's buffer is left as found; the output's is stepped by the work item (`step`). -/
def rdat (hO : Ok m) (c : Dev nD) : Pipeline.RDat τ (Elt F) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = step (word (tbl m 2) (grid0.coords t)) (word (tbl m 3) (grid0.coords t)) (word (tbl m 0) (grid0.coords t))
        (iblk m hO c 0 t) (iblk m hO c 1 t) (iblk m hO c 2 t) (iblk m hO c 3 t) Y
  Φ _ := iprop(Pipeline.ΦA spec0 c ∗ Pipeline.ΦT pre0 (tbl m) c)
  q _ := fullShare
  owed _ := 0

theorem A_eq (hO : Ok m) (c : Dev nD) (w : Fin (cfgM m hO).W) : (rdat m hO c).A w = V m c (Pipeline.arrRef spec0 w) := by
  dsimp only [rdat]

/-- An input's buffer holds its block at every point. -/
theorem finds_0 (hO : Ok m) (c : Dev nD) (t : Fin (cfgM m hO).N) (Y) (h : (rdat m hO c).Finds 0 t Y) : Y = iblk m hO c 0 t := by
  obtain ⟨d, rfl⟩ := (rdat m hO c).finds_in_eq_fetched 0 rfl (fun _ _ _ => rfl) (fun _ _ _ h => h) t Y h
  unfold Pipeline.RDat.fetched Pipeline.RDat.blockOf iblk; rw [A_eq]; rfl
theorem finds_1 (hO : Ok m) (c : Dev nD) (t : Fin (cfgM m hO).N) (Y) (h : (rdat m hO c).Finds 1 t Y) : Y = iblk m hO c 1 t := by
  obtain ⟨d, rfl⟩ := (rdat m hO c).finds_in_eq_fetched 1 rfl (fun _ _ _ => rfl) (fun _ _ _ h => h) t Y h
  unfold Pipeline.RDat.fetched Pipeline.RDat.blockOf iblk; rw [A_eq]; rfl
theorem finds_2 (hO : Ok m) (c : Dev nD) (t : Fin (cfgM m hO).N) (Y) (h : (rdat m hO c).Finds 2 t Y) : Y = iblk m hO c 2 t := by
  obtain ⟨d, rfl⟩ := (rdat m hO c).finds_in_eq_fetched 2 rfl (fun _ _ _ => rfl) (fun _ _ _ h => h) t Y h
  unfold Pipeline.RDat.fetched Pipeline.RDat.blockOf iblk; rw [A_eq]; rfl
theorem finds_3 (hO : Ok m) (c : Dev nD) (t : Fin (cfgM m hO).N) (Y) (h : (rdat m hO c).Finds 3 t Y) : Y = iblk m hO c 3 t := by
  obtain ⟨d, rfl⟩ := (rdat m hO c).finds_in_eq_fetched 3 rfl (fun _ _ _ => rfl) (fun _ _ _ h => h) t Y h
  unfold Pipeline.RDat.fetched Pipeline.RDat.blockOf iblk; rw [A_eq]; rfl

/-- The kernel body at point `t`, on what the pipeline calls it with. -/
abbrev bodyAt (hO : Ok m) (t : Fin (cfgM m hO).N) : Prog (TpuEff nD τ sig (Elt F) Λ₀ .tc) PUnit :=
  cc0_expert_ffn (grid0.coords t) tbM0_0 htbM0_0 tbM0_1 htbM0_1 tbM0_2 htbM0_2 tbM0_3 htbM0_3 (ms0_0 m hO t) (hs0_0 m hO t) (ms0_1 m hO t) (hs0_1 m hO t)
    (ms0_2 m hO t) (hs0_2 m hO t) (ms0_3 m hO t) (hs0_3 m hO t) (ms0_4 m hO t) (hs0_4 m hO t)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body at any point: the inputs' buffers at their blocks, the output's at `y`. -/
theorem sound_body (hO : Ok m) (c : Dev nD) (t : Fin (cfgM m hO).N) (y : Vec F S512x1024 .bf16) :
    iprop((rdat m hO c).Φ t.castSucc ∗ (rdat m hO c).owesAt () t.castSucc
      ∗ owns (c : Thread nD τ) (ms0_0 m hO t) fullShare (iblk m hO c 0 t) ∗ owns (c : Thread nD τ) (ms0_1 m hO t) fullShare (iblk m hO c 1 t)
      ∗ owns (c : Thread nD τ) (ms0_2 m hO t) fullShare (iblk m hO c 2 t) ∗ owns (c : Thread nD τ) (ms0_3 m hO t) fullShare (iblk m hO c 3 t)
      ∗ owns (c : Thread nD τ) (ms0_4 m hO t) fullShare y)
    ⊢ wp frame (wpE (defs₀ (F := F)) Variants.none c none) Set.univ (bodyAt m hO t) fun _ =>
      iprop((rdat m hO c).Φ t.succ ∗ (rdat m hO c).owesAt () t.succ
        ∗ (∃ X, ⌜X = iblk m hO c 0 t⌝ ∗ owns (c : Thread nD τ) (ms0_0 m hO t) fullShare X)
        ∗ (∃ X, ⌜X = iblk m hO c 1 t⌝ ∗ owns (c : Thread nD τ) (ms0_1 m hO t) fullShare X)
        ∗ (∃ X, ⌜X = iblk m hO c 2 t⌝ ∗ owns (c : Thread nD τ) (ms0_2 m hO t) fullShare X)
        ∗ (∃ X, ⌜X = iblk m hO c 3 t⌝ ∗ owns (c : Thread nD τ) (ms0_3 m hO t) fullShare X)
        ∗ (∃ X, ⌜X = step (word (tbl m 2) (grid0.coords t)) (word (tbl m 3) (grid0.coords t)) (word (tbl m 0) (grid0.coords t))
            (iblk m hO c 0 t) (iblk m hO c 1 t) (iblk m hO c 2 t) (iblk m hO c 3 t) y⌝ ∗ owns (c : Thread nD τ) (ms0_4 m hO t) fullShare X)) := by
  rw [show (rdat m hO c).Φ t.succ = (rdat m hO c).Φ t.castSucc from rfl,
    show (rdat m hO c).owesAt () t.succ = (rdat m hO c).owesAt () t.castSucc from rfl]
  rw [show (rdat m hO c).Φ t.castSucc = iprop(Pipeline.ΦA spec0 c ∗ Pipeline.ΦT pre0 (tbl m) c) from rfl, PhiT0_eq]
  iintro ⟨⟨HΦ, ⟨HT0, HT1, HT2, HT3⟩⟩, Ho, H0, H1, H2, H3, H4⟩
  iapply ((run c (grid0.coords t) _ _ _ _ _ _ _ _ _ _ (iblk m hO c 0 t) (iblk m hO c 1 t) (iblk m hO c 2 t) (iblk m hO c 3 t) y (tbl m 0) (tbl m 1) (tbl m 2) (tbl m 3)) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr; · ipureintro; rfl
  iexact H4

theorem body_obligation (hO : Ok m) (c : Dev nD) : (rdat (F := F) m hO c).BodyObligation (defs₀ (F := F)) Variants.none () Set.univ := fun t Y hY => by
  obtain ⟨y0, hy0⟩ : ∃ y, y = Y 0 := ⟨_, rfl⟩
  have h0 := finds_0 m hO c t _ (hY 0)
  have h1 := finds_1 m hO c t _ (hY 1)
  have h2 := finds_2 m hO c t _ (hY 2)
  have h3 := finds_3 m hO c t _ (hY 3)
  rw [bigSep_W0, bigSep_W0, defs₀_row m hO]
  rw [h0, h1, h2, h3]
  exact triple_restated (sound_body m hO c t (Y 4)) rfl .rfl fun _ => .rfl

theorem share_full (hO : Ok m) (c : Dev nD) (w : Fin (cfgM m hO).W) : (rdat m hO c).share w = fullShare := by
  unfold Pipeline.RDat.share; split <;> rfl

set_option maxHeartbeats 2000000 in
set_option backward.isDefEq.respectTransparency.types false in
/-- The launch: every execution ends, with the arrays as the proof data says and every semaphore counter at zero. -/
theorem run_main_quiescent (hO : Ok m) : θ_run defs (onTc (τ := τ) (main (F := F))) (s₀ m ρ) (fun r => (Pipeline.RDat.FramePost ((Pipeline.pin pcfgs fun _ => adm m hO) 0) (fun c => rdat m hO c) (V m)) r ∧ r.2.sem = fun _ => 0) :=
  Pipeline.RDat.θ_run_frameP (Q' := _) pcfgs (fun _ => adm m hO) (0 : Fin 1) launch0 defs₀ Variants.none (fun c => rdat m hO c) m ρ main
    (hbody := fun c => body_obligation m hO c) (hshare := share_full m hO)
    (howed := fun _ _ => rfl) (V := V m) (hmain := hmain m Variants.none) (hA := A_eq m hO) (hpf := V_pre m) (hΦ := fun _ _ => rfl)

theorem run_main (hO : Ok m) : θ_run defs (onTc (τ := τ) (main (F := F))) (s₀ m ρ) (Pipeline.RDat.FramePost ((Pipeline.pin pcfgs fun _ => adm m hO) 0) (fun c => rdat m hO c) (V m)) :=
  (θ_run defs _ _).mono (fun _ h => h.1) (run_main_quiescent m ρ hO)

/-- The frame: the argument arrays end unchanged, the semaphore counters at zero, whenever the tables' blocks lie in the arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (fun c => rdat m hO c) (A_eq m hO) (run_main m ρ hO)) ((θ_run defs _ _).mono (fun _ h => h.2) (run_main_quiescent m ρ hO))

end Cert.KernelIdeal.Hand
end
-- ==== Proof.KernelIdeal.Tables.lean ====
/- The prefetched tables are the work-item tables of the counts: what the pallas_call is entered with. -/
module

public import proofs.«01_k».proof.Proof.KernelIdeal.Host
public import proofs.«01_k».proof.Proof.ItemWords
public import Idealize.ShloMosaic.Lib.StableHlo.ReadAt

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F]

variable (m : (ℓ : Loc nD τ sig) → Buf (Elt F) ℓ)

/-- The counts as launched. -/
abbrev counts : IVec S8 32 := m (((0 : Dev nD).tc : Thread nD τ).loc main_arg0)

set_option maxHeartbeats 1000000 in
/-- Table 2. -/
theorem tbl_2 : tbl m 2 = Cert.Items.loW (counts m) := by
  show V m 0 main_v30 = _
  unfold V hostOps0 hostOps0_1 hostOps0_2 hostOps0_3 hostOps0_4 hostOps0_5 hostOps0_6 hostOps0_7 hostOps0_8 hostOps0_9
  simp only [List.flatten_cons, List.flatten_nil, List.append_nil, List.cons_append, List.nil_append]
  after_reads_simp
  simp -implicitDefEqProofs only [StableHlo.TRef.toBuf, StableHlo.TRef.ofBuf, cast_cast, cast_eq]
  clean_types
  unfold Cert.Items.loW Cert.Items.opensW Cert.Items.startW Cert.Items.beforeW Cert.Items.posGrid Cert.Items.itemGrid Cert.Items.itemCol Cert.Items.posW
    Cert.Items.startsW Cert.Items.endsW Routing.pyDiv
  rfl

set_option maxHeartbeats 1000000 in
/-- Table 3. -/
theorem tbl_3 : tbl m 3 = Cert.Items.hiW (counts m) := by
  show V m 0 main_v33 = _
  unfold V hostOps0 hostOps0_1 hostOps0_2 hostOps0_3 hostOps0_4 hostOps0_5 hostOps0_6 hostOps0_7 hostOps0_8 hostOps0_9
  simp only [List.flatten_cons, List.flatten_nil, List.append_nil, List.cons_append, List.nil_append]
  rw [show (fun (a : (⟨S262, .i32⟩ : BufTy).Contents (Elt F)) (b : (⟨S1, .i32⟩ : BufTy).Contents (Elt F)) =>
      (concatenate S263 0 [⟨S262, a⟩, ⟨S1, b⟩] concatenates_S262_S1_S263_d0 : (⟨S263, .i32⟩ : BufTy).Contents (Elt F))) = Cert.Items.join from rfl]
  after_reads_simp
  simp -implicitDefEqProofs only [StableHlo.TRef.toBuf, StableHlo.TRef.ofBuf, cast_cast, cast_eq]
  clean_types
  unfold Cert.Items.hiW Cert.Items.loW Cert.Items.opensW Cert.Items.startW Cert.Items.beforeW Cert.Items.posGrid Cert.Items.itemGrid Cert.Items.itemCol Cert.Items.posW
    Cert.Items.startsW Cert.Items.endsW Routing.pyDiv
  rfl

set_option maxHeartbeats 1000000 in
/-- Table 0. -/
theorem tbl_0 : tbl m 0 = Cert.Items.tileW (counts m) := by
  show V m 0 main_v36 = _
  unfold V hostOps0 hostOps0_1 hostOps0_2 hostOps0_3 hostOps0_4 hostOps0_5 hostOps0_6 hostOps0_7 hostOps0_8 hostOps0_9
  simp only [List.flatten_cons, List.flatten_nil, List.append_nil, List.cons_append, List.nil_append]
  after_reads_simp
  simp -implicitDefEqProofs only [StableHlo.TRef.toBuf, StableHlo.TRef.ofBuf, cast_cast, cast_eq]
  clean_types
  unfold Cert.Items.tileW Cert.Items.loW Cert.Items.opensW Cert.Items.startW Cert.Items.beforeW Cert.Items.posGrid Cert.Items.itemGrid Cert.Items.itemCol Cert.Items.posW
    Cert.Items.startsW Cert.Items.endsW Routing.pyDiv
  rfl

set_option maxHeartbeats 1000000 in
/-- Table 1. -/
theorem tbl_1 : tbl m 1 = Cert.Items.expertW (counts m) := by
  show V m 0 main_v45 = _
  unfold V hostOps0 hostOps0_1 hostOps0_2 hostOps0_3 hostOps0_4 hostOps0_5 hostOps0_6 hostOps0_7 hostOps0_8 hostOps0_9
  simp only [List.flatten_cons, List.flatten_nil, List.append_nil, List.cons_append, List.nil_append]
  after_reads_simp
  simp -implicitDefEqProofs only [StableHlo.TRef.toBuf, StableHlo.TRef.ofBuf, cast_cast, cast_eq]
  clean_types
  unfold Cert.Items.expertW Cert.Items.loW Cert.Items.opensW Cert.Items.startW Cert.Items.beforeW Cert.Items.posGrid Cert.Items.itemGrid Cert.Items.itemCol Cert.Items.posW
    Cert.Items.startsW Cert.Items.endsW Routing.pyDiv
  rfl

end Cert.KernelIdeal.Hand
end
-- ==== Proof.KernelIdeal.Ok.lean ====
/- The tables' words at the counts the precondition admits, and that every block they pick lies inside its array. -/
module

public import proofs.«01_k».proof.Proof.KernelIdeal.Tables
public import proofs.«01_k».proof.Proof.KernelIdeal.Body
public import proofs.«01_k».proof.Proof.Pre

@[expose] public section

set_option maxRecDepth 16384

noncomputable section

namespace Cert.KernelIdeal.Hand

open Idealize.ShloMosaic Idealize.ShloMosaic.TcCoe
open Cert.KernelIdeal.Gen

variable {F : FTy → Type} [FloatOps F]

/-- The work item a grid point stands for. -/
theorem item_lt (i : grid0.Coords) : (i 0).val < 263 := (i 0).isLt

/-- The element of a table a grid point reads. -/
theorem word_idx (i : grid0.Coords) (h) :
    (Rect.unit (s := S263) (k0_off1 i) S1.size (k0_off1_inb i)).idx (Shape.Idx.first h) = ValueIdx.ix1 ⟨(i 0).val, item_lt i⟩ := by
  have hb : (BitVec.ofNat 32 (i 0).val).toNat = (i 0).val := by
    rw [BitVec.toNat_ofNat]; exact Nat.mod_eq_of_lt (by have := item_lt i; omega)
  funext a
  apply Fin.ext
  obtain rfl : a = 0 := Subsingleton.elim _ _
  show (BitVec.ofNat 32 (i 0).val).toNat + 1 * 0 = _
  rw [hb]; rfl

variable (m : (ℓ : Loc nD τ sig) → Buf (Elt F) ℓ)

/-- The counts as naturals. -/
abbrev cnt : ℕ → ℕ := Cert.Items.countOf (counts m)

variable (hc : Cert.Items.ends (cnt m) 7 = 131072)
include hc

theorem word_lo (i : grid0.Coords) : word (tbl m 2) i = BitVec.ofNat 32 (Cert.Items.lo (cnt m) (i 0).val) := by
  unfold word; rw [tbl_2, word_idx]
  exact Cert.Items.loW_at (Cert.Items.countOf_at (counts m)) hc ⟨(i 0).val, item_lt i⟩

theorem word_hi (i : grid0.Coords) : word (tbl m 3) i = BitVec.ofNat 32 (Cert.Items.hi (cnt m) (i 0).val) := by
  unfold word; rw [tbl_3, word_idx]
  exact Cert.Items.hiW_at (Cert.Items.countOf_at (counts m)) hc ⟨(i 0).val, item_lt i⟩

theorem word_tile (i : grid0.Coords) : word (tbl m 0) i = BitVec.ofNat 32 (Cert.Items.tile (cnt m) (i 0).val) := by
  unfold word; rw [tbl_0, word_idx]
  exact Cert.Items.tileW_at (Cert.Items.countOf_at (counts m)) hc ⟨(i 0).val, item_lt i⟩

theorem word_expert (i : grid0.Coords) : word (tbl m 1) i = BitVec.ofNat 32 (Cert.Items.expert (cnt m) (i 0).val) := by
  unfold word; rw [tbl_1, word_idx]
  exact Cert.Items.expertW_at (Cert.Items.countOf_at (counts m)) hc ⟨(i 0).val, item_lt i⟩

theorem tile_le (i : grid0.Coords) : Cert.Items.tile (cnt m) (i 0).val ≤ 255 := (Cert.Items.tile_eq _ hc (item_lt i)).2.2.1

theorem tile_nat (i : grid0.Coords) : (word (tbl m 0) i).toNat = Cert.Items.tile (cnt m) (i 0).val := by
  rw [word_tile m hc, BitVec.toNat_ofNat]; exact Nat.mod_eq_of_lt (by have := tile_le m hc i; omega)

omit hc in
theorem expert_le (k : ℕ) : Cert.Items.expert (cnt m) k ≤ 7 := by unfold Cert.Items.expert; exact Nat.min_le_right _ _

theorem expert_nat (i : grid0.Coords) : (word (tbl m 1) i).toNat = Cert.Items.expert (cnt m) (i 0).val := by
  rw [word_expert m hc, BitVec.toNat_ofNat]; exact Nat.mod_eq_of_lt (by have := expert_le m (i 0).val; omega)

/-- The blocks the index maps pick. -/
theorem ix_0 (i : grid0.Coords) : cc0_transform_0 k0_off1_inb numel1_S1 (tbl m) i = ![Cert.Items.tile (cnt m) (i 0).val, 0] := by
  rw [← tile_nat m hc i]; rfl
theorem ix_1 (i : grid0.Coords) : cc0_transform_1 k0_off1_inb numel1_S1 (tbl m) i = ![Cert.Items.expert (cnt m) (i 0).val, 0, 0] := by
  rw [← expert_nat m hc i]; rfl
theorem ix_2 (i : grid0.Coords) : cc0_transform_2 k0_off1_inb numel1_S1 (tbl m) i = ![Cert.Items.expert (cnt m) (i 0).val, 0, 0] := by
  rw [← expert_nat m hc i]; rfl
theorem ix_3 (i : grid0.Coords) : cc0_transform_3 k0_off1_inb numel1_S1 (tbl m) i = ![Cert.Items.expert (cnt m) (i 0).val, 0, 0] := by
  rw [← expert_nat m hc i]; rfl
theorem ix_4 (i : grid0.Coords) : cc0_transform_4 k0_off1_inb numel1_S1 (tbl m) i = ![Cert.Items.tile (cnt m) (i 0).val, 0] := by
  rw [← tile_nat m hc i]; rfl

/-- Every block the tables pick is inside its array and made of whole words. -/
theorem ok_of_counts : Ok m := by
  refine ⟨fun i => ⟨?_, .inl rfl⟩, fun i => ⟨?_, .inr ?_⟩, fun i => ⟨?_, .inr ?_⟩, fun i => ⟨?_, .inr ?_⟩, fun i => ⟨?_, .inr ?_⟩⟩
  · rw [ix_0 m hc]; have := tile_le m hc i
    intro a; fin_cases a
    · show (Cert.Items.tile _ _ + 1) * 512 ≤ 131072; omega
    · show (0 + 1) * 512 ≤ 512; omega
  · rw [ix_1 m hc]; have := expert_le m (i 0).val
    intro a; fin_cases a
    · show (Cert.Items.expert _ _ + 1) * 1 ≤ 8; omega
    · show (0 + 1) * 1024 ≤ 1024; omega
    · show (0 + 1) * 3584 ≤ 3584; omega
  · refine .inr ⟨by decide, rfl, ?_, rfl⟩
    rfl
  · rw [ix_2 m hc]; have := expert_le m (i 0).val
    intro a; fin_cases a
    · show (Cert.Items.expert _ _ + 1) * 1 ≤ 8; omega
    · show (0 + 1) * 1024 ≤ 1024; omega
    · show (0 + 1) * 3584 ≤ 3584; omega
  · refine .inr ⟨by decide, rfl, ?_, rfl⟩
    rfl
  · rw [ix_3 m hc]; have := expert_le m (i 0).val
    intro a; fin_cases a
    · show (Cert.Items.expert _ _ + 1) * 1 ≤ 8; omega
    · show (0 + 1) * 3584 ≤ 3584; omega
    · show (0 + 1) * 1024 ≤ 1024; omega
  · refine .inr ⟨by decide, rfl, ?_, rfl⟩
    rfl
  · rw [ix_4 m hc]; have := tile_le m hc i
    intro a; fin_cases a
    · show (Cert.Items.tile _ _ + 1) * 512 ≤ 131072; omega
    · show (0 + 1) * 1024 ≤ 1024; omega
  · refine .inl (.inr ⟨by decide, rfl, .inl ⟨?_, ⟨256, rfl⟩⟩⟩)
    exact Dvd.dvd.mul_left (by decide) _

end Cert.KernelIdeal.Hand

end
-- ==== Proof.Spec.lean ====
/- The routed experts over the extended reals: what each row of the output is, from the counts, the packed rows and the weights. -/
module

public import proofs.«01_k».proof.Proof.Pre
public import Idealize.ShloMosaic.Lib.Pointwise

@[expose] public section

noncomputable section

namespace Cert.Spec

open Idealize.ShloMosaic
open Idealize.ShloMosaic.Routing (shape1 shape2 shape3)

/-- One hidden unit's contribution to an output element: `silu (h · w1) * (h · w3) * w2`. -/
def unit (h w1 w3 : Fin 1024 → EReal) (w2 : EReal) : EReal :=
  ((∑ d, h d * w1 d) * Ideal.logistic (∑ d, h d * w1 d) * ∑ d, h d * w3 d) * w2

/-- The output element: the sum over the hidden units. -/
def swiglu (h : Fin 1024 → EReal) (w1 w3 : Fin 1024 → Fin 3584 → EReal) (w2 : Fin 3584 → EReal) : EReal :=
  ∑ k, unit h (fun d => w1 d k) (fun d => w3 d k) (w2 k)

/-- The hidden units summed in seven chunks of 512. -/
theorem swiglu_chunks (h : Fin 1024 → EReal) (w1 w3 : Fin 1024 → Fin 3584 → EReal) (w2 : Fin 3584 → EReal) :
    swiglu h w1 w3 w2 = ∑ c : Fin 7, ∑ t : Fin 512, (fun k : Fin 3584 => unit h (fun d => w1 d k) (fun d => w3 d k) (w2 k)) ⟨c.val * 512 + t.val, by omega⟩ :=
  Fin.sum_univ_tiles 7 512 rfl _

/-- A packed row's elements: the words' low halves, then their high halves, each the upper half of a 32-bit float. -/
def unpack (x : Fin 512 → BitVec 32) (d : Fin 1024) : EReal :=
  if h : d.val < 512 then Ideal.ofBits .f32 (IntOp.shli .host (x ⟨d.val, h⟩) 16#32)
  else Ideal.ofBits .f32 (IntOp.andi (x ⟨d.val - 512, by omega⟩) 4294901760#32)

/-- An element of a row through expert `e`. -/
def rowOut (w1 w3 : (shape3 8 1024 3584).Idx → EReal) (w2 : (shape3 8 3584 1024).Idx → EReal) (x : Fin 512 → BitVec 32) (e : Fin 8) (j : Fin 1024) : EReal :=
  swiglu (unpack x) (fun d k => w1 (ix3 e d k)) (fun d k => w3 (ix3 e d k)) (fun k => w2 (ix3 e k j))

/-- The expert of row `r`, as an index of the weights. -/
def ownerFin (x0 : IVec (shape1 8) 32) (r : ℕ) : Fin 8 := ⟨min (Cert.Items.owner (Cert.Items.countOf x0) r) 7, by omega⟩

/-- The whole output: row `r` through the expert it belongs to. -/
def out (x0 : IVec (shape1 8) 32) (x1 : IVec (shape2 131072 512) 32) (w1 w3 : (shape3 8 1024 3584).Idx → EReal) (w2 : (shape3 8 3584 1024).Idx → EReal)
    (r : Fin 131072) (j : Fin 1024) : EReal :=
  rowOut w1 w3 w2 (fun q => x1 (ix2 r q)) (ownerFin x0 r.val) j

end Cert.Spec

end
-- ==== Proof.KernelIdeal.Point.lean ====
/- What one work item computes, element by element, over the extended reals. -/
module

public import proofs.«01_k».proof.Proof.KernelIdeal.Body
public import proofs.«01_k».proof.Proof.Spec

@[expose] public section

set_option maxRecDepth 16384

noncomputable section

namespace Cert.KernelIdeal.Hand

open Idealize.ShloMosaic Idealize.ShloMosaic.TcCoe
open Cert.KernelIdeal.Gen

/-- A chunk of columns, at an index. -/
theorem cols_at (x : Vec Ideal S1x1024x3584 .bf16) (o : ℕ) (h) (d : Fin 1024) (t : Fin 512) (ho : o + t.val < 3584) :
    cols x o h (ix3 0 d t) = x (ix3 0 d ⟨o + t.val, ho⟩) := by
  unfold cols
  refine congrArg x ?_
  funext a
  apply Fin.ext
  fin_cases a <;> simp

/-- A chunk of rows, at an index. -/
theorem rows_at (x : Vec Ideal S1x3584x1024 .bf16) (o : ℕ) (h) (t : Fin 512) (j : Fin 1024) (ho : o + t.val < 3584) :
    rows x o h (ix3 0 t j) = x (ix3 0 ⟨o + t.val, ho⟩ j) := by
  unfold rows
  refine congrArg x ?_
  funext a
  apply Fin.ext
  fin_cases a <;> simp

/-- A chunk's sum of hidden units, from the blocks' own columns and rows. -/
theorem chunk_at (H : Fin 1024 → EReal) (x1 x2 : Vec Ideal S1x1024x3584 .bf16) (x3 : Vec Ideal S1x3584x1024 .bf16) (j : Fin 1024) (c : Fin 7) (o : ℕ) (h h' h'') (ho : o = c.val * 512) :
    (∑ x : Fin 512, ((∑ d, H d * cols x1 o h (ix3 0 d x)) * Ideal.logistic (∑ d, H d * cols x1 o h (ix3 0 d x)) * ∑ d, H d * cols x2 o h' (ix3 0 d x)) * rows x3 o h'' (ix3 0 x j))
      = ∑ t : Fin 512, (fun k : Fin 3584 => Cert.Spec.unit H (fun d => x1 (ix3 0 d k)) (fun d => x2 (ix3 0 d k)) (x3 (ix3 0 k j))) ⟨c.val * 512 + t.val, by omega⟩ := by
  subst ho
  refine Finset.sum_congr rfl fun t _ => ?_
  have ht : c.val * 512 + t.val < 3584 := by omega
  have h1 := fun d => cols_at x1 _ h d t ht
  have h2 := fun d => cols_at x2 _ h' d t ht
  have h3 := rows_at x3 _ h'' t j ht
  show Cert.Spec.unit H (fun d => cols x1 _ h (ix3 0 d t)) (fun d => cols x2 _ h' (ix3 0 d t)) (rows x3 _ h'' (ix3 0 t j)) = _
  rw [funext h1, funext h2, h3]

set_option maxHeartbeats 2000000 in
/-- The tile's rows through one expert, at an index. -/
theorem mlp_at (x0 : Vec Ideal S512x512 .i32) (x1 x2 : Vec Ideal S1x1024x3584 .bf16) (x3 : Vec Ideal S1x3584x1024 .bf16) (p : Fin 512) (j : Fin 1024) :
    mlp (F := Ideal) x0 x1 x2 x3 (ix2 p j) = Cert.Spec.swiglu (fun d => k0_pay3 (F := Ideal) x0 (ix2 p d)) (fun d k => x1 (ix3 0 d k)) (fun d k => x2 (ix3 0 d k)) (fun k => x3 (ix3 0 k j)) := by
  rw [Cert.Spec.swiglu_chunks]
  unfold mlp acc6 acc4
  pointwise [k0_pay1, k0_pay8, k0_pay7, k0_pay4, k0_pay5, k0_pay6, k0_pay9, k0_pay10]
  have key := chunk_at (fun d => k0_pay3 (F := Ideal) x0 (ix2 p d)) x1 x2 x3 j
  refine Eq.trans ?_ (Fin.sum_univ_seven _).symm
  refine congrArg₂ (· + ·) (congrArg₂ (· + ·) (congrArg₂ (· + ·) (congrArg₂ (· + ·) (congrArg₂ (· + ·) (congrArg₂ (· + ·) ?_ ?_) ?_) ?_) ?_) ?_) ?_
  · exact key 0 _ _ _ _ rfl
  · exact key 1 _ _ _ _ rfl
  · exact key 2 _ _ _ _ rfl
  · exact key 3 _ _ _ _ rfl
  · exact key 4 _ _ _ _ rfl
  · exact key 5 _ _ _ _ rfl
  · exact key 6 _ _ _ _ rfl

end Cert.KernelIdeal.Hand

end
-- ==== Proof.KernelIdeal.Step.lean ====
/- One work item's step, row by row: the rows from its first on hold the expert's rows, those before keep what they held. -/
module

public import proofs.«01_k».proof.Proof.KernelIdeal.Body
public import Idealize.ShloMosaic.Lib.WordCmp
public import Idealize.ShloMosaic.Lib.Pointwise

@[expose] public section

set_option maxRecDepth 16384

noncomputable section

namespace Cert.KernelIdeal.Hand

open Idealize.ShloMosaic Idealize.ShloMosaic.TcCoe Idealize.ShloMosaic.WordCmp
open Cert.KernelIdeal.Gen

variable {F : FTy → Type} [FloatOps F]

/-- A comparison widened and tested against zero is the comparison. -/
theorem test_bit (b : BitVec 1) : Scalar.cmpi .ne ((Scalar.extui b : BitVec 32)) 0#32 = b := by revert b; decide

/-- The item's first row, counted from the tile's. -/
theorem sub_word (lo tile : ℕ) (h : 512 * tile ≤ lo) (hlo : lo ≤ 131072) :
    Scalar.subi (BitVec.ofNat 32 lo) (Scalar.muli (BitVec.ofNat 32 tile) 512#32) = BitVec.ofNat 32 (lo - 512 * tile) := by
  show BitVec.ofNat 32 lo - BitVec.ofNat 32 tile * 512#32 = _
  apply BitVec.eq_of_toNat_eq
  simp only [BitVec.toNat_sub, BitVec.toNat_mul, BitVec.toNat_ofNat]
  omega

theorem cond1_iff (lo hi : ℕ) (hlo : lo ≤ 131072) (hhi : hi ≤ 131072) : k0_cond1 (BitVec.ofNat 32 lo) (BitVec.ofNat 32 hi) = 1#1 ↔ lo < hi := by
  unfold k0_cond1
  dsimp only
  rw [test_bit]
  exact cmpi_sgt_ofNat_eq_one_iff (by omega) (by omega)

theorem cond2_iff (lo tile : ℕ) (h : 512 * tile ≤ lo) (hlo : lo ≤ 131072) : k0_cond2 (BitVec.ofNat 32 lo) (BitVec.ofNat 32 tile) = 1#1 ↔ lo = 512 * tile := by
  unfold k0_cond2
  dsimp only
  rw [test_bit, sub_word lo tile h hlo]
  refine (cmpi_eq_ofNat_eq_one_iff (w := 32) (b := 0) (by omega) (by omega)).trans ?_
  omega

theorem cond3_iff (lo tile : ℕ) (h : 512 * tile ≤ lo) (hlo : lo ≤ 131072) : k0_cond3 (BitVec.ofNat 32 lo) (BitVec.ofNat 32 tile) = 1#1 ↔ 512 * tile < lo := by
  unfold k0_cond3
  dsimp only
  rw [test_bit, sub_word lo tile h hlo]
  refine (cmpi_sgt_ofNat_eq_one_iff (w := 32) (b := 0) (by omega) (by omega)).trans ?_
  omega

/-- The masked store, at an index. -/
theorem mlpOver_at (lo tile : ℕ) (h : 512 * tile ≤ lo) (hlo : lo ≤ 131072) (x0 : Vec F S512x512 .i32) (x1 x2 : Vec F S1x1024x3584 .bf16) (x3 : Vec F S1x3584x1024 .bf16)
    (y : Vec F S512x1024 .bf16) (p : Fin 512) (j : Fin 1024) :
    mlpOver (BitVec.ofNat 32 lo) (BitVec.ofNat 32 tile) x0 x1 x2 x3 y (ix2 p j) = if lo ≤ 512 * tile + p.val then mlp x0 x1 x2 x3 (ix2 p j) else y (ix2 p j) := by
  have e : mlpOver (BitVec.ofNat 32 lo) (BitVec.ofNat 32 tile) x0 x1 x2 x3 y (ix2 p j)
      = Scalar.select (IntOp.cmpi .sge (iota .tc S512x1024 32 [0] iota_S512x1024_d0_w32 (ix2 p j)) (Scalar.subi (BitVec.ofNat 32 lo) (Scalar.muli (BitVec.ofNat 32 tile) 512#32))) (mlp x0 x1 x2 x3 (ix2 p j))
          (shapeCast S512x1024 y shapeCasts_S512x1024_S512x1024 (ix2 p j)) := rfl
  have ei : iota .tc S512x1024 32 [0] iota_S512x1024_d0_w32 (ix2 p j) = BitVec.ofNat 32 p.val := by pointwise
  rw [e, ei, shapeCast_id, sub_word lo tile h hlo, cmpi_sge_ofNat (w := 32) (by omega) (by omega)]
  by_cases hp : lo ≤ 512 * tile + p.val
  · rw [if_pos hp, decide_eq_true (show lo - 512 * tile ≤ p.val by omega)]; rfl
  · rw [if_neg hp, decide_eq_false (show ¬ lo - 512 * tile ≤ p.val by omega)]; rfl

/-- The step, at an index of a row before the item's end. -/
theorem step_at (lo hi tile : ℕ) (h : 512 * tile ≤ lo) (hlh : lo ≤ hi) (hhi : hi ≤ 131072) (x0 : Vec F S512x512 .i32) (x1 x2 : Vec F S1x1024x3584 .bf16)
    (x3 : Vec F S1x3584x1024 .bf16) (y : Vec F S512x1024 .bf16) (p : Fin 512) (j : Fin 1024) (hp : 512 * tile + p.val < hi) :
    step (BitVec.ofNat 32 lo) (BitVec.ofNat 32 hi) (BitVec.ofNat 32 tile) x0 x1 x2 x3 y (ix2 p j)
      = if lo ≤ 512 * tile + p.val then mlp x0 x1 x2 x3 (ix2 p j) else y (ix2 p j) := by
  unfold step
  by_cases h1 : lo < hi
  · rw [if_pos ((cond1_iff lo hi (by omega) hhi).mpr h1)]
    by_cases h3 : 512 * tile < lo
    · rw [if_pos ((cond3_iff lo tile h (by omega)).mpr h3), if_neg (fun e => by have := (cond2_iff lo tile h (by omega)).mp e; omega)]
      exact mlpOver_at lo tile h (by omega) x0 x1 x2 x3 y p j
    · rw [if_neg (fun e => h3 ((cond3_iff lo tile h (by omega)).mp e)), if_pos ((cond2_iff lo tile h (by omega)).mpr (by omega)), if_pos (by omega)]
  · rw [if_neg (fun e => h1 ((cond1_iff lo hi (by omega) hhi).mp e)), if_neg (by omega)]

end Cert.KernelIdeal.Hand

end
-- ==== Proof.Tiles.lean ====
/- Every tile has a last work item, and what the items' order says of it. -/
module

public import proofs.«01_k».proof.Proof.Items

@[expose] public section

namespace Cert.Items

variable (c : ℕ → ℕ) (hc : ends c 7 = 131072)
include hc

/-- The next item begins where this one ends, in this tile or at the start of the next. -/
theorem next_item {k : ℕ} (hk : k < 262) : hi c k = lo c (k + 1) ∧ (tile c (k + 1) = tile c k ∨ (tile c (k + 1) = tile c k + 1 ∧ lo c (k + 1) = 512 * tile c (k + 1))) := by
  have e : hi c k = lo c (k + 1) := if_pos hk
  refine ⟨e, ?_⟩
  rcases (hi_facts c hc (k := k) (by omega)).2.2 hk with h | ⟨h, h'⟩
  · exact .inl h
  · exact .inr ⟨h, by omega⟩

/-- The last item of a tile ends with it. -/
theorem hi_last {k : ℕ} (hk : k < 263) (h : k = 262 ∨ tile c (k + 1) ≠ tile c k) : hi c k = 512 * (tile c k + 1) := by
  by_cases e : k = 262
  · subst e; have := last_item c hc; omega
  · rcases next_item c hc (k := k) (by omega) with ⟨h1, h2 | ⟨h2, h3⟩⟩
    · rcases h with h | h
      · exact absurd h e
      · exact absurd h2 h
    · omega

/-- Every tile has a last item. -/
theorem last_of_tile {T : ℕ} (hT : T ≤ 255) : ∃ k < 263, tile c k = T ∧ (k = 262 ∨ tile c (k + 1) ≠ tile c k) := by
  have key : ∀ n ≤ 262, (∃ k < n, tile c k = T ∧ tile c (k + 1) ≠ tile c k) ∨ tile c n ≤ T := by
    intro n
    induction n with
    | zero => intro _; right; have := (first_item c hc).2; omega
    | succ n ih =>
      intro hn
      rcases ih (by omega) with ⟨k, hk, h⟩ | h
      · exact .inl ⟨k, by omega, h⟩
      · rcases (next_item c hc (k := n) (by omega)).2 with h' | ⟨h', -⟩
        · right; omega
        · by_cases e : tile c n = T
          · left; exact ⟨n, by omega, e, by omega⟩
          · right; omega
  rcases key 262 (by omega) with ⟨k, hk, h, h'⟩ | h
  · exact ⟨k, by omega, h, .inr h'⟩
  · exact ⟨262, by omega, by have := (last_item c hc).2; omega, .inl rfl⟩

end Cert.Items
-- ==== Proof.KernelIdeal.Final.lean ====
/- The kernel's result: every row of the output through the expert it belongs to. -/
module

public import proofs.«01_k».proof.Proof.KernelIdeal.Frame
public import proofs.«01_k».proof.Proof.KernelIdeal.Ok
public import proofs.«01_k».proof.Proof.KernelIdeal.Point
public import proofs.«01_k».proof.Proof.KernelIdeal.Step
public import proofs.«01_k».proof.Proof.Tiles
public import Idealize.ShloMosaic.Lib.Pipeline.ArrRel
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Routing (shape1 shape2 shape3)
open Cert.KernelIdeal.Gen
open Cert.Items

variable (m : (ℓ : Loc nD τ sig) → Buf (Elt Ideal) ℓ) (ρ : Dev nD → PrngReg) (hO : Ok m) (c : Dev nD)

/-- The arguments. -/
abbrev a1 : IVec (shape2 131072 512) 32 := m ((c : Thread nD τ).loc main_arg1)
abbrev a2 : (shape3 8 1024 3584).Idx → EReal := m ((c : Thread nD τ).loc main_arg2)
abbrev a3 : (shape3 8 1024 3584).Idx → EReal := m ((c : Thread nD τ).loc main_arg3)
abbrev a4 : (shape3 8 3584 1024).Idx → EReal := m ((c : Thread nD τ).loc main_arg4)

/-- The output's elements. -/
abbrev out (r : Fin 131072) (j : Fin 1024) : EReal := Cert.Spec.out (counts m) (a1 m c) (a2 m c) (a3 m c) (a4 m c) r j

/-- The blocks an item reads. -/
def b0 (t : Fin (cfgM m hO).N) : Vec Ideal S512x512 .i32 := iblk m hO c 0 t
def b1 (t : Fin (cfgM m hO).N) : Vec Ideal S1x1024x3584 .bf16 := iblk m hO c 1 t
def b2 (t : Fin (cfgM m hO).N) : Vec Ideal S1x1024x3584 .bf16 := iblk m hO c 2 t
def b3 (t : Fin (cfgM m hO).N) : Vec Ideal S1x3584x1024 .bf16 := iblk m hO c 3 t

theorem lt_N (t : Fin (cfgM m hO).N) : t.val < 263 := t.isLt

theorem coord (t : Fin (cfgM m hO).N) : (grid0.coords t 0).val = t.val := by
  rw [Pipeline.Grid.coords_val (G := grid0) t 0 (S := 1) (B := 263) (by decide) rfl]
  have := lt_N m hO t
  omega

variable (hc : ends (cnt m) 7 = 131072)
include hc

/-- The blocks at an item. -/
theorem index_0 (t : Fin (cfgM m hO).N) : ((cfgM m hO).win 0).index t = ![tile (cnt m) t.val, 0] := by
  rw [← coord m hO t]; exact ix_0 m hc (grid0.coords t)
theorem index_1 (t : Fin (cfgM m hO).N) : ((cfgM m hO).win 1).index t = ![expert (cnt m) t.val, 0, 0] := by
  rw [← coord m hO t]; exact ix_1 m hc (grid0.coords t)
theorem index_2 (t : Fin (cfgM m hO).N) : ((cfgM m hO).win 2).index t = ![expert (cnt m) t.val, 0, 0] := by
  rw [← coord m hO t]; exact ix_2 m hc (grid0.coords t)
theorem index_3 (t : Fin (cfgM m hO).N) : ((cfgM m hO).win 3).index t = ![expert (cnt m) t.val, 0, 0] := by
  rw [← coord m hO t]; exact ix_3 m hc (grid0.coords t)
theorem index_4 (t : Fin (cfgM m hO).N) : ((cfgM m hO).win 4).index t = ![tile (cnt m) t.val, 0] := by
  rw [← coord m hO t]; exact ix_4 m hc (grid0.coords t)

/-- A tile's rows lie in the output. -/
theorem row_lt (t : Fin (cfgM m hO).N) (p : Fin 512) : 512 * tile (cnt m) t.val + p.val < 131072 := by
  have := (tile_eq (cnt m) hc (lt_N m hO t)).2.2.1
  omega

omit hc in
theorem expert_lt (k : ℕ) : expert (cnt m) k < 8 := by have := expert_le m k; omega

/-- The rows' block, at an index. -/
theorem b0_at (t : Fin (cfgM m hO).N) (p : Fin 512) (q : Fin 512) :
    b0 m hO c t (ix2 p q) = a1 m c (ix2 ⟨512 * tile (cnt m) t.val + p.val, row_lt m hO hc t p⟩ q) := by
  have e : b0 m hO c t (ix2 p q) = V m c main_arg1 ((((cfgM m hO).win 0).rect t).emb (ix2 p q)) := rfl
  rw [e, V_main_arg1]
  refine congrArg (a1 m c) ?_
  funext a; apply Fin.ext
  refine (Pipeline.Window.rect_emb_val ((cfgM m hO).win 0) t (ix2 p q) a).trans ?_
  rw [index_0 m hO hc]
  fin_cases a
  · show tile (cnt m) t.val * 512 + p.val = 512 * tile (cnt m) t.val + p.val; omega
  · show 0 * 512 + q.val = q.val; omega

theorem b1_at (t : Fin (cfgM m hO).N) (d : Fin 1024) (k : Fin 3584) :
    b1 m hO c t (ix3 0 d k) = a2 m c (ix3 ⟨expert (cnt m) t.val, expert_lt m _⟩ d k) := by
  have e : b1 m hO c t (ix3 0 d k) = V m c main_arg2 ((((cfgM m hO).win 1).rect t).emb (ix3 0 d k)) := rfl
  rw [e, V_main_arg2]
  refine congrArg (a2 m c) ?_
  funext a; apply Fin.ext
  refine (Pipeline.Window.rect_emb_val ((cfgM m hO).win 1) t (ix3 0 d k) a).trans ?_
  rw [index_1 m hO hc]
  fin_cases a
  · show expert (cnt m) t.val * 1 + 0 = expert (cnt m) t.val; omega
  · show 0 * 1024 + d.val = d.val; omega
  · show 0 * 3584 + k.val = k.val; omega

theorem b2_at (t : Fin (cfgM m hO).N) (d : Fin 1024) (k : Fin 3584) :
    b2 m hO c t (ix3 0 d k) = a3 m c (ix3 ⟨expert (cnt m) t.val, expert_lt m _⟩ d k) := by
  have e : b2 m hO c t (ix3 0 d k) = V m c main_arg3 ((((cfgM m hO).win 2).rect t).emb (ix3 0 d k)) := rfl
  rw [e, V_main_arg3]
  refine congrArg (a3 m c) ?_
  funext a; apply Fin.ext
  refine (Pipeline.Window.rect_emb_val ((cfgM m hO).win 2) t (ix3 0 d k) a).trans ?_
  rw [index_2 m hO hc]
  fin_cases a
  · show expert (cnt m) t.val * 1 + 0 = expert (cnt m) t.val; omega
  · show 0 * 1024 + d.val = d.val; omega
  · show 0 * 3584 + k.val = k.val; omega

theorem b3_at (t : Fin (cfgM m hO).N) (k : Fin 3584) (j : Fin 1024) :
    b3 m hO c t (ix3 0 k j) = a4 m c (ix3 ⟨expert (cnt m) t.val, expert_lt m _⟩ k j) := by
  have e : b3 m hO c t (ix3 0 k j) = V m c main_arg4 ((((cfgM m hO).win 3).rect t).emb (ix3 0 k j)) := rfl
  rw [e, V_main_arg4]
  refine congrArg (a4 m c) ?_
  funext a; apply Fin.ext
  refine (Pipeline.Window.rect_emb_val ((cfgM m hO).win 3) t (ix3 0 k j) a).trans ?_
  rw [index_3 m hO hc]
  fin_cases a
  · show expert (cnt m) t.val * 1 + 0 = expert (cnt m) t.val; omega
  · show 0 * 3584 + k.val = k.val; omega
  · show 0 * 1024 + j.val = j.val; omega

omit hc in
/-- The unpacked rows, at an index. -/
theorem pay3_at (x0 : Vec Ideal S512x512 .i32) (p : Fin 512) (d : Fin 1024) : k0_pay3 (F := Ideal) x0 (ix2 p d) = Cert.Spec.unpack (fun q => x0 (ix2 p q)) d := by
  pointwise [k0_pay3]
  rfl

/-- What an item computes of a row that is its own. -/
theorem mlp_row (t : Fin (cfgM m hO).N) (p : Fin 512) (j : Fin 1024) (h0 : lo (cnt m) t.val ≤ 512 * tile (cnt m) t.val + p.val)
    (h1 : 512 * tile (cnt m) t.val + p.val < hi (cnt m) t.val) :
    mlp (F := Ideal) (b0 m hO c t) (b1 m hO c t) (b2 m hO c t) (b3 m hO c t) (ix2 p j) = out m c ⟨512 * tile (cnt m) t.val + p.val, row_lt m hO hc t p⟩ j := by
  rw [mlp_at]
  have ho : Cert.Spec.ownerFin (counts m) (512 * tile (cnt m) t.val + p.val) = ⟨expert (cnt m) t.val, expert_lt m _⟩ := by
    apply Fin.ext
    show min (owner (cnt m) (512 * tile (cnt m) t.val + p.val)) 7 = expert (cnt m) t.val
    rw [owner_eq (cnt m) hc (lt_N m hO t) h0 h1]
    have := expert_le m t.val
    omega
  have eh : (fun d => k0_pay3 (F := Ideal) (b0 m hO c t) (ix2 p d)) = Cert.Spec.unpack (fun q => a1 m c (ix2 ⟨512 * tile (cnt m) t.val + p.val, row_lt m hO hc t p⟩ q)) := by
    funext d
    rw [pay3_at]
    exact congrArg (fun x => Cert.Spec.unpack x d) (funext fun q => b0_at m hO c hc t p q)
  have e1 := funext fun d => funext fun k => b1_at m hO c hc t d k
  have e2 := funext fun d => funext fun k => b2_at m hO c hc t d k
  have e3 := funext fun k => b3_at m hO c hc t k j
  show _ = Cert.Spec.rowOut _ _ _ _ (Cert.Spec.ownerFin (counts m) (512 * tile (cnt m) t.val + p.val)) j
  rw [ho, eh, e1, e2, e3]
  rfl

/-- The output's block is written back after a tile's last item. -/
theorem flush_4 (t : Fin (cfgM m hO).N) : ((cfgM m hO).win 4).flush t = true ↔ (t.val = 262 ∨ tile (cnt m) (t.val + 1) ≠ tile (cnt m) t.val) := by
  have ht := lt_N m hO t
  have e : ((cfgM m hO).win 4).flush t = (decide (t.val + 1 = 263) || decide (∃ h : t.val + 1 < (cfgM m hO).N, ((cfgM m hO).win 4).index ⟨t.val + 1, h⟩ ≠ ((cfgM m hO).win 4).index t)) := rfl
  rw [e, Bool.or_eq_true, decide_eq_true_iff, decide_eq_true_iff]
  constructor
  · rintro (h | ⟨h, hne⟩)
    · left; omega
    · right
      intro he
      apply hne
      rw [index_4 m hO hc, index_4 m hO hc]
      show ![tile (cnt m) (t.val + 1), 0] = _
      rw [he]
  · intro h
    by_cases h2 : t.val = 262
    · left; omega
    · right
      refine ⟨show t.val + 1 < 263 by omega, fun he => ?_⟩
      rw [index_4 m hO hc, index_4 m hO hc] at he
      have he0 : tile (cnt m) (t.val + 1) = tile (cnt m) t.val := congrFun he (0 : Fin 2)
      rcases h with h | h
      · exact h2 h
      · exact h he0

/-- What an item leaves is its step of what it finds. -/
theorem leaves_step (t : Fin (cfgM m hO).N) (X : Vec Ideal S512x1024 .bf16) (h : (rdat m hO c).Leaves 4 t X) : ∃ Y : Vec Ideal S512x1024 .bf16, (rdat m hO c).Finds 4 t Y
    ∧ X = step (BitVec.ofNat 32 (lo (cnt m) t.val)) (BitVec.ofNat 32 (hi (cnt m) t.val)) (BitVec.ofNat 32 (tile (cnt m) t.val)) (b0 m hO c t) (b1 m hO c t) (b2 m hO c t) (b3 m hO c t) Y := by
  obtain ⟨Y, hY, hX⟩ := h
  refine ⟨Y, hY, ?_⟩
  rw [← coord m hO t, ← word_lo m hc, ← word_hi m hc, ← word_tile m hc]
  exact hX

/-- After an item, the tile's rows up to its end hold their values. -/
theorem leaves_4 (n : ℕ) : ∀ (t : Fin (cfgM m hO).N), t.val = n → ∀ X : Vec Ideal S512x1024 .bf16, (rdat m hO c).Leaves 4 t X → ∀ (p : Fin 512) (j : Fin 1024),
    512 * tile (cnt m) t.val + p.val < hi (cnt m) t.val → X (ix2 p j) = out m c ⟨512 * tile (cnt m) t.val + p.val, row_lt m hO hc t p⟩ j := by
  induction n with
  | zero =>
    rintro t ht X hX p j hp
    obtain ⟨Y, -, rfl⟩ := leaves_step m hO c hc t X hX
    have hk := lt_N m hO t
    have t1 := tile_eq (cnt m) hc hk
    have t2 := hi_facts (cnt m) hc hk
    have t0 := first_item (cnt m) hc
    rw [step_at _ _ _ t1.2.1 t2.1 (by omega) _ _ _ _ _ p j hp, if_pos (by rw [ht]; omega)]
    exact mlp_row m hO c hc t p j (by rw [ht]; omega) hp
  | succ n ih =>
    rintro t ht X hX p j hp
    obtain ⟨Y, hY, rfl⟩ := leaves_step m hO c hc t X hX
    have hk := lt_N m hO t
    have t1 := tile_eq (cnt m) hc hk
    have t2 := hi_facts (cnt m) hc hk
    rw [step_at _ _ _ t1.2.1 t2.1 (by omega) _ _ _ _ _ p j hp]
    by_cases h0 : lo (cnt m) t.val ≤ 512 * tile (cnt m) t.val + p.val
    · rw [if_pos h0]
      exact mlp_row m hO c hc t p j h0 hp
    · rw [if_neg h0]
      have e : t.val - 1 + 1 = t.val := by omega
      obtain ⟨s, hs⟩ : ∃ s : Fin (cfgM m hO).N, s.val = n := ⟨⟨n, show n < 263 by omega⟩, rfl⟩
      have nx := next_item (cnt m) hc (k := n) (by omega)
      rw [← ht] at nx
      have ht' : tile (cnt m) t.val = tile (cnt m) n := by
        rcases nx.2 with h | ⟨-, h⟩
        · exact h
        · omega
      have hY' := ((rdat m hO c).finds_of_pos (((cfgM m hO).win 4).fetch_out rfl _) (by omega) Y).mp hY
      have es : (⟨t.val - 1, Nat.lt_of_le_of_lt (Nat.sub_le _ _) t.isLt⟩ : Fin (cfgM m hO).N) = s := Fin.ext (by simp only [hs]; omega)
      rw [es] at hY'
      rcases hY' with hf | hl
      · exfalso
        rcases (flush_4 m hO hc s).mp hf with h | h
        · omega
        · rw [hs, ← ht] at h; exact h ht'
      · have := ih s hs Y hl p j (by rw [hs, ← ht', nx.1]; omega)
        refine this.trans (congrArg (fun r => out m c r j) (Fin.ext ?_))
        show 512 * tile (cnt m) s.val + p.val = 512 * tile (cnt m) t.val + p.val
        rw [hs, ht']

/-- The written-back tiles cover the output. -/
theorem covers_4 : ((cfgM m hO).win 4).Covers := by
  refine ⟨fun a => ?_, fun β => ?_⟩
  · fin_cases a
    · show 0 < 512; omega
    · show 0 < 1024; omega
  · have hb0 : (β (0 : Fin 2)).val < 256 := Nat.lt_of_lt_of_eq (β (0 : Fin 2)).isLt (show (131072 + 512 - 1) / 512 = 256 by norm_num)
    have hb1 : (β (1 : Fin 2)).val < 1 := Nat.lt_of_lt_of_eq (β (1 : Fin 2)).isLt (show (1024 + 1024 - 1) / 1024 = 1 by norm_num)
    obtain ⟨k, hk, ht, hl⟩ := last_of_tile (cnt m) hc (T := (β (0 : Fin 2)).val) (by omega)
    refine ⟨⟨k, hk⟩, (flush_4 m hO hc ⟨k, hk⟩).mpr hl, fun a => ⟨?_, .inl ?_⟩⟩
    · rw [index_4 m hO hc]
      fin_cases a
      · exact ht
      · show 0 = (β (1 : Fin 2)).val; omega
    · rfl

/-- The output, whenever the tables' blocks lie in the arrays. -/
theorem result (dat : Pipeline.Dat τ (Elt Ideal) Unit ℕ (UR sig nD τ) ℕ (cfgM m hO) c)
    (hd : ∀ t, ((cfgM m hO).win 4).flush t = true → (rdat m hO c).Leaves 4 t (dat.after 4 t)) :
    dat.arrAt 4 (cfgM m hO).N = (fun i => out m c (i 0) (i 1) : FVec Ideal S131072x1024 .bf16) := by
  refine dat.arrAt_eq_of_covers 4 _ (covers_4 m hO hc) fun t hf y => ?_
  obtain ⟨p, j, rfl⟩ : ∃ (p : Fin 512) (j : Fin 1024), y = ix2 p j := ⟨y (0 : Fin 2), y (1 : Fin 2), (ix2_eta (n0 := 512) (n1 := 1024) y).symm⟩
  have hl := (flush_4 m hO hc t).mp hf
  have hh := hi_last (cnt m) hc (lt_N m hO t) hl
  have := leaves_4 m hO c hc t.val t rfl _ (hd t hf) p j (by omega)
  refine Eq.trans this ?_
  show _ = out m c ((((cfgM m hO).win 4).rect t).emb (ix2 p j) (0 : Fin 2)) ((((cfgM m hO).win 4).rect t).emb (ix2 p j) (1 : Fin 2))
  have e0 := Pipeline.Window.rect_emb_val ((cfgM m hO).win 4) t (ix2 p j) (0 : Fin 2)
  have e1 := Pipeline.Window.rect_emb_val ((cfgM m hO).win 4) t (ix2 p j) (1 : Fin 2)
  rw [index_4 m hO hc] at e0 e1
  refine congrArg₂ (out m c) (Fin.ext ?_) (Fin.ext ?_)
  · refine Eq.trans ?_ e0.symm
    show 512 * tile (cnt m) t.val + p.val = tile (cnt m) t.val * 512 + p.val; omega
  · refine Eq.trans ?_ e1.symm
    show j.val = 0 * 1024 + j.val; omega

/-- The kernel's run: the output at its rows' values, the arguments unchanged. -/
theorem run_value : θ_run defs (onTc (τ := τ) (main (F := Ideal))) ⟨m, fun _ => 0, ρ⟩ (fun r => ∀ c : Dev nD,
      r.2.mem ((c.tc : Thread nD τ).loc main_v46) = (fun i => out m c (i 0) (i 1) : FVec Ideal S131072x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO := ok_of_counts m hc
  refine (θ_run defs _ _).mono (fun r h c => ?_) (θ_run_and (run_main m ρ hO) (frame m ρ hO))
  obtain ⟨h1, h2⟩ := h
  obtain ⟨after, ha, hm⟩ := h1.exists_exact c
  refine ⟨?_, h2.1 c⟩
  exact (hm 4).trans (result m hO c hc _ fun t hf => ha 4 t hf)

end Cert.KernelIdeal.Hand

end
-- ==== Proof.ReferenceIdeal.Value.lean ====
/- The reference's result, element by element: each row through the expert it belongs to. -/
module

public import proofs.«01_k».proof.Proof.Spec
public import proofs.«01_k».proof.Proof.ItemWords
public import proofs.«01_k».proof.Proof.Gen.ReferenceIdeal.Run

@[expose] public section

set_option maxRecDepth 16384

noncomputable section

namespace Cert.ReferenceIdeal.Hand

open Idealize.ShloMosaic Idealize.ShloMosaic.TcCoe
open Idealize.ShloMosaic.Routing (shape1 shape2 shape3)
open Cert.ReferenceIdeal.Gen Cert.ReferenceIdeal.Value

variable (V : Valuation τ sig (Elt Ideal))

/-- The arguments. -/
abbrev a0 : IVec (shape1 8) 32 := V (Proc.devRef .tc main_arg0)
abbrev a1 : IVec (shape2 131072 512) 32 := V (Proc.devRef .tc main_arg1)
abbrev a2 : (shape3 8 1024 3584).Idx → EReal := V (Proc.devRef .tc main_arg2)
abbrev a3 : (shape3 8 1024 3584).Idx → EReal := V (Proc.devRef .tc main_arg3)
abbrev a4 : (shape3 8 3584 1024).Idx → EReal := V (Proc.devRef .tc main_arg4)

/-- A row's elements. -/
theorem h_at (r : Fin 131072) (d : Fin 1024) : res_main_v6 (F := Ideal) V (ix2 r d) = Cert.Spec.unpack (fun q => a1 V (ix2 r q)) d := by
  pointwise [res_main_v6]
  rfl

/-- The row through expert `e`. -/
def term (r : Fin 131072) (j : Fin 1024) (e : Fin 8) : EReal := Cert.Spec.rowOut (a2 V) (a3 V) (a4 V) (fun q => a1 V (ix2 r q)) e j

/-- The row's expert, compared with `e`, keeps `e`'s term or nothing. -/
def kept (w : BitVec 32) (e : ℕ) (y : EReal) : EReal := Scalar.select (IntOp.cmpi .eq w (BitVec.ofNat 32 e)) y 0

theorem zero_at : (id (constant (F := Ideal) S_ FTy.f32 0#32) ix0 : EReal) = 0 := by
  simp only [id]
  pointwise

set_option maxHeartbeats 2000000 in
theorem v92_at (r : Fin 131072) (j : Fin 1024) : res_main_v92 (F := Ideal) V (ix2 r j)
    = kept (res_main_v15 V (ix1 r)) 0 (term V r j 0) + kept (res_main_v15 V (ix1 r)) 1 (term V r j 1)
      + kept (res_main_v15 V (ix1 r)) 2 (term V r j 2) + kept (res_main_v15 V (ix1 r)) 3 (term V r j 3) := by
  pointwise [res_main_v92, res_main_v26, res_main_v45, res_main_v64, res_main_v83]
  simp only [h_at, zero_at]
  rfl

/-- The first four experts' sum, at an index. -/
def half (r : Fin 131072) (j : Fin 1024) : EReal := res_main_v92 (F := Ideal) V (ix2 r j)

set_option maxHeartbeats 2000000 in
theorem v168_at (r : Fin 131072) (j : Fin 1024) : res_main_v168 (F := Ideal) V (ix2 r j)
    = half V r j + kept (res_main_v15 V (ix1 r)) 4 (term V r j 4) + kept (res_main_v15 V (ix1 r)) 5 (term V r j 5)
      + kept (res_main_v15 V (ix1 r)) 6 (term V r j 6) + kept (res_main_v15 V (ix1 r)) 7 (term V r j 7) := by
  pointwise [res_main_v168, res_main_v102, res_main_v121, res_main_v140, res_main_v159]
  simp only [h_at, zero_at]
  rfl

/-- The row's expert, as the word the reference counts. -/
theorem expert_at (hc : Cert.Items.ends (Cert.Items.countOf (a0 V)) 7 = 131072) (r : Fin 131072) :
    res_main_v15 (F := Ideal) V (ix1 r) = BitVec.ofNat 32 (Cert.Items.owner (Cert.Items.countOf (a0 V)) r.val) := by
  have hx := Cert.Items.countOf_at (a0 V)
  refine Idealize.ShloMosaic.Routing.reduce_count (by decide) _ _ _ _ r (fun e => Cert.Items.ends (Cert.Items.countOf (a0 V)) e ≤ r.val) fun q => ?_
  have hw : ∀ q : Fin 8, Cert.Items.endsW (a0 V) (ix1 q) = BitVec.ofNat 32 (Cert.Items.ends (Cert.Items.countOf (a0 V)) q.val) := fun q => Cert.Items.endsW_at hx q
  have e : (cmpi .sle (broadcastInDim S131072x8 ![0, 1] bcast_S1x8_S131072x8_0_1 (broadcastInDim S1x8 ![1] bcast_S8_S1x8_1 (Cert.Items.endsW (a0 V))))
      (broadcastInDim S131072x8 ![0, 1] bcast_S131072x1_S131072x8_0_1 (broadcastInDim S131072x1 ![0] bcast_S131072_S131072x1_0 (iotaInDim S131072 32 0)))) (ix2 r q)
      = IntOp.cmpi .sle (Cert.Items.endsW (a0 V) (ix1 q)) (BitVec.ofNat 32 r.val) := by
    pointwise
  refine (Eq.congr_left (Eq.trans ?_ e)).trans ?_
  · rfl
  · rw [hw]
    have := Cert.Items.ends_le _ hc q.isLt
    exact WordCmp.cmpi_sle_ofNat_eq_one_iff (w := 32) (by omega) (by omega)

/-- One of eight experts keeps its term. -/
theorem kept_sum (o : ℕ) (ho : o < 8) (f : Fin 8 → EReal) :
    kept (BitVec.ofNat 32 o) 0 (f 0) + kept (BitVec.ofNat 32 o) 1 (f 1) + kept (BitVec.ofNat 32 o) 2 (f 2) + kept (BitVec.ofNat 32 o) 3 (f 3)
      + kept (BitVec.ofNat 32 o) 4 (f 4) + kept (BitVec.ofNat 32 o) 5 (f 5) + kept (BitVec.ofNat 32 o) 6 (f 6) + kept (BitVec.ofNat 32 o) 7 (f 7) = f ⟨o, ho⟩ := by
  have hk : ∀ (e : ℕ) (he : e < 8) (y : EReal), kept (BitVec.ofNat 32 o) e y = if o = e then y else 0 := by
    intro e he y
    unfold kept
    by_cases h : o = e
    · rw [if_pos h, (WordCmp.cmpi_eq_ofNat_eq_one_iff (w := 32) (by omega) (by omega)).mpr h]; rfl
    · rw [if_neg h, (WordCmp.cmpi_eq_ofNat_eq_zero_iff (w := 32) (by omega) (by omega)).mpr h]; rfl
  rw [hk 0 (by omega), hk 1 (by omega), hk 2 (by omega), hk 3 (by omega), hk 4 (by omega), hk 5 (by omega), hk 6 (by omega), hk 7 (by omega)]
  interval_cases o <;> simp

/-- The result, at an index. -/
theorem result_at (hc : Cert.Items.ends (Cert.Items.countOf (a0 V)) 7 = 131072) (r : Fin 131072) (j : Fin 1024) :
    truncf (F := Ideal) .bf16 (res_main_v168 V) bitsLt_bf16_f32 (ix2 r j) = Cert.Spec.out (a0 V) (a1 V) (a2 V) (a3 V) (a4 V) r j := by
  have ho : Cert.Items.owner (Cert.Items.countOf (a0 V)) r.val < 8 := by
    have h7 := (Cert.Items.owner_iff _ hc r.val (e := 7) (by omega)).not
    have : ¬ 7 < Cert.Items.owner (Cert.Items.countOf (a0 V)) r.val := h7.mp (by have := r.isLt; omega)
    omega
  pointwise
  rw [v168_at, half, v92_at, expert_at V hc, kept_sum _ ho]
  unfold term Cert.Spec.out Cert.Spec.ownerFin
  congr 1
  apply Fin.ext
  show Cert.Items.owner _ _ = min _ 7
  omega

end Cert.ReferenceIdeal.Hand

end
-- ==== Proof.Norm.lean ====
/- A row scaled to unit mean square, over the extended reals. -/
module

public import Idealize.ShloMosaic.Lib.Pointwise

@[expose] public section

noncomputable section

namespace Cert.Spec

open Idealize.ShloMosaic

/-- A matrix's shape. -/
abbrev Mat (a b : ℕ) : Shape := ⟨2, ![a, b]⟩

/-- Element `d` of the row `x` through the norm of weights `g`: `x * rsqrt (mean (x * x) + 1e-6) * g`. -/
def normed (x g : Fin 1024 → EReal) (d : Fin 1024) : EReal :=
  x d * Ideal.rsqrt (Ideal.div (∑ e, x e * x e) (Ideal.ofBits .f32 0x44800000#32) + Ideal.ofBits .f32 0x358637BD#32) * g d

end Cert.Spec

end
-- ==== Proof.DenseFfn.Value.lean ====
/- The dense feed-forward block: the kernel's result and the reference's are each row plus its norm through the gated hidden units. -/
module

public import proofs.«01_k».proof.Proof.Norm
public import proofs.«01_k».proof.Proof.Gen.Kernel2.Frame
public import proofs.«01_k».proof.Proof.Gen.Kernel2Ideal.Frame
public import proofs.«01_k».proof.Proof.Gen.Reference2Ideal.Run
public import Idealize.ShloMosaic.Lib.Pipeline.ValueKit

@[expose] public section

set_option maxRecDepth 16384

noncomputable section

namespace Cert.DenseFfn

open Idealize.ShloMosaic Idealize.ShloMosaic.TcCoe
open Cert.Spec (Mat)

/-- One hidden unit's contribution to an output element: `silu (h · w1) * (h · w3) * w2`. -/
def unit (h w1 w3 : Fin 1024 → EReal) (w2 : EReal) : EReal :=
  ((∑ d, h d * w1 d) * Ideal.logistic (∑ d, h d * w1 d) * ∑ d, h d * w3 d) * w2

/-- Element `j` of the block's row: the row's own, plus the sum over the hidden units of its norm. -/
def row (x g : Fin 1024 → EReal) (w1 w3 : Fin 1024 → Fin 2816 → EReal) (w2 : Fin 2816 → EReal) (j : Fin 1024) : EReal :=
  x j + ∑ k, unit (Cert.Spec.normed x g) (fun d => w1 d k) (fun d => w3 d k) (w2 k)

/-- Element `j` of row `r`. -/
def out (x : (Mat 65536 1024).Idx → EReal) (g : (Mat 1 1024).Idx → EReal) (w1 w3 : (Mat 1024 2816).Idx → EReal) (w2 : (Mat 2816 1024).Idx → EReal) (r : Fin 65536) (j : Fin 1024) : EReal :=
  row (fun e => x (ix2 r e)) (fun e => g (ix2 0 e)) (fun d k => w1 (ix2 d k)) (fun d k => w3 (ix2 d k)) (fun k => w2 (ix2 k j)) j

/-- A sum over the hidden units in five chunks of 512 and one of 256. -/
theorem sum_chunks (f : Fin 2816 → EReal) :
    ∑ k, f k = (∑ t : Fin 512, f ⟨0 + t.val, by omega⟩) + (∑ t : Fin 512, f ⟨512 + t.val, by omega⟩) + (∑ t : Fin 512, f ⟨1024 + t.val, by omega⟩)
      + (∑ t : Fin 512, f ⟨1536 + t.val, by omega⟩) + (∑ t : Fin 512, f ⟨2048 + t.val, by omega⟩) + ∑ t : Fin 256, f ⟨2560 + t.val, by omega⟩ := by
  have h1 : ∑ k, f k = (∑ a : Fin 2560, f ⟨a.val, by omega⟩) + ∑ t : Fin 256, f ⟨2560 + t.val, by omega⟩ := Fin.sum_univ_add (a := 2560) (b := 256) f
  have h2 : (∑ a : Fin 2560, f ⟨a.val, by omega⟩) = ∑ c : Fin 5, ∑ t : Fin 512, f ⟨c.val * 512 + t.val, by omega⟩ :=
    Fin.sum_univ_tiles 5 512 rfl (fun a : Fin 2560 => f ⟨a.val, by omega⟩)
  rw [h1, h2, Fin.sum_univ_five]
  rfl

end Cert.DenseFfn

namespace Cert.Kernel2Ideal.Hand

open Idealize.ShloMosaic Idealize.ShloMosaic.TcCoe Idealize.SL.Sem
open Idealize.ShloMosaic.Pipeline (Dat)
open Cert.Kernel2Ideal Cert.Kernel2Ideal.Gen

/-- The normed rows, at an index. -/
theorem normed_at (x : FVec Ideal S1024x1024 .f32) (g : FVec Ideal S1x1024 .f32) (i d : Fin 1024) :
    k0_pay2 (F := Ideal) x g (ix2 i d) = Cert.Spec.normed (fun e => x (ix2 i e)) (fun e => g (ix2 0 e)) d := by
  pointwise [k0_pay2, Cert.Spec.normed]

set_option maxHeartbeats 2000000 in
/-- What the body stores, at an index. -/
theorem out_at (x : FVec Ideal S1024x1024 .f32) (g : FVec Ideal S1x1024 .f32) (w1 w3 : FVec Ideal S1024x2816 .bf16) (w2 : FVec Ideal S2816x1024 .bf16) (fg : FVec Ideal S1x1024 .f32) (i j : Fin 1024) :
    out0_6 (F := Ideal) x g w1 w3 w2 fg (ix2 i j)
      = Cert.DenseFfn.row (fun e => x (ix2 i e)) (fun e => g (ix2 0 e)) (fun d k => w1 (ix2 d k)) (fun d k => w3 (ix2 d k)) (fun k => w2 (ix2 k j)) j := by
  unfold Cert.DenseFfn.row
  rw [Cert.DenseFfn.sum_chunks]
  unfold_out out0_6
  frame_out
  have hH := funext (normed_at x g i)
  rw [← hH]
  generalize hk : k0_pay2 (F := Ideal) x g = H
  pointwise [k0_pay1, k0_pay3, k0_pay4, k0_pay5, k0_pay6]
  subst hk
  rfl

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] :=
  (by decide +kernel : ∀ t : Fin grid0.N, _)

/-- The blocks a point reads. -/
def b0 (c : Dev nD) (t : Fin cfg0.N) : FVec Ideal S1024x1024 .f32 := iblk m c 0 t
def b1 (c : Dev nD) (t : Fin cfg0.N) : FVec Ideal S1x1024 .f32 := iblk m c 1 t
def b2 (c : Dev nD) (t : Fin cfg0.N) : FVec Ideal S1024x2816 .bf16 := iblk m c 2 t
def b3 (c : Dev nD) (t : Fin cfg0.N) : FVec Ideal S1024x2816 .bf16 := iblk m c 3 t
def b4 (c : Dev nD) (t : Fin cfg0.N) : FVec Ideal S2816x1024 .bf16 := iblk m c 4 t

/-- The result array. -/
theorem final (c : Dev nD) : (dats m 0 c).arrAt 6 (cfgs 0).N
    = (fun i => Cert.DenseFfn.out (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) : FVec Ideal S65536x1024 .f32) := by
  refine (dats m 0 c).arrAt_eq_of_covers 6 _ (by decide +kernel) fun t _ y => ?_
  blk_simp
  rw [after0_6]
  obtain ⟨i, j, rfl⟩ : ∃ (i j : Fin 1024), y = ix2 i j := ⟨y (0 : Fin 2), y (1 : Fin 2), (ix2_eta (n0 := 1024) (n1 := 1024) y).symm⟩
  refine (out_at _ _ _ _ _ _ i j).trans ?_
  have h0 : ∀ e : Fin 1024, b0 m c t (ix2 i e) = m ((c : Thread nD τ).loc main_arg0) (ix2 ((((cfg0.win 6).blk t).view.emb (ix2 i j : S1024x1024.Idx)) 0) e) := fun e => by
    blk_ext [b0, iblk, V, idx t]
  have h1 : ∀ e : Fin 1024, b1 m c t (ix2 0 e) = m ((c : Thread nD τ).loc main_arg1) (ix2 0 e) := fun e => by blk_ext [b1, iblk, V, idx t]
  have h2 : ∀ (d : Fin 1024) (k : Fin 2816), b2 m c t (ix2 d k) = m ((c : Thread nD τ).loc main_arg2) (ix2 d k) := fun d k => by blk_ext [b2, iblk, V, idx t]
  have h3 : ∀ (d : Fin 1024) (k : Fin 2816), b3 m c t (ix2 d k) = m ((c : Thread nD τ).loc main_arg3) (ix2 d k) := fun d k => by blk_ext [b3, iblk, V, idx t]
  have h4 : ∀ k : Fin 2816, b4 m c t (ix2 k j) = m ((c : Thread nD τ).loc main_arg4) (ix2 k ((((cfg0.win 6).blk t).view.emb (ix2 i j : S1024x1024.Idx)) 1)) := fun k => by
    blk_ext [b4, iblk, V, idx t]
  have hx : b0 m c t (ix2 i j) = m ((c : Thread nD τ).loc main_arg0) (ix2 ((((cfg0.win 6).blk t).view.emb (ix2 i j : S1024x1024.Idx)) 0) ((((cfg0.win 6).blk t).view.emb (ix2 i j : S1024x1024.Idx)) 1)) := by
    blk_ext [b0, iblk, V, idx t]
  refine congrArg₂ (fun a b : EReal => a + b) hx (Finset.sum_congr rfl fun k _ => ?_)
  refine Eq.trans (b := Cert.DenseFfn.unit (Cert.Spec.normed (fun e => b0 m c t (ix2 i e)) (fun e => b1 m c t (ix2 0 e))) (fun d => b2 m c t (ix2 d k)) (fun d => b3 m c t (ix2 d k)) (b4 m c t (ix2 k j))) rfl ?_
  rw [funext h0, funext h1, funext (fun d => h2 d k), funext (fun d => h3 d k), h4 k]

end Cert.Kernel2Ideal.Hand

namespace Cert.Reference2Ideal.Hand

open Idealize.ShloMosaic Idealize.ShloMosaic.TcCoe Idealize.SL.Sem
open Cert.Reference2Ideal Cert.Reference2Ideal.Gen

/-- The reference's result. -/
def ref (x : FVec Ideal S65536x1024 .f32) (g : FVec Ideal S1x1024 .f32) (w1 w3 : FVec Ideal S1024x2816 .bf16) (w2 : FVec Ideal S2816x1024 .bf16) : FVec Ideal S65536x1024 .f32 :=
  addf x (Host.dotGeneral dot_S65536x2816_S2816x1024_S65536x1024_1_0_0_1_n_n none (mulf (mulf (Host.dotGeneral dot_S65536x1024_S1024x2816_S65536x2816_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 g)) (extf .f32 w1 bitsLt_bf16_f32)) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (Host.dotGeneral dot_S65536x1024_S1024x2816_S65536x2816_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 g)) (extf .f32 w1 bitsLt_bf16_f32))))))) (Host.dotGeneral dot_S65536x1024_S1024x2816_S65536x2816_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 g)) (extf .f32 w3 bitsLt_bf16_f32))) (extf .f32 w2 bitsLt_bf16_f32))

theorem ref_at (x : FVec Ideal S65536x1024 .f32) (g : FVec Ideal S1x1024 .f32) (w1 w3 : FVec Ideal S1024x2816 .bf16) (w2 : FVec Ideal S2816x1024 .bf16) (r : Fin 65536) (j : Fin 1024) :
    ref x g w1 w3 w2 (ix2 r j) = Cert.DenseFfn.out x g w1 w3 w2 r j := by
  pointwise [ref, Cert.DenseFfn.out, Cert.DenseFfn.row, Cert.DenseFfn.unit, Cert.Spec.normed, Ideal.logistic]

theorem ref_eq (x : FVec Ideal S65536x1024 .f32) (g : FVec Ideal S1x1024 .f32) (w1 w3 : FVec Ideal S1024x2816 .bf16) (w2 : FVec Ideal S2816x1024 .bf16) :
    ref x g w1 w3 w2 = fun i => Cert.DenseFfn.out x g w1 w3 w2 (i 0) (i 1) := by
  funext i
  obtain ⟨r, j, rfl⟩ : ∃ (r : Fin 65536) (j : Fin 1024), i = ix2 r j := ⟨i (0 : Fin 2), i (1 : Fin 2), (ix2_eta (n0 := 65536) (n1 := 1024) i).symm⟩
  exact ref_at x g w1 w3 w2 r j

end Cert.Reference2Ideal.Hand

end
-- ==== Proof.InProj.Value.lean ====
/- The input projection: the kernel's result and the reference's are each row, normed, times the weights. -/
module

public import proofs.«01_k».proof.Proof.Norm
public import proofs.«01_k».proof.Proof.Gen.Kernel3.Frame
public import proofs.«01_k».proof.Proof.Gen.Kernel3Ideal.Frame
public import proofs.«01_k».proof.Proof.Gen.Reference3Ideal.Run
public import Idealize.ShloMosaic.Lib.Pipeline.ValueKit

@[expose] public section

set_option maxRecDepth 16384

noncomputable section

namespace Cert.InProj

open Idealize.ShloMosaic Idealize.ShloMosaic.TcCoe
open Cert.Spec (Mat)

/-- Element `j` of row `r`. -/
def out (x : (Mat 65536 1024).Idx → EReal) (g : (Mat 1 1024).Idx → EReal) (w : (Mat 1024 2560).Idx → EReal) (r : Fin 65536) (j : Fin 2560) : EReal :=
  ∑ d, Cert.Spec.normed (fun e => x (ix2 r e)) (fun e => g (ix2 0 e)) d * w (ix2 d j)

end Cert.InProj

namespace Cert.Kernel3Ideal.Hand

open Idealize.ShloMosaic Idealize.ShloMosaic.TcCoe Idealize.SL.Sem
open Idealize.ShloMosaic.Pipeline (Dat)
open Cert.Kernel3Ideal Cert.Kernel3Ideal.Gen

/-- What the body stores, at an index. -/
theorem pay_at (x : FVec Ideal S1024x1024 .f32) (g : FVec Ideal S1x1024 .f32) (w : FVec Ideal S1024x2560 .bf16) (i : Fin 1024) (j : Fin 2560) :
    k0_pay1 (F := Ideal) x g w (ix2 i j) = ∑ d, Cert.Spec.normed (fun e => x (ix2 i e)) (fun e => g (ix2 0 e)) d * w (ix2 d j) := by
  pointwise [k0_pay1, Cert.Spec.normed]

variable (m : (ℓ : Loc nD τ sig) → Buf (Elt Ideal) ℓ) (ρ : Dev nD → PrngReg)

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The blocks a point reads. -/
def b0 (c : Dev nD) (t : Fin cfg0.N) : FVec Ideal S1024x1024 .f32 := iblk m c 0 t
def b1 (c : Dev nD) (t : Fin cfg0.N) : FVec Ideal S1x1024 .f32 := iblk m c 1 t
def b2 (c : Dev nD) (t : Fin cfg0.N) : FVec Ideal S1024x2560 .bf16 := iblk m c 2 t

/-- The result array. -/
theorem final (c : Dev nD) : (dats m 0 c).arrAt 3 (cfgs 0).N
    = (fun i => Cert.InProj.out (m ((c : Thread nD τ).loc main_arg0)) (m ((c : Thread nD τ).loc main_arg1)) (m ((c : Thread nD τ).loc main_arg2)) (i 0) (i 1) : FVec Ideal S65536x2560 .f32) := by
  refine (dats m 0 c).arrAt_eq_of_covers 3 _ (by decide +kernel) fun t _ y => ?_
  blk_simp
  rw [after0_3]
  frame_out
  obtain ⟨i, j, rfl⟩ : ∃ (i : Fin 1024) (j : Fin 2560), y = ix2 i j := ⟨y (0 : Fin 2), y (1 : Fin 2), (ix2_eta (n0 := 1024) (n1 := 2560) y).symm⟩
  refine (pay_at _ _ _ i j).trans (Finset.sum_congr rfl fun d _ => ?_)
  have h0 : ∀ e : Fin 1024, b0 m c t (ix2 i e) = m ((c : Thread nD τ).loc main_arg0) (ix2 ((((cfg0.win 3).blk t).view.emb (ix2 i j : S1024x2560.Idx)) 0) e) := fun e => by
    blk_ext [b0, iblk, V, idx t]
  have h1 : ∀ e : Fin 1024, b1 m c t (ix2 0 e) = m ((c : Thread nD τ).loc main_arg1) (ix2 0 e) := fun e => by blk_ext [b1, iblk, V, idx t]
  have h2 : b2 m c t (ix2 d j) = m ((c : Thread nD τ).loc main_arg2) (ix2 d ((((cfg0.win 3).blk t).view.emb (ix2 i j : S1024x2560.Idx)) 1)) := by
    blk_ext [b2, iblk, V, idx t]
  exact Ideal.mul_congr (congrArg₂ (fun a b => Cert.Spec.normed a b d) (funext h0) (funext h1)) h2

end Cert.Kernel3Ideal.Hand

namespace Cert.Reference3Ideal.Hand

open Idealize.ShloMosaic Idealize.ShloMosaic.TcCoe Idealize.SL.Sem
open Cert.Reference3Ideal Cert.Reference3Ideal.Gen

/-- The reference's result. -/
def ref (x : FVec Ideal S65536x1024 .f32) (g : FVec Ideal S1x1024 .f32) (w : FVec Ideal S1024x2560 .bf16) : FVec Ideal S65536x2560 .f32 :=
  Host.dotGeneral dot_S65536x1024_S1024x2560_S65536x2560_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 g)) (extf .f32 w bitsLt_bf16_f32)

theorem ref_at (x : FVec Ideal S65536x1024 .f32) (g : FVec Ideal S1x1024 .f32) (w : FVec Ideal S1024x2560 .bf16) (r : Fin 65536) (j : Fin 2560) :
    ref x g w (ix2 r j) = Cert.InProj.out x g w r j := by
  pointwise [ref, Cert.InProj.out, Cert.Spec.normed]

theorem ref_eq (x : FVec Ideal S65536x1024 .f32) (g : FVec Ideal S1x1024 .f32) (w : FVec Ideal S1024x2560 .bf16) :
    ref x g w = fun i => Cert.InProj.out x g w (i 0) (i 1) := by
  funext i
  obtain ⟨r, j, rfl⟩ : ∃ (r : Fin 65536) (j : Fin 2560), i = ix2 r j := ⟨i (0 : Fin 2), i (1 : Fin 2), (ix2_eta (n0 := 65536) (n1 := 2560) i).symm⟩
  exact ref_at x g w r j

end Cert.Reference3Ideal.Hand

end
-- ==== Proof.Merge.Spec.lean ====
/- The merge of the four branches, stated row by row over the extended reals. -/
module

public import proofs.«01_k».proof.Proof.Norm

@[expose] public section

noncomputable section

namespace Cert.Merge

open Idealize.ShloMosaic
open Cert.Spec (Mat)

/-- The call's arguments. -/
structure Args where
  x : (Mat 65536 1024).Idx → EReal
  g : (Mat 1 1024).Idx → EReal
  gates : (Mat 1024 4096).Idx → EReal
  ya : (Mat 65536 256).Idx → EReal
  yd : (Mat 65536 256).Idx → EReal
  u : (Mat 65536 2560).Idx → EReal
  taps : (Mat 3 256).Idx → EReal
  mix : (⟨3, ![4, 64, 64]⟩ : Shape).Idx → EReal
  scale : (Mat 1 256).Idx → EReal
  branch : (Mat 1024 1024).Idx → EReal
  last : (Mat 1024 1024).Idx → EReal

variable (A : Args)

/-- What `f` is `s` rows before row `r`, in `r`'s own sequence of 2048 rows: nothing before the sequence's first row. -/
def before (f : Fin 65536 → EReal) (r : Fin 65536) (s : ℕ) : EReal :=
  if s ≤ r.val % 2048 then f ⟨r.val - s, by omega⟩ else 0

/-- How many rows a window of `w` has at the `n`-th row of a sequence, counted as the programs count them. -/
def count (n w : ℕ) : EReal := FloatOps.sitofp (F := Ideal) .f32 (IntOp.minsi (IntOp.addi 1#32 (BitVec.ofNat 32 n)) (BitVec.ofNat 32 w))

/-- The `i`-th 256 columns of `u`. -/
def col (i : ℕ) (hi : i < 10) (c : Fin 256) (r : Fin 65536) : EReal := A.u (ix2 r ⟨i * 256 + c.val, by omega⟩)

/-- The convolution's input, and the gated convolution of three rows. -/
def prod (c : Fin 256) (r : Fin 65536) : EReal := col A 5 (by omega) c r * col A 3 (by omega) c r
def conv (r : Fin 65536) (c : Fin 256) : EReal :=
  col A 4 (by omega) c r * (A.taps (ix2 0 c) * before (prod A c) r 2 + A.taps (ix2 1 c) * before (prod A c) r 1 + A.taps (ix2 2 c) * before (prod A c) r 0)

/-- The window of each group of 64 columns. -/
def width (g : ℕ) : ℕ := 2 ^ (g + 1)
/-- A row's trailing mean over its group's window, less the row. -/
def pooled (r : Fin 65536) (c : Fin 256) : EReal :=
  Ideal.div (∑ s ∈ Finset.range (width (c.val / 64)), before (col A 6 (by omega) c) r s) (count (r.val % 2048) (width (c.val / 64))) - col A 6 (by omega) c r
/-- Each group through its own 64 by 64 matrix, scaled. -/
def mixed (r : Fin 65536) (k : Fin 256) : EReal :=
  (∑ c : Fin 64, pooled A r ⟨k.val / 64 * 64 + c.val, by omega⟩ * A.mix (ix3 ⟨k.val / 64, by omega⟩ c ⟨k.val % 64, by omega⟩)) * A.scale (ix2 0 k)

/-- Gate `b` of a row, and a branch's row through its 256 rows of the projection. -/
def gate (r : Fin 65536) (b : ℕ) (hb : b < 4) (k : Fin 1024) : EReal :=
  Ideal.logistic (∑ d, Cert.Spec.normed (fun e => A.x (ix2 r e)) (fun e => A.g (ix2 0 e)) d * A.gates (ix2 d ⟨b * 1024 + k.val, by omega⟩))
def proj (b : ℕ) (hb : b < 4) (y : Fin 256 → EReal) (k : Fin 1024) : EReal :=
  ∑ e, y e * A.branch (ix2 ⟨b * 256 + e.val, by omega⟩ k)
def branch (r : Fin 65536) (b : ℕ) (hb : b < 4) (y : Fin 256 → EReal) (k : Fin 1024) : EReal := gate A r b hb k * proj A b hb y k

/-- Element `j` of row `r`. -/
def out (r : Fin 65536) (j : Fin 1024) : EReal :=
  A.x (ix2 r j) + ∑ k, (branch A r 0 (by omega) (fun e => A.ya (ix2 r e)) k + branch A r 1 (by omega) (conv A r) k + branch A r 2 (by omega) (mixed A r) k
    + branch A r 3 (by omega) (fun e => A.yd (ix2 r e)) k) * A.last (ix2 k j)

end Cert.Merge

end
-- ==== Proof.Merge.Scan.lean ====
/- What the merge's two scratch buffers hold: their rows as stored, and the running window totals got by doubling. -/
module

public import proofs.«01_k».proof.Proof.Gen.Kernel4Ideal.Frame
public import Idealize.ShloMosaic.Lib.Pipeline.ValueKit

@[expose] public section

set_option maxRecDepth 16384

noncomputable section

namespace Cert.Kernel4Ideal.Hand

open Idealize.ShloMosaic Idealize.ShloMosaic.TcCoe Idealize.SL.Sem
open Cert.Kernel4Ideal Cert.Kernel4Ideal.Gen

/-- A buffer of a sixteen-row history and a block's rows, as the pieces stored in it. -/
abbrev Pieces : Type := List (View.Piece (Elt Ideal) S1040x256 .f32)

/-- A band of rows stored last: inside it its rows are read, elsewhere what was there. -/
theorem canon_band {k : ℕ} (o : ℕ) (inb : ∀ a, (![o, 0] : Fin 2 → ℕ) a + (⟨2, ![k, 256]⟩ : Shape).size a ≤ S1040x256.size a)
    (P : (⟨2, ![k, 256]⟩ : Shape).Idx → EReal) (L : Pieces) (p : Fin 1040) (j : Fin 256) :
    View.canon (Val := Elt Ideal) (e := .f32) (⟨Rect.unit (s := S1040x256) ![o, 0] (⟨2, ![k, 256]⟩ : Shape).size inb, P⟩ :: L) (ix2 p j)
      = if h : o ≤ p.val ∧ p.val < o + k then P (ix2 ⟨p.val - o, by omega⟩ j) else View.canon L (ix2 p j) := by
  split_ifs with h
  · have he : (Rect.unit (s := S1040x256) ![o, 0] (⟨2, ![k, 256]⟩ : Shape).size inb).emb (ix2 (⟨p.val - o, by omega⟩ : Fin k) j) = (ix2 p j : S1040x256.Idx) := by
      funext x; apply Fin.ext
      fin_cases x
      · show o + 1 * (p.val - o) = p.val; omega
      · show 0 + 1 * j.val = j.val; omega
    rw [← he]
    exact View.canon_cons_emb (Val := Elt Ideal) (e := .f32) (Rect.unit (s := S1040x256) ![o, 0] (⟨2, ![k, 256]⟩ : Shape).size inb) P L _
  · refine View.canon_cons_of_not_mem (Val := Elt Ideal) (e := .f32) _ L ?_
    intro hm
    obtain ⟨i, hi, he⟩ := (LoadRect.mem_set _).mp hm (0 : Fin 2)
    have hi1 : i < k := hi
    have he' : p.val = o + 1 * i := he
    omega

/-- A band of rows read is those rows of the buffer. -/
theorem read_band {sig : RefSig} {κ : Kind} {sp : Space} {k : ℕ} (v : View sig κ sp S1040x256 .f32) (o : ℕ)
    (inb : ∀ a, (![o, 0] : Fin 2 → ℕ) a + (⟨2, ![k, 256]⟩ : Shape).size a ≤ S1040x256.size a)
    (L : Pieces) (q : Fin k) (p : Fin 1040) (hp : p.val = o + q.val) (j : Fin 256) :
    v.readCov L (Rect.unit (s := S1040x256) ![o, 0] (⟨2, ![k, 256]⟩ : Shape).size inb).toLoadRect (ix2 q j) = View.canon L (ix2 p j) := by
  rw [View.readCov_eq_canon']
  refine congrArg (View.canon L) ?_
  funext x; apply Fin.ext
  fin_cases x
  · show o + 1 * q.val = p.val; omega
  · show 0 + 1 * j.val = j.val; omega

/-- Row `p` of the buffer: the history's rows, then the block's. -/
def rowOf (A : FVec Ideal S16x256 .f32) (B : FVec Ideal S1024x256 .f32) (j : Fin 256) (p : ℕ) : EReal :=
  if h : p < 16 then A (ix2 ⟨p, h⟩ j) else if h : p < 1040 then B (ix2 ⟨p - 16, by omega⟩ j) else 0

/-- One doubling: from row `lo` on, each row gets the row `k` before it added. -/
def dbl (k lo : ℕ) (f : ℕ → EReal) (p : ℕ) : EReal := if lo ≤ p then f p + f (p - k) else f p

/-- The buffer as stored. -/
def put (A : FVec Ideal S16x256 .f32) (B : FVec Ideal S1024x256 .f32) : Pieces :=
  [⟨Rect.unit ![16, 0] ![1024, 256] inb_S1040x256_S1024x256_16_0, B⟩, ⟨Rect.unit ![0, 0] ![16, 256] inb_S1040x256_S16x256_0_0, A⟩]

theorem put_at (A : FVec Ideal S16x256 .f32) (B : FVec Ideal S1024x256 .f32) (p : Fin 1040) (j : Fin 256) :
    View.canon (put A B) (ix2 p j) = rowOf A B j p.val := by
  have hp := p.isLt
  refine (canon_band 16 _ B _ p j).trans ?_
  unfold rowOf
  by_cases h : p.val < 16
  · rw [dif_neg (by omega), dif_pos h]
    exact (canon_band 0 _ A [] p j).trans (dif_pos (by omega))
  · rw [dif_pos (by omega), dif_neg h, dif_pos hp]

/-- The view the scan reads and writes through. -/
abbrev V1 : View sig .tc .vmem S1040x256 .f32 := View.whole cc0_scratch1

/-- The buffer after the first doubling, -/
def scan1 (L : Pieces) : Pieces :=
  ⟨Rect.unit ![1, 0] ![1039, 256] inb_S1040x256_S1039x256_1_0, k0_pay12 (F := Ideal)
    (V1.readCov L (Rect.unit (s := S1040x256) ![1, 0] ![1039, 256] inb_S1040x256_S1039x256_1_0).toLoadRect)
    (V1.readCov L (Rect.unit (s := S1040x256) ![0, 0] ![1039, 256] inb_S1040x256_S1039x256_0_0).toLoadRect)⟩ :: L
/-- the second, -/
def scan2 (L : Pieces) : Pieces :=
  ⟨Rect.unit ![3, 0] ![1037, 256] inb_S1040x256_S1037x256_3_0, k0_pay14 (F := Ideal)
    (V1.readCov L (Rect.unit (s := S1040x256) ![3, 0] ![1037, 256] inb_S1040x256_S1037x256_3_0).toLoadRect)
    (V1.readCov L (Rect.unit (s := S1040x256) ![1, 0] ![1037, 256] inb_S1040x256_S1037x256_1_0).toLoadRect)⟩ :: L
/-- the third, -/
def scan3 (L : Pieces) : Pieces :=
  ⟨Rect.unit ![7, 0] ![1033, 256] inb_S1040x256_S1033x256_7_0, k0_pay16 (F := Ideal)
    (V1.readCov L (Rect.unit (s := S1040x256) ![7, 0] ![1033, 256] inb_S1040x256_S1033x256_7_0).toLoadRect)
    (V1.readCov L (Rect.unit (s := S1040x256) ![3, 0] ![1033, 256] inb_S1040x256_S1033x256_3_0).toLoadRect)⟩ :: L
/-- and the fourth. -/
def scan4 (L : Pieces) : Pieces :=
  ⟨Rect.unit ![15, 0] ![1025, 256] inb_S1040x256_S1025x256_15_0, k0_pay17 (F := Ideal)
    (V1.readCov L (Rect.unit (s := S1040x256) ![15, 0] ![1025, 256] inb_S1040x256_S1025x256_15_0).toLoadRect)
    (V1.readCov L (Rect.unit (s := S1040x256) ![7, 0] ![1025, 256] inb_S1040x256_S1025x256_7_0).toLoadRect)⟩ :: L

theorem pay12_at (a b : FVec Ideal S1039x256 .f32) (i : Fin 1039) (j : Fin 256) : k0_pay12 (F := Ideal) a b (ix2 i j) = a (ix2 i j) + b (ix2 i j) := by
  pointwise [k0_pay12]
theorem pay14_at (a b : FVec Ideal S1037x256 .f32) (i : Fin 1037) (j : Fin 256) : k0_pay14 (F := Ideal) a b (ix2 i j) = a (ix2 i j) + b (ix2 i j) := by
  pointwise [k0_pay14]
theorem pay16_at (a b : FVec Ideal S1033x256 .f32) (i : Fin 1033) (j : Fin 256) : k0_pay16 (F := Ideal) a b (ix2 i j) = a (ix2 i j) + b (ix2 i j) := by
  pointwise [k0_pay16]
theorem pay17_at (a b : FVec Ideal S1025x256 .f32) (i : Fin 1025) (j : Fin 256) : k0_pay17 (F := Ideal) a b (ix2 i j) = a (ix2 i j) + b (ix2 i j) := by
  pointwise [k0_pay17]

theorem scan1_at (L : Pieces) (f : ℕ → EReal) (j : Fin 256) (hf : ∀ p : Fin 1040, View.canon L (ix2 p j) = f p.val) (p : Fin 1040) :
    View.canon (scan1 L) (ix2 p j) = dbl 1 1 f p.val := by
  have hp := p.isLt
  refine (canon_band 1 _ _ L p j).trans ?_
  unfold dbl
  split_ifs with h h' h'
  · refine (pay12_at _ _ _ j).trans (congrArg₂ (· + ·) ?_ ?_)
    · exact (read_band (k := 1039) V1 1 _ L ⟨p.val - 1, by omega⟩ p (show p.val = 1 + (p.val - 1) by omega) j).trans (hf p)
    · exact (read_band (k := 1039) V1 0 _ L ⟨p.val - 1, by omega⟩ ⟨p.val - 1, by omega⟩ (show p.val - 1 = 0 + (p.val - 1) by omega) j).trans (hf _)
  · omega
  · omega
  · exact hf p

theorem scan2_at (L : Pieces) (f : ℕ → EReal) (j : Fin 256) (hf : ∀ p : Fin 1040, View.canon L (ix2 p j) = f p.val) (p : Fin 1040) :
    View.canon (scan2 L) (ix2 p j) = dbl 2 3 f p.val := by
  have hp := p.isLt
  refine (canon_band 3 _ _ L p j).trans ?_
  unfold dbl
  split_ifs with h h' h'
  · refine (pay14_at _ _ _ j).trans (congrArg₂ (· + ·) ?_ ?_)
    · exact (read_band (k := 1037) V1 3 _ L ⟨p.val - 3, by omega⟩ p (show p.val = 3 + (p.val - 3) by omega) j).trans (hf p)
    · exact (read_band (k := 1037) V1 1 _ L ⟨p.val - 3, by omega⟩ ⟨p.val - 2, by omega⟩ (show p.val - 2 = 1 + (p.val - 3) by omega) j).trans (hf _)
  · omega
  · omega
  · exact hf p

theorem scan3_at (L : Pieces) (f : ℕ → EReal) (j : Fin 256) (hf : ∀ p : Fin 1040, View.canon L (ix2 p j) = f p.val) (p : Fin 1040) :
    View.canon (scan3 L) (ix2 p j) = dbl 4 7 f p.val := by
  have hp := p.isLt
  refine (canon_band 7 _ _ L p j).trans ?_
  unfold dbl
  split_ifs with h h' h'
  · refine (pay16_at _ _ _ j).trans (congrArg₂ (· + ·) ?_ ?_)
    · exact (read_band (k := 1033) V1 7 _ L ⟨p.val - 7, by omega⟩ p (show p.val = 7 + (p.val - 7) by omega) j).trans (hf p)
    · exact (read_band (k := 1033) V1 3 _ L ⟨p.val - 7, by omega⟩ ⟨p.val - 4, by omega⟩ (show p.val - 4 = 3 + (p.val - 7) by omega) j).trans (hf _)
  · omega
  · omega
  · exact hf p

theorem scan4_at (L : Pieces) (f : ℕ → EReal) (j : Fin 256) (hf : ∀ p : Fin 1040, View.canon L (ix2 p j) = f p.val) (p : Fin 1040) :
    View.canon (scan4 L) (ix2 p j) = dbl 8 15 f p.val := by
  have hp := p.isLt
  refine (canon_band 15 _ _ L p j).trans ?_
  unfold dbl
  split_ifs with h h' h'
  · refine (pay17_at _ _ _ j).trans (congrArg₂ (· + ·) ?_ ?_)
    · exact (read_band (k := 1025) V1 15 _ L ⟨p.val - 15, by omega⟩ p (show p.val = 15 + (p.val - 15) by omega) j).trans (hf p)
    · exact (read_band (k := 1025) V1 7 _ L ⟨p.val - 15, by omega⟩ ⟨p.val - 8, by omega⟩ (show p.val - 8 = 7 + (p.val - 15) by omega) j).trans (hf _)
  · omega
  · omega
  · exact hf p

/-- The sum of a window of `w` rows ending at row `p`. -/
def win (w : ℕ) (f : ℕ → EReal) (p : ℕ) : EReal := ∑ s ∈ Finset.range w, f (p - s)

theorem win_one (f : ℕ → EReal) (p : ℕ) : win 1 f p = f p := by unfold win; rw [Finset.sum_range_one]; rfl

theorem win_double (w : ℕ) (f : ℕ → EReal) (p : ℕ) : win w f p + win w f (p - w) = win (w + w) f p := by
  unfold win
  rw [Finset.sum_range_add]
  refine congrArg (_ + ·) (Finset.sum_congr rfl fun s _ => ?_)
  rw [Nat.sub_sub]

theorem dbl1 (f : ℕ → EReal) (p : ℕ) (h : 1 ≤ p) : dbl 1 1 f p = win 2 f p := by
  unfold dbl; rw [if_pos h]
  simpa only [win_one] using win_double 1 f p
theorem dbl2 (f : ℕ → EReal) (p : ℕ) (h : 3 ≤ p) : dbl 2 3 (dbl 1 1 f) p = win 4 f p := by
  rw [dbl, if_pos h, dbl1 f p (by omega), dbl1 f (p - 2) (by omega)]
  exact win_double 2 f p
theorem dbl3 (f : ℕ → EReal) (p : ℕ) (h : 7 ≤ p) : dbl 4 7 (dbl 2 3 (dbl 1 1 f)) p = win 8 f p := by
  rw [dbl, if_pos h, dbl2 f p (by omega), dbl2 f (p - 4) (by omega)]
  exact win_double 4 f p
theorem dbl4 (f : ℕ → EReal) (p : ℕ) (h : 15 ≤ p) : dbl 8 15 (dbl 4 7 (dbl 2 3 (dbl 1 1 f))) p = win 16 f p := by
  rw [dbl, if_pos h, dbl3 f p (by omega), dbl3 f (p - 8) (by omega)]
  exact win_double 8 f p

/-- The block's rows of each scanned buffer are window sums. -/
theorem read16 (L : Pieces) (f : ℕ → EReal) (j : Fin 256) (hf : ∀ p : Fin 1040, View.canon L (ix2 p j) = f p.val) (i : Fin 1024) :
    V1.readCov L (Rect.unit (s := S1040x256) ![16, 0] ![1024, 256] inb_S1040x256_S1024x256_16_0).toLoadRect (ix2 i j) = f (16 + i.val) :=
  (read_band V1 16 inb_S1040x256_S1024x256_16_0 L i ⟨16 + i.val, by omega⟩ rfl j).trans (hf _)

variable (A : FVec Ideal S16x256 .f32) (B : FVec Ideal S1024x256 .f32) (i : Fin 1024) (j : Fin 256)

theorem sum2_at : V1.readCov (scan1 (put A B)) (Rect.unit (s := S1040x256) ![16, 0] ![1024, 256] inb_S1040x256_S1024x256_16_0).toLoadRect (ix2 i j)
    = win 2 (rowOf A B j) (16 + i.val) :=
  (read16 _ _ j (scan1_at _ _ j fun p => put_at A B p j) i).trans (dbl1 _ _ (by omega))
theorem sum4_at : V1.readCov (scan2 (scan1 (put A B))) (Rect.unit (s := S1040x256) ![16, 0] ![1024, 256] inb_S1040x256_S1024x256_16_0).toLoadRect (ix2 i j)
    = win 4 (rowOf A B j) (16 + i.val) :=
  (read16 _ _ j (scan2_at _ _ j (scan1_at _ _ j fun p => put_at A B p j)) i).trans (dbl2 _ _ (by omega))
theorem sum8_at : V1.readCov (scan3 (scan2 (scan1 (put A B)))) (Rect.unit (s := S1040x256) ![16, 0] ![1024, 256] inb_S1040x256_S1024x256_16_0).toLoadRect (ix2 i j)
    = win 8 (rowOf A B j) (16 + i.val) :=
  (read16 _ _ j (scan3_at _ _ j (scan2_at _ _ j (scan1_at _ _ j fun p => put_at A B p j))) i).trans (dbl3 _ _ (by omega))
theorem sum16_at : V1.readCov (scan4 (scan3 (scan2 (scan1 (put A B))))) (Rect.unit (s := S1040x256) ![16, 0] ![1024, 256] inb_S1040x256_S1024x256_16_0).toLoadRect (ix2 i j)
    = win 16 (rowOf A B j) (16 + i.val) :=
  (read16 _ _ j (scan4_at _ _ j (scan3_at _ _ j (scan2_at _ _ j (scan1_at _ _ j fun p => put_at A B p j)))) i).trans (dbl4 _ _ (by omega))

end Cert.Kernel4Ideal.Hand

end
-- ==== Proof.Merge.Block.lean ====
/- What the merge's body stores at a grid point, of the blocks it reads, and what the blocks are of the arguments. -/
module

public import proofs.«01_k».proof.Proof.Merge.Spec
public import proofs.«01_k».proof.Proof.Merge.Scan

@[expose] public section

set_option maxRecDepth 16384

noncomputable section

namespace Cert.Kernel4Ideal.Hand

open Idealize.ShloMosaic Idealize.ShloMosaic.TcCoe Idealize.SL.Sem
open Cert.Kernel4Ideal Cert.Kernel4Ideal.Gen

variable (m : (ℓ : Loc nD τ sig) → Buf (Elt Ideal) ℓ)

/-- The blocks a point reads. -/
def b0 (c : Dev nD) (t : Fin cfg0.N) : FVec Ideal S1024x1024 .f32 := iblk m c 0 t
def b1 (c : Dev nD) (t : Fin cfg0.N) : FVec Ideal S1x1024 .f32 := iblk m c 1 t
def b2 (c : Dev nD) (t : Fin cfg0.N) : FVec Ideal S1024x4096 .bf16 := iblk m c 2 t
def b3 (c : Dev nD) (t : Fin cfg0.N) : FVec Ideal S1024x256 .bf16 := iblk m c 3 t
def b4 (c : Dev nD) (t : Fin cfg0.N) : FVec Ideal S1024x256 .bf16 := iblk m c 4 t
def b5 (c : Dev nD) (t : Fin cfg0.N) : FVec Ideal S1024x256 .f32 := iblk m c 5 t
def b6 (c : Dev nD) (t : Fin cfg0.N) : FVec Ideal S1024x256 .f32 := iblk m c 6 t
def b7 (c : Dev nD) (t : Fin cfg0.N) : FVec Ideal S1024x256 .f32 := iblk m c 7 t
def b8 (c : Dev nD) (t : Fin cfg0.N) : FVec Ideal S1024x256 .f32 := iblk m c 8 t
def b9 (c : Dev nD) (t : Fin cfg0.N) : FVec Ideal S16x256 .f32 := iblk m c 9 t
def b10 (c : Dev nD) (t : Fin cfg0.N) : FVec Ideal S16x256 .f32 := iblk m c 10 t
def b11 (c : Dev nD) (t : Fin cfg0.N) : FVec Ideal S16x256 .f32 := iblk m c 11 t
def b12 (c : Dev nD) (t : Fin cfg0.N) : FVec Ideal S3x256 .f32 := iblk m c 12 t
def b13 (c : Dev nD) (t : Fin cfg0.N) : FVec Ideal S256x256 .bf16 := iblk m c 13 t
def b14 (c : Dev nD) (t : Fin cfg0.N) : FVec Ideal S1x256 .f32 := iblk m c 14 t
def b15 (c : Dev nD) (t : Fin cfg0.N) : FVec Ideal S1024x1024 .bf16 := iblk m c 15 t
def b16 (c : Dev nD) (t : Fin cfg0.N) : FVec Ideal S1024x1024 .bf16 := iblk m c 16 t

/-- A point's first row, as a word, and its place in its sequence. -/
def first (t : Fin cfg0.N) : BitVec 32 := Scalar.muli (BitVec.ofNat 32 ↑(grid0.coords t 0)) 1024#32
def rem (t : Fin cfg0.N) : BitVec 32 := Scalar.remsi (first t) 2048#32
def place (t : Fin cfg0.N) : BitVec 32 :=
  Scalar.select (Scalar.andi (Scalar.xori (Scalar.cmpi CmpIPredicate.slt (rem t) 0#32) 0#1) (Scalar.cmpi CmpIPredicate.ne (rem t) 0#32)) (Scalar.addi (rem t) 2048#32) (rem t)

theorem place_eq : ∀ t : Fin cfg0.N, place t = BitVec.ofNat 32 (t.val % 2 * 1024) := (by decide +kernel : ∀ t : Fin grid0.N, _)
theorem later_eq : ∀ t : Fin cfg0.N, Scalar.cmpi CmpIPredicate.sgt (place t) 0#32 = if t.val % 2 = 1 then 1#1 else 0#1 := (by decide +kernel : ∀ t : Fin grid0.N, _)

/-- The convolution's scratch rows and the pool's. -/
def convHist (c : Dev nD) (t : Fin cfg0.N) : FVec Ideal S16x256 .f32 := k0_pay5 (F := Ideal) (first t) 2048#32 0#1 1#32 (b10 m c t) (b9 m c t)
def convRows (c : Dev nD) (t : Fin cfg0.N) : FVec Ideal S1024x256 .f32 := k0_pay6 (F := Ideal) (b7 m c t) (b5 m c t)
def poolHist (c : Dev nD) (t : Fin cfg0.N) : FVec Ideal S16x256 .f32 := k0_pay9 (F := Ideal) (Scalar.cmpi CmpIPredicate.sgt (place t) 0#32) (b11 m c t)
def poolRows (c : Dev nD) (t : Fin cfg0.N) : FVec Ideal S1024x256 .f32 := k0_pay10 (F := Ideal) (b8 m c t)

/-- The rows `16 - o` back of the convolution's scratch. -/
def V0 : View sig .tc .vmem S1040x256 .f32 := View.whole cc0_scratch0
def u14 (c : Dev nD) (t : Fin cfg0.N) : FVec Ideal S1024x256 .f32 :=
  V0.readCov (put (convHist m c t) (convRows m c t)) (Rect.unit (s := S1040x256) ![14, 0] ![1024, 256] inb_S1040x256_S1024x256_14_0).toLoadRect
def u15 (c : Dev nD) (t : Fin cfg0.N) : FVec Ideal S1024x256 .f32 :=
  V0.readCov (put (convHist m c t) (convRows m c t)) (Rect.unit (s := S1040x256) ![15, 0] ![1024, 256] inb_S1040x256_S1024x256_15_0).toLoadRect
def u16 (c : Dev nD) (t : Fin cfg0.N) : FVec Ideal S1024x256 .f32 :=
  V0.readCov (put (convHist m c t) (convRows m c t)) (Rect.unit (s := S1040x256) ![16, 0] ![1024, 256] inb_S1040x256_S1024x256_16_0).toLoadRect

/-- The pool's window sums. -/
def s2 (c : Dev nD) (t : Fin cfg0.N) : FVec Ideal S1024x256 .f32 :=
  V1.readCov (scan1 (put (poolHist m c t) (poolRows m c t))) (Rect.unit (s := S1040x256) ![16, 0] ![1024, 256] inb_S1040x256_S1024x256_16_0).toLoadRect
def s4 (c : Dev nD) (t : Fin cfg0.N) : FVec Ideal S1024x256 .f32 :=
  V1.readCov (scan2 (scan1 (put (poolHist m c t) (poolRows m c t)))) (Rect.unit (s := S1040x256) ![16, 0] ![1024, 256] inb_S1040x256_S1024x256_16_0).toLoadRect
def s8 (c : Dev nD) (t : Fin cfg0.N) : FVec Ideal S1024x256 .f32 :=
  V1.readCov (scan3 (scan2 (scan1 (put (poolHist m c t) (poolRows m c t))))) (Rect.unit (s := S1040x256) ![16, 0] ![1024, 256] inb_S1040x256_S1024x256_16_0).toLoadRect
def s16 (c : Dev nD) (t : Fin cfg0.N) : FVec Ideal S1024x256 .f32 :=
  V1.readCov (scan4 (scan3 (scan2 (scan1 (put (poolHist m c t) (poolRows m c t)))))) (Rect.unit (s := S1040x256) ![16, 0] ![1024, 256] inb_S1040x256_S1024x256_16_0).toLoadRect

/-- The taps, the gates' weights and the branches' projections, as loaded. -/
def tap0 (c : Dev nD) (t : Fin cfg0.N) : FVec Ideal S1x256 .f32 := View.ld (Val := Elt Ideal) (S := S3x256) (e' := .f32) (b12 m c t) (Rect.unit (s := S3x256) ![0, 0] ![1, 256] inb_S3x256_S1x256_0_0)
def tap1 (c : Dev nD) (t : Fin cfg0.N) : FVec Ideal S1x256 .f32 := View.ld (Val := Elt Ideal) (S := S3x256) (e' := .f32) (b12 m c t) (Rect.unit (s := S3x256) ![1, 0] ![1, 256] inb_S3x256_S1x256_1_0)
def tap2 (c : Dev nD) (t : Fin cfg0.N) : FVec Ideal S1x256 .f32 := View.ld (Val := Elt Ideal) (S := S3x256) (e' := .f32) (b12 m c t) (Rect.unit (s := S3x256) ![2, 0] ![1, 256] inb_S3x256_S1x256_2_0)
def g0 (c : Dev nD) (t : Fin cfg0.N) : FVec Ideal S1024x1024 .bf16 := View.ld (Val := Elt Ideal) (S := S1024x4096) (e' := .bf16) (b2 m c t) (Rect.unit (s := S1024x4096) ![0, 0] ![1024, 1024] inb_S1024x4096_S1024x1024_0_0)
def g1 (c : Dev nD) (t : Fin cfg0.N) : FVec Ideal S1024x1024 .bf16 := View.ld (Val := Elt Ideal) (S := S1024x4096) (e' := .bf16) (b2 m c t) (Rect.unit (s := S1024x4096) ![0, 1024] ![1024, 1024] inb_S1024x4096_S1024x1024_0_1024)
def g2 (c : Dev nD) (t : Fin cfg0.N) : FVec Ideal S1024x1024 .bf16 := View.ld (Val := Elt Ideal) (S := S1024x4096) (e' := .bf16) (b2 m c t) (Rect.unit (s := S1024x4096) ![0, 2048] ![1024, 1024] inb_S1024x4096_S1024x1024_0_2048)
def g3 (c : Dev nD) (t : Fin cfg0.N) : FVec Ideal S1024x1024 .bf16 := View.ld (Val := Elt Ideal) (S := S1024x4096) (e' := .bf16) (b2 m c t) (Rect.unit (s := S1024x4096) ![0, 3072] ![1024, 1024] inb_S1024x4096_S1024x1024_0_3072)
def p0 (c : Dev nD) (t : Fin cfg0.N) : FVec Ideal S256x1024 .bf16 := View.ld (Val := Elt Ideal) (S := S1024x1024) (e' := .bf16) (b15 m c t) (Rect.unit (s := S1024x1024) ![0, 0] ![256, 1024] inb_S1024x1024_S256x1024_0_0)
def p1 (c : Dev nD) (t : Fin cfg0.N) : FVec Ideal S256x1024 .bf16 := View.ld (Val := Elt Ideal) (S := S1024x1024) (e' := .bf16) (b15 m c t) (Rect.unit (s := S1024x1024) ![256, 0] ![256, 1024] inb_S1024x1024_S256x1024_256_0)
def p2 (c : Dev nD) (t : Fin cfg0.N) : FVec Ideal S256x1024 .bf16 := View.ld (Val := Elt Ideal) (S := S1024x1024) (e' := .bf16) (b15 m c t) (Rect.unit (s := S1024x1024) ![512, 0] ![256, 1024] inb_S1024x1024_S256x1024_512_0)
def p3 (c : Dev nD) (t : Fin cfg0.N) : FVec Ideal S256x1024 .bf16 := View.ld (Val := Elt Ideal) (S := S1024x1024) (e' := .bf16) (b15 m c t) (Rect.unit (s := S1024x1024) ![768, 0] ![256, 1024] inb_S1024x1024_S256x1024_768_0)

/-- The convolution's branch and the pool's. -/
def convB (c : Dev nD) (t : Fin cfg0.N) : FVec Ideal S1024x256 .bf16 :=
  k0_pay8 (F := Ideal) (k0_pay7 (F := Ideal) (tap2 m c t) (u16 m c t)) (tap0 m c t) (u14 m c t) (tap1 m c t) (u15 m c t) (b6 m c t)
def posB (t : Fin cfg0.N) : IVec S1024x1 32 := k0_pay4 (first t) 2048#32 0#1 1#32
def poolB (c : Dev nD) (t : Fin cfg0.N) : FVec Ideal S1024x256 .bf16 :=
  k0_pay18 (F := Ideal) (posB t) (iota Kind.tc S1024x256 32 [1] iota_S1024x256_d1_w32)
    (k0_pay15 (F := Ideal) (posB t) (iota Kind.tc S1024x256 32 [1] iota_S1024x256_d1_w32) (k0_pay11 (F := Ideal)) (k0_pay13 (posB t)) (s2 m c t) (s4 m c t))
    (s8 m c t) (s16 m c t) (b8 m c t)

/-- What a point stores. -/
def stored (c : Dev nD) (t : Fin cfg0.N) : FVec Ideal S1024x1024 .f32 :=
  k0_pay1 (F := Ideal) (b0 m c t) (k0_pay2 (F := Ideal) (b0 m c t) (b1 m c t))
    (k0_pay3 (F := Ideal) (b0 m c t) (b1 m c t) (b3 m c t) (g0 m c t) (p0 m c t) (b4 m c t) (g3 m c t) (p3 m c t))
    (convB m c t) (poolB m c t) (b13 m c t) (b14 m c t) (g1 m c t) (p1 m c t) (g2 m c t) (p2 m c t) (b16 m c t)

theorem outs_eq (c : Dev nD) (t : Fin cfg0.N) : outsAt0 m c t = stored m c t := by
  unfold outsAt0 out0_A_17 kernelRun0_A
  dsimp only
  frame_out
  rfl

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 3] ∧ win0_6.index t = ![t.val, 4] ∧ win0_7.index t = ![t.val, 5] ∧ win0_8.index t = ![t.val, 6]
    ∧ win0_9.index t = ![t.val * 64 - 1, 3] ∧ win0_10.index t = ![t.val * 64 - 1, 5] ∧ win0_11.index t = ![t.val * 64 - 1, 6]
    ∧ win0_12.index t = ![0, 0] ∧ win0_13.index t = ![0, 0] ∧ win0_14.index t = ![0, 0] ∧ win0_15.index t = ![0, 0] ∧ win0_16.index t = ![0, 0] ∧ win0_17.index t = ![t.val, 0] :=
  (by decide +kernel : ∀ t : Fin grid0.N, _)

/-- The arguments. -/
def args (c : Dev nD) : Cert.Merge.Args where
  x := m ((c : Thread nD τ).loc main_arg0)
  g := m ((c : Thread nD τ).loc main_arg1)
  gates := m ((c : Thread nD τ).loc main_arg2)
  ya := m ((c : Thread nD τ).loc main_arg3)
  yd := m ((c : Thread nD τ).loc main_arg4)
  u := m ((c : Thread nD τ).loc main_arg5)
  taps := m ((c : Thread nD τ).loc main_arg6)
  mix := m ((c : Thread nD τ).loc main_arg7)
  scale := m ((c : Thread nD τ).loc main_arg8)
  branch := m ((c : Thread nD τ).loc main_arg9)
  last := m ((c : Thread nD τ).loc main_arg10)

/-- Row `i` of point `t`'s block. -/
def rowAt (t : Fin cfg0.N) (i : Fin 1024) : Fin 65536 := ⟨t.val * 1024 + i.val, by have h : t.val < 64 := t.isLt; omega⟩

variable (c : Dev nD) (t : Fin cfg0.N)

theorem b0_at (i j : Fin 1024) : b0 m c t (ix2 i j) = (args m c).x (ix2 (rowAt t i) j) := by
  show _ = m ((c : Thread nD τ).loc main_arg0) _
  rw [← V_main_arg0 m c]; blk_ext [b0, iblk, rowAt, idx t]
theorem b1_at (j : Fin 1024) : b1 m c t (ix2 0 j) = (args m c).g (ix2 0 j) := by
  show _ = m ((c : Thread nD τ).loc main_arg1) _
  rw [← V_main_arg1 m c]; blk_ext [b1, iblk, rowAt, idx t]
theorem b2_at (i : Fin 1024) (j : Fin 4096) : b2 m c t (ix2 i j) = (args m c).gates (ix2 i j) := by
  show _ = m ((c : Thread nD τ).loc main_arg2) _
  rw [← V_main_arg2 m c]; blk_ext [b2, iblk, rowAt, idx t]
theorem b3_at (i : Fin 1024) (j : Fin 256) : b3 m c t (ix2 i j) = (args m c).ya (ix2 (rowAt t i) j) := by
  show _ = m ((c : Thread nD τ).loc main_arg3) _
  rw [← V_main_arg3 m c]; blk_ext [b3, iblk, rowAt, idx t]
theorem b4_at (i : Fin 1024) (j : Fin 256) : b4 m c t (ix2 i j) = (args m c).yd (ix2 (rowAt t i) j) := by
  show _ = m ((c : Thread nD τ).loc main_arg4) _
  rw [← V_main_arg4 m c]; blk_ext [b4, iblk, rowAt, idx t]
theorem b5_at (i : Fin 1024) (j : Fin 256) : b5 m c t (ix2 i j) = Cert.Merge.col (args m c) 3 (by omega) j (rowAt t i) := by
  show _ = m ((c : Thread nD τ).loc main_arg5) _
  rw [← V_main_arg5 m c]; blk_ext [b5, iblk, rowAt, idx t]
theorem b6_at (i : Fin 1024) (j : Fin 256) : b6 m c t (ix2 i j) = Cert.Merge.col (args m c) 4 (by omega) j (rowAt t i) := by
  show _ = m ((c : Thread nD τ).loc main_arg5) _
  rw [← V_main_arg5 m c]; blk_ext [b6, iblk, rowAt, idx t]
theorem b7_at (i : Fin 1024) (j : Fin 256) : b7 m c t (ix2 i j) = Cert.Merge.col (args m c) 5 (by omega) j (rowAt t i) := by
  show _ = m ((c : Thread nD τ).loc main_arg5) _
  rw [← V_main_arg5 m c]; blk_ext [b7, iblk, rowAt, idx t]
theorem b8_at (i : Fin 1024) (j : Fin 256) : b8 m c t (ix2 i j) = Cert.Merge.col (args m c) 6 (by omega) j (rowAt t i) := by
  show _ = m ((c : Thread nD τ).loc main_arg5) _
  rw [← V_main_arg5 m c]; blk_ext [b8, iblk, rowAt, idx t]
theorem b9_at (i : Fin 16) (j : Fin 256) (r : Fin 65536) (hr : r.val = (t.val * 64 - 1) * 16 + i.val) : b9 m c t (ix2 i j) = Cert.Merge.col (args m c) 3 (by omega) j r := by
  show _ = m ((c : Thread nD τ).loc main_arg5) _
  rw [← V_main_arg5 m c]; blk_ext [b9, iblk, idx t, hr]
theorem b10_at (i : Fin 16) (j : Fin 256) (r : Fin 65536) (hr : r.val = (t.val * 64 - 1) * 16 + i.val) : b10 m c t (ix2 i j) = Cert.Merge.col (args m c) 5 (by omega) j r := by
  show _ = m ((c : Thread nD τ).loc main_arg5) _
  rw [← V_main_arg5 m c]; blk_ext [b10, iblk, idx t, hr]
theorem b11_at (i : Fin 16) (j : Fin 256) (r : Fin 65536) (hr : r.val = (t.val * 64 - 1) * 16 + i.val) : b11 m c t (ix2 i j) = Cert.Merge.col (args m c) 6 (by omega) j r := by
  show _ = m ((c : Thread nD τ).loc main_arg5) _
  rw [← V_main_arg5 m c]; blk_ext [b11, iblk, idx t, hr]
theorem b12_at (i : Fin 3) (j : Fin 256) : b12 m c t (ix2 i j) = (args m c).taps (ix2 i j) := by
  show _ = m ((c : Thread nD τ).loc main_arg6) _
  rw [← V_main_arg6 m c]; blk_ext [b12, iblk, rowAt, idx t]
theorem b14_at (j : Fin 256) : b14 m c t (ix2 0 j) = (args m c).scale (ix2 0 j) := by
  show _ = m ((c : Thread nD τ).loc main_arg8) _
  rw [← V_main_arg8 m c]; blk_ext [b14, iblk, rowAt, idx t]
theorem b15_at (i j : Fin 1024) : b15 m c t (ix2 i j) = (args m c).branch (ix2 i j) := by
  show _ = m ((c : Thread nD τ).loc main_arg9) _
  rw [← V_main_arg9 m c]; blk_ext [b15, iblk, rowAt, idx t]
theorem b16_at (i j : Fin 1024) : b16 m c t (ix2 i j) = (args m c).last (ix2 i j) := by
  show _ = m ((c : Thread nD τ).loc main_arg10) _
  rw [← V_main_arg10 m c]; blk_ext [b16, iblk, rowAt, idx t]

/-- The loads of a few rows or columns. -/
theorem tap0_at (j : Fin 256) : tap0 m c t (ix2 0 j) = (args m c).taps (ix2 0 j) := by
  refine Eq.trans ?_ (b12_at m c t 0 j)
  refine congrArg (b12 m c t) (funext fun x => Fin.ext ?_)
  fin_cases x
  · rfl
  · show 0 + 1 * j.val = j.val; omega
theorem tap1_at (j : Fin 256) : tap1 m c t (ix2 0 j) = (args m c).taps (ix2 1 j) := by
  refine Eq.trans ?_ (b12_at m c t 1 j)
  refine congrArg (b12 m c t) (funext fun x => Fin.ext ?_)
  fin_cases x
  · rfl
  · show 0 + 1 * j.val = j.val; omega
theorem tap2_at (j : Fin 256) : tap2 m c t (ix2 0 j) = (args m c).taps (ix2 2 j) := by
  refine Eq.trans ?_ (b12_at m c t 2 j)
  refine congrArg (b12 m c t) (funext fun x => Fin.ext ?_)
  fin_cases x
  · rfl
  · show 0 + 1 * j.val = j.val; omega
theorem g0_at (i j : Fin 1024) : g0 m c t (ix2 i j) = (args m c).gates (ix2 i ⟨0 * 1024 + j.val, by omega⟩) := by
  refine Eq.trans ?_ (b2_at m c t i _)
  refine congrArg (b2 m c t) (funext fun x => Fin.ext ?_)
  fin_cases x
  · show 0 + 1 * i.val = i.val; omega
  · show 0 + 1 * j.val = 0 * 1024 + j.val; omega
theorem g1_at (i j : Fin 1024) : g1 m c t (ix2 i j) = (args m c).gates (ix2 i ⟨1 * 1024 + j.val, by omega⟩) := by
  refine Eq.trans ?_ (b2_at m c t i _)
  refine congrArg (b2 m c t) (funext fun x => Fin.ext ?_)
  fin_cases x
  · show 0 + 1 * i.val = i.val; omega
  · show 1024 + 1 * j.val = 1 * 1024 + j.val; omega
theorem g2_at (i j : Fin 1024) : g2 m c t (ix2 i j) = (args m c).gates (ix2 i ⟨2 * 1024 + j.val, by omega⟩) := by
  refine Eq.trans ?_ (b2_at m c t i _)
  refine congrArg (b2 m c t) (funext fun x => Fin.ext ?_)
  fin_cases x
  · show 0 + 1 * i.val = i.val; omega
  · show 2048 + 1 * j.val = 2 * 1024 + j.val; omega
theorem g3_at (i j : Fin 1024) : g3 m c t (ix2 i j) = (args m c).gates (ix2 i ⟨3 * 1024 + j.val, by omega⟩) := by
  refine Eq.trans ?_ (b2_at m c t i _)
  refine congrArg (b2 m c t) (funext fun x => Fin.ext ?_)
  fin_cases x
  · show 0 + 1 * i.val = i.val; omega
  · show 3072 + 1 * j.val = 3 * 1024 + j.val; omega
theorem p0_at (i : Fin 256) (j : Fin 1024) : p0 m c t (ix2 i j) = (args m c).branch (ix2 ⟨0 * 256 + i.val, by omega⟩ j) := by
  refine Eq.trans ?_ (b15_at m c t _ j)
  refine congrArg (b15 m c t) (funext fun x => Fin.ext ?_)
  fin_cases x
  · show 0 + 1 * i.val = 0 * 256 + i.val; omega
  · show 0 + 1 * j.val = j.val; omega
theorem p1_at (i : Fin 256) (j : Fin 1024) : p1 m c t (ix2 i j) = (args m c).branch (ix2 ⟨1 * 256 + i.val, by omega⟩ j) := by
  refine Eq.trans ?_ (b15_at m c t _ j)
  refine congrArg (b15 m c t) (funext fun x => Fin.ext ?_)
  fin_cases x
  · show 256 + 1 * i.val = 1 * 256 + i.val; omega
  · show 0 + 1 * j.val = j.val; omega
theorem p2_at (i : Fin 256) (j : Fin 1024) : p2 m c t (ix2 i j) = (args m c).branch (ix2 ⟨2 * 256 + i.val, by omega⟩ j) := by
  refine Eq.trans ?_ (b15_at m c t _ j)
  refine congrArg (b15 m c t) (funext fun x => Fin.ext ?_)
  fin_cases x
  · show 512 + 1 * i.val = 2 * 256 + i.val; omega
  · show 0 + 1 * j.val = j.val; omega
theorem p3_at (i : Fin 256) (j : Fin 1024) : p3 m c t (ix2 i j) = (args m c).branch (ix2 ⟨3 * 256 + i.val, by omega⟩ j) := by
  refine Eq.trans ?_ (b15_at m c t _ j)
  refine congrArg (b15 m c t) (funext fun x => Fin.ext ?_)
  fin_cases x
  · show 768 + 1 * i.val = 3 * 256 + i.val; omega
  · show 0 + 1 * j.val = j.val; omega

end Cert.Kernel4Ideal.Hand

end
-- ==== Proof.Merge.Matrix.lean ====
/- The matrix the host makes of the four groups' matrices: each on the diagonal, zeros elsewhere. -/
module

public import proofs.«01_k».proof.Proof.Merge.Block
public import Idealize.ShloMosaic.Lib.StableHlo.ReadAt

@[expose] public section

set_option maxRecDepth 16384

noncomputable section

namespace Cert.Kernel4Ideal.Hand

open Idealize.ShloMosaic Idealize.ShloMosaic.TcCoe Idealize.ShloMosaic.Tactic Idealize.SL.Sem
open Cert.Kernel4Ideal Cert.Kernel4Ideal.Gen

variable (m : (ℓ : Loc nD τ sig) → Buf (Elt Ideal) ℓ)

/-- The host's matrix, of the groups' matrices. -/
def diag (w : FVec Ideal S4x64x64 .f32) : FVec Ideal S256x256 .bf16 :=
  truncf .bf16 (shapeCast S256x256 (mulf
    (broadcastInDim S4x64x4x64 ![0, 1, 2, 3] bcast_S4x1x4x1_S4x64x4x64_0_1_2_3 (broadcastInDim S4x1x4x1 ![0, 2] bcast_S4x4_S4x1x4x1_0_2
      (uitofp .f32 (cmpi .eq (addi (iotaInDim S4x4 32 0) (broadcastInDim S4x4 ![] bcast_S_S4x4 (constantI S_ 32 0#32))) (iotaInDim S4x4 32 1)))))
    (broadcastInDim S4x64x4x64 ![0, 1, 2, 3] bcast_S4x64x1x64_S4x64x4x64_0_1_2_3 (broadcastInDim S4x64x1x64 ![0, 1, 3] bcast_S4x64x64_S4x64x1x64_0_1_3 w)))
    shapeCasts_S4x64x4x64_S256x256) bitsLt_bf16_f32

theorem V_main_v12 (c : Dev nD) : V m c main_v12 = diag (m ((c : Thread nD τ).loc main_arg7)) := by
  unfold V hostOps0
  after_reads_simp
  rfl

theorem eyeWord : ∀ a b : Fin 4, IntOp.cmpi CmpIPredicate.eq (IntOp.addi (BitVec.ofNat 32 a.val) 0#32) (BitVec.ofNat 32 b.val) = if a = b then 1#1 else 0#1 := by
  decide +kernel

theorem one_word : (FloatOps.uitofp (F := Ideal) FTy.f32 (1#1 : BitVec 1) : EReal) = 1 := by
  show (((1#1 : BitVec 1).toNat : ℝ) : EReal) = 1
  simp
theorem zero_word : (FloatOps.uitofp (F := Ideal) FTy.f32 (0#1 : BitVec 1) : EReal) = 0 := by
  show (((0#1 : BitVec 1).toNat : ℝ) : EReal) = 0
  simp

theorem diag_at (w : FVec Ideal S4x64x64 .f32) (f k : Fin 256) :
    diag w (ix2 f k) = if f.val / 64 = k.val / 64 then w (ix3 ⟨k.val / 64, by omega⟩ ⟨f.val % 64, by omega⟩ ⟨k.val % 64, by omega⟩) else 0 := by
  have e := eyeWord ⟨f.val / 64, by omega⟩ ⟨k.val / 64, by omega⟩
  simp only [Fin.mk.injEq] at e
  pointwise [diag]
  rw [e]
  split_ifs with h
  · rw [one_word, one_mul]
    simp only [h]
  · rw [zero_word, zero_mul]

theorem b13_at (c : Dev nD) (t : Fin cfg0.N) (f k : Fin 256) : b13 m c t (ix2 f k) = diag (args m c).mix (ix2 f k) := by
  show _ = diag (m ((c : Thread nD τ).loc main_arg7)) _
  rw [← V_main_v12 m c]; blk_ext [b13, iblk, idx t]

/-- A row through the diagonal of matrices is each group through its own. -/
theorem sum_diag (y : Fin 256 → EReal) (w : FVec Ideal S4x64x64 .f32) (k : Fin 256) :
    ∑ f, y f * diag w (ix2 f k) = ∑ x : Fin 64, y ⟨k.val / 64 * 64 + x.val, by omega⟩ * w (ix3 ⟨k.val / 64, by omega⟩ x ⟨k.val % 64, by omega⟩) := by
  rw [Fin.sum_univ_tiles 4 64 rfl]
  rw [Finset.sum_eq_single (⟨k.val / 64, by omega⟩ : Fin 4)]
  · refine Finset.sum_congr rfl fun x _ => ?_
    rw [diag_at, if_pos (by simp only; omega)]
    have e : (⟨(k.val / 64 * 64 + x.val) % 64, by omega⟩ : Fin 64) = x := Fin.ext (by simp only; omega)
    rw [e]
  · intro g _ hg
    refine Finset.sum_eq_zero fun x _ => ?_
    rw [diag_at, if_neg, mul_zero]
    intro h
    apply hg
    apply Fin.ext
    simp only at h ⊢
    omega
  · intro h; exact absurd (Finset.mem_univ _) h

end Cert.Kernel4Ideal.Hand

end
-- ==== Proof.Merge.Rows.lean ====
/- The scratch rows are the rows before, and the convolution's and the pool's branches of a block are the stated ones. -/
module

public import proofs.«01_k».proof.Proof.Merge.Matrix

@[expose] public section

set_option maxRecDepth 16384

noncomputable section

namespace Cert.Kernel4Ideal.Hand

open Idealize.ShloMosaic Idealize.ShloMosaic.TcCoe Idealize.SL.Sem
open Cert.Kernel4Ideal Cert.Kernel4Ideal.Gen

variable (m : (ℓ : Loc nD τ sig) → Buf (Elt Ideal) ℓ)

/-- The rows a block's history holds: the sixteen before it, nothing at a sequence's start. -/
theorem rowOf_before (t : Fin cfg0.N) (A : FVec Ideal S16x256 .f32) (B : FVec Ideal S1024x256 .f32) (j : Fin 256) (f : Fin 65536 → EReal)
    (hB : ∀ i : Fin 1024, B (ix2 i j) = f (rowAt t i))
    (hA : ∀ (p : Fin 16) (r : Fin 65536), r.val = (t.val * 64 - 1) * 16 + p.val → A (ix2 p j) = if t.val % 2 = 1 then f r else 0)
    (i : Fin 1024) (s : ℕ) (hs : s ≤ 16) : rowOf A B j (16 + i.val - s) = Cert.Merge.before f (rowAt t i) s := by
  have ht : t.val < 64 := t.isLt
  have hi := i.isLt
  have e : (rowAt t i).val % 2048 = t.val % 2 * 1024 + i.val := by unfold rowAt; simp only; omega
  unfold rowOf Cert.Merge.before
  rw [e]
  by_cases h : 16 + i.val - s < 16
  · rw [dif_pos h, hA ⟨16 + i.val - s, h⟩ ⟨(t.val * 64 - 1) * 16 + (16 + i.val - s), by omega⟩ rfl]
    by_cases h2 : t.val % 2 = 1
    · rw [if_pos h2, if_pos (by omega)]
      exact congrArg f (Fin.ext (by unfold rowAt; simp only; omega))
    · rw [if_neg h2, if_neg (by omega)]
  · rw [dif_neg h, dif_pos (by omega), if_pos (by omega), hB]
    exact congrArg f (Fin.ext (by unfold rowAt; simp only; omega))

variable (c : Dev nD) (t : Fin cfg0.N)

theorem convRows_at (i : Fin 1024) (j : Fin 256) : convRows m c t (ix2 i j) = Cert.Merge.prod (args m c) j (rowAt t i) := by
  have h : k0_pay6 (F := Ideal) (b7 m c t) (b5 m c t) (ix2 i j) = b7 m c t (ix2 i j) * b5 m c t (ix2 i j) := by pointwise [k0_pay6]
  refine h.trans ?_
  rw [b7_at, b5_at]; rfl

theorem poolRows_at (i : Fin 1024) (j : Fin 256) : poolRows m c t (ix2 i j) = Cert.Merge.col (args m c) 6 (by omega) j (rowAt t i) := by
  have h : k0_pay10 (F := Ideal) (b8 m c t) (ix2 i j) = b8 m c t (ix2 i j) := by pointwise [k0_pay10]
  exact h.trans (b8_at m c t i j)

theorem convHist_at (j : Fin 256) (p : Fin 16) (r : Fin 65536) (hr : r.val = (t.val * 64 - 1) * 16 + p.val) :
    convHist m c t (ix2 p j) = if t.val % 2 = 1 then Cert.Merge.prod (args m c) j r else 0 := by
  have h : k0_pay5 (F := Ideal) (first t) 2048#32 0#1 1#32 (b10 m c t) (b9 m c t) (ix2 p j)
      = Scalar.select (Scalar.cmpi CmpIPredicate.sgt (place t) 0#32) (b10 m c t (ix2 p j) * b9 m c t (ix2 p j)) 0 := by
    pointwise [k0_pay5]
    rfl
  refine h.trans ?_
  rw [later_eq, b10_at m c t p j r hr, b9_at m c t p j r hr]
  split_ifs <;> rfl

theorem poolHist_at (j : Fin 256) (p : Fin 16) (r : Fin 65536) (hr : r.val = (t.val * 64 - 1) * 16 + p.val) :
    poolHist m c t (ix2 p j) = if t.val % 2 = 1 then Cert.Merge.col (args m c) 6 (by omega) j r else 0 := by
  have h : k0_pay9 (F := Ideal) (Scalar.cmpi CmpIPredicate.sgt (place t) 0#32) (b11 m c t) (ix2 p j)
      = Scalar.select (Scalar.cmpi CmpIPredicate.sgt (place t) 0#32) (b11 m c t (ix2 p j)) 0 := by
    pointwise [k0_pay9]
  refine h.trans ?_
  rw [later_eq, b11_at m c t p j r hr]
  split_ifs <;> rfl

variable (i : Fin 1024) (j : Fin 256)

theorem conv_row (s : ℕ) (hs : s ≤ 16) : rowOf (convHist m c t) (convRows m c t) j (16 + i.val - s) = Cert.Merge.before (Cert.Merge.prod (args m c) j) (rowAt t i) s :=
  rowOf_before t _ _ j _ (fun i => convRows_at m c t i j) (convHist_at m c t j) i s hs
theorem pool_row (s : ℕ) (hs : s ≤ 16) : rowOf (poolHist m c t) (poolRows m c t) j (16 + i.val - s) = Cert.Merge.before (Cert.Merge.col (args m c) 6 (by omega) j) (rowAt t i) s :=
  rowOf_before t _ _ j _ (fun i => poolRows_at m c t i j) (poolHist_at m c t j) i s hs

theorem u16_at : u16 m c t (ix2 i j) = Cert.Merge.before (Cert.Merge.prod (args m c) j) (rowAt t i) 0 :=
  (read_band (k := 1024) V0 16 inb_S1040x256_S1024x256_16_0 _ i ⟨16 + i.val, by omega⟩ rfl j).trans ((put_at _ _ _ j).trans (conv_row m c t i j 0 (by omega)))
theorem u15_at : u15 m c t (ix2 i j) = Cert.Merge.before (Cert.Merge.prod (args m c) j) (rowAt t i) 1 :=
  (read_band (k := 1024) V0 15 inb_S1040x256_S1024x256_15_0 _ i ⟨16 + i.val - 1, by omega⟩ (show 16 + i.val - 1 = 15 + i.val by omega) j).trans ((put_at _ _ _ j).trans (conv_row m c t i j 1 (by omega)))
theorem u14_at : u14 m c t (ix2 i j) = Cert.Merge.before (Cert.Merge.prod (args m c) j) (rowAt t i) 2 :=
  (read_band (k := 1024) V0 14 inb_S1040x256_S1024x256_14_0 _ i ⟨16 + i.val - 2, by omega⟩ (show 16 + i.val - 2 = 14 + i.val by omega) j).trans ((put_at _ _ _ j).trans (conv_row m c t i j 2 (by omega)))

theorem convB_at : convB m c t (ix2 i j) = Cert.Merge.conv (args m c) (rowAt t i) j := by
  have h : convB m c t (ix2 i j) = b6 m c t (ix2 i j) * (tap2 m c t (ix2 0 j) * u16 m c t (ix2 i j) + tap0 m c t (ix2 0 j) * u14 m c t (ix2 i j) + tap1 m c t (ix2 0 j) * u15 m c t (ix2 i j)) := by
    pointwise [convB, k0_pay8, k0_pay7]
  rw [h, b6_at, tap0_at, tap1_at, tap2_at, u14_at, u15_at, u16_at]
  unfold Cert.Merge.conv
  refine congrArg _ ?_
  rw [add_comm (_ * _) (_ * Cert.Merge.before _ _ 2), add_assoc, add_comm (_ * Cert.Merge.before _ _ 0), ← add_assoc]

/-- A window's sum over the scratch is its sum over the rows before. -/
theorem win_row (w : ℕ) (hw : w ≤ 16) : win w (rowOf (poolHist m c t) (poolRows m c t) j) (16 + i.val)
    = ∑ s ∈ Finset.range w, Cert.Merge.before (Cert.Merge.col (args m c) 6 (by omega) j) (rowAt t i) s :=
  Finset.sum_congr rfl fun s hs => pool_row m c t i j s (by have := Finset.mem_range.mp hs; omega)

theorem s2_at : s2 m c t (ix2 i j) = ∑ s ∈ Finset.range 2, Cert.Merge.before (Cert.Merge.col (args m c) 6 (by omega) j) (rowAt t i) s :=
  (sum2_at _ _ i j).trans (win_row m c t i j 2 (by omega))
theorem s4_at : s4 m c t (ix2 i j) = ∑ s ∈ Finset.range 4, Cert.Merge.before (Cert.Merge.col (args m c) 6 (by omega) j) (rowAt t i) s :=
  (sum4_at _ _ i j).trans (win_row m c t i j 4 (by omega))
theorem s8_at : s8 m c t (ix2 i j) = ∑ s ∈ Finset.range 8, Cert.Merge.before (Cert.Merge.col (args m c) 6 (by omega) j) (rowAt t i) s :=
  (sum8_at _ _ i j).trans (win_row m c t i j 8 (by omega))
theorem s16_at : s16 m c t (ix2 i j) = ∑ s ∈ Finset.range 16, Cert.Merge.before (Cert.Merge.col (args m c) 6 (by omega) j) (rowAt t i) s :=
  (sum16_at _ _ i j).trans (win_row m c t i j 16 (by omega))

/-- A column's group, as the words' comparisons find it. -/
theorem lane3 : ∀ j : Fin 256, IntOp.andi (IntOp.cmpi CmpIPredicate.sge (BitVec.ofNat 32 j.val) 192#32) (IntOp.cmpi CmpIPredicate.slt (BitVec.ofNat 32 j.val) 256#32) = if j.val / 64 = 3 then 1#1 else 0#1 := by
  decide +kernel
theorem lane2 : ∀ j : Fin 256, IntOp.andi (IntOp.cmpi CmpIPredicate.sge (BitVec.ofNat 32 j.val) 128#32) (IntOp.cmpi CmpIPredicate.slt (BitVec.ofNat 32 j.val) 192#32) = if j.val / 64 = 2 then 1#1 else 0#1 := by
  decide +kernel
theorem lane1 : ∀ j : Fin 256, IntOp.andi (IntOp.cmpi CmpIPredicate.sge (BitVec.ofNat 32 j.val) 64#32) (IntOp.cmpi CmpIPredicate.slt (BitVec.ofNat 32 j.val) 128#32) = if j.val / 64 = 1 then 1#1 else 0#1 := by
  decide +kernel
theorem lane0 : ∀ j : Fin 256, IntOp.andi (IntOp.cmpi CmpIPredicate.sge (BitVec.ofNat 32 j.val) 0#32) (IntOp.cmpi CmpIPredicate.slt (BitVec.ofNat 32 j.val) 64#32) = if j.val / 64 = 0 then 1#1 else 0#1 := by
  decide +kernel

theorem select_if (p : Prop) [Decidable p] (a b : EReal) : Scalar.select (if p then 1#1 else 0#1) a b = if p then a else b := by
  split_ifs <;> rfl

/-- A row's place in its sequence. -/
theorem posB_at : posB t (ix2 i 0) = BitVec.ofNat 32 ((rowAt t i).val % 2048) := by
  have h : posB t (ix2 i 0) = IntOp.addi (place t) (BitVec.ofNat 32 i.val) := by
    pointwise [posB, k0_pay4]
    rfl
  have ht : t.val < 64 := t.isLt
  have e : (rowAt t i).val % 2048 = t.val % 2 * 1024 + i.val := by unfold rowAt; simp only; omega
  rw [h, place_eq, e, BitVec.ofNat_add]
  rfl

/-- The count the body makes of it. -/
theorem count_eq (w : ℕ) : (FloatOps.sitofp (F := Ideal) FTy.f32 (IntOp.minsi (IntOp.addi (posB t (ix2 i 0)) 1#32) (BitVec.ofNat 32 w)) : EReal)
    = Cert.Merge.count ((rowAt t i).val % 2048) w := by
  unfold Cert.Merge.count
  rw [posB_at, show IntOp.addi (BitVec.ofNat 32 ((rowAt t i).val % 2048)) 1#32 = IntOp.addi 1#32 (BitVec.ofNat 32 ((rowAt t i).val % 2048)) from BitVec.add_comm _ _]

theorem poolB_at : poolB m c t (ix2 i j) = Cert.Merge.pooled (args m c) (rowAt t i) j := by
  pointwise [poolB, k0_pay18, k0_pay15, k0_pay13, k0_pay11]
  rw [lane0, lane1, lane2, lane3, count_eq t i 16, count_eq t i 8, count_eq t i 4, count_eq t i 2, s2_at, s4_at, s8_at, s16_at, b8_at,
    select_if, select_if, select_if, select_if]
  unfold Cert.Merge.pooled
  refine congrArg (· - _) ?_
  have hj : j.val / 64 < 4 := by omega
  generalize j.val / 64 = g at hj
  match g, hj with
  | 0, _ => rfl
  | 1, _ => rfl
  | 2, _ => rfl
  | 3, _ => rfl

end Cert.Kernel4Ideal.Hand

end
-- ==== Proof.Merge.Means.lean ====
/- The reference's merge, element by element. -/
module

public import proofs.«01_k».proof.Proof.Merge.Spec
public import proofs.«01_k».proof.Proof.Gen.Reference4Ideal.Run

@[expose] public section

set_option maxRecDepth 16384

noncomputable section

namespace Cert.Reference4Ideal.Hand

open Idealize.ShloMosaic Idealize.ShloMosaic.TcCoe
open Cert.Reference4Ideal Cert.Reference4Ideal.Gen Cert.Reference4Ideal.Value

/-- The row `i` before row `s`, nothing before the first. -/
def back (x : FVec Ideal S32x2048x64 .f32) (b : Fin 32) (s : Fin 2048) (c : Fin 64) (i : ℕ) : EReal :=
  if i ≤ s.val then x (ix3 b ⟨s.val - i, by omega⟩ c) else 0

theorem back_zero (x : FVec Ideal S32x2048x64 .f32) (b : Fin 32) (s : Fin 2048) (c : Fin 64) : back x b s c 0 = x (ix3 b s c) :=
  if_pos (Nat.zero_le _)

theorem back_if (x : FVec Ideal S32x2048x64 .f32) (b : Fin 32) (s : Fin 2048) (c : Fin 64) (i : ℕ) :
    (if h : i ≤ s.val ∧ s.val - i < 2048 then x (ix3 b ⟨s.val - i, h.2⟩ c) else 0) = back x b s c i := by
  unfold back
  by_cases h : i ≤ s.val
  · rw [if_pos h, dif_pos ⟨h, by omega⟩]
  · rw [if_neg h, dif_neg fun h' => h h'.1]

theorem zeroWord : (FloatOps.sitofp (F := Ideal) FTy.f32 (0#32 : BitVec 32) : EReal) = 0 := by
  show (((0#32 : BitVec 32).toInt : ℝ) : EReal) = 0
  simp

/-- The trailing mean over 2 rows, as the reference writes it. -/
def mean2 (x : FVec Ideal S32x2048x64 .f32) : FVec Ideal S32x2048x64 .f32 :=
  Host.divf (addf x
    (extractStridedSlice S32x2048x64 ![0, 0, 0] (pad S32x2049x64 ![0, 1, 0] ![0, 0, 0] ![0, 0, 0] x (sitofp .f32 (constantI S_ 32 0#32)) pads_S32x2048x64_S32x2049x64_000_100_000 h_S_) slices_S32x2049x64_S32x2048x64_0_0_0)) (broadcastInDim S32x2048x64 ![0, 1, 2] bcast_S1x2048x1_S32x2048x64_0_1_2 (broadcastInDim S1x2048x1 ![1] bcast_S2048_S1x2048x1_1 (sitofp .f32 (minsi (addi (broadcastInDim S2048 ![] bcast_S_S2048 (constantI S_ 32 1#32)) (iotaInDim S2048 32 0)) (broadcastInDim S2048 ![] bcast_S_S2048 (constantI S_ 32 2#32))))))

/-- The trailing mean over 4 rows, as the reference writes it. -/
def mean4 (x : FVec Ideal S32x2048x64 .f32) : FVec Ideal S32x2048x64 .f32 :=
  Host.divf (addf (addf (addf x
    (extractStridedSlice S32x2048x64 ![0, 0, 0] (pad S32x2049x64 ![0, 1, 0] ![0, 0, 0] ![0, 0, 0] x (sitofp .f32 (constantI S_ 32 0#32)) pads_S32x2048x64_S32x2049x64_000_100_000 h_S_) slices_S32x2049x64_S32x2048x64_0_0_0))
    (extractStridedSlice S32x2048x64 ![0, 0, 0] (pad S32x2050x64 ![0, 2, 0] ![0, 0, 0] ![0, 0, 0] x (sitofp .f32 (constantI S_ 32 0#32)) pads_S32x2048x64_S32x2050x64_000_200_000 h_S_) slices_S32x2050x64_S32x2048x64_0_0_0))
    (extractStridedSlice S32x2048x64 ![0, 0, 0] (pad S32x2051x64 ![0, 3, 0] ![0, 0, 0] ![0, 0, 0] x (sitofp .f32 (constantI S_ 32 0#32)) pads_S32x2048x64_S32x2051x64_000_300_000 h_S_) slices_S32x2051x64_S32x2048x64_0_0_0)) (broadcastInDim S32x2048x64 ![0, 1, 2] bcast_S1x2048x1_S32x2048x64_0_1_2 (broadcastInDim S1x2048x1 ![1] bcast_S2048_S1x2048x1_1 (sitofp .f32 (minsi (addi (broadcastInDim S2048 ![] bcast_S_S2048 (constantI S_ 32 1#32)) (iotaInDim S2048 32 0)) (broadcastInDim S2048 ![] bcast_S_S2048 (constantI S_ 32 4#32))))))

/-- The trailing mean over 8 rows, as the reference writes it. -/
def mean8 (x : FVec Ideal S32x2048x64 .f32) : FVec Ideal S32x2048x64 .f32 :=
  Host.divf (addf (addf (addf (addf (addf (addf (addf x
    (extractStridedSlice S32x2048x64 ![0, 0, 0] (pad S32x2049x64 ![0, 1, 0] ![0, 0, 0] ![0, 0, 0] x (sitofp .f32 (constantI S_ 32 0#32)) pads_S32x2048x64_S32x2049x64_000_100_000 h_S_) slices_S32x2049x64_S32x2048x64_0_0_0))
    (extractStridedSlice S32x2048x64 ![0, 0, 0] (pad S32x2050x64 ![0, 2, 0] ![0, 0, 0] ![0, 0, 0] x (sitofp .f32 (constantI S_ 32 0#32)) pads_S32x2048x64_S32x2050x64_000_200_000 h_S_) slices_S32x2050x64_S32x2048x64_0_0_0))
    (extractStridedSlice S32x2048x64 ![0, 0, 0] (pad S32x2051x64 ![0, 3, 0] ![0, 0, 0] ![0, 0, 0] x (sitofp .f32 (constantI S_ 32 0#32)) pads_S32x2048x64_S32x2051x64_000_300_000 h_S_) slices_S32x2051x64_S32x2048x64_0_0_0))
    (extractStridedSlice S32x2048x64 ![0, 0, 0] (pad S32x2052x64 ![0, 4, 0] ![0, 0, 0] ![0, 0, 0] x (sitofp .f32 (constantI S_ 32 0#32)) pads_S32x2048x64_S32x2052x64_000_400_000 h_S_) slices_S32x2052x64_S32x2048x64_0_0_0))
    (extractStridedSlice S32x2048x64 ![0, 0, 0] (pad S32x2053x64 ![0, 5, 0] ![0, 0, 0] ![0, 0, 0] x (sitofp .f32 (constantI S_ 32 0#32)) pads_S32x2048x64_S32x2053x64_000_500_000 h_S_) slices_S32x2053x64_S32x2048x64_0_0_0))
    (extractStridedSlice S32x2048x64 ![0, 0, 0] (pad S32x2054x64 ![0, 6, 0] ![0, 0, 0] ![0, 0, 0] x (sitofp .f32 (constantI S_ 32 0#32)) pads_S32x2048x64_S32x2054x64_000_600_000 h_S_) slices_S32x2054x64_S32x2048x64_0_0_0))
    (extractStridedSlice S32x2048x64 ![0, 0, 0] (pad S32x2055x64 ![0, 7, 0] ![0, 0, 0] ![0, 0, 0] x (sitofp .f32 (constantI S_ 32 0#32)) pads_S32x2048x64_S32x2055x64_000_700_000 h_S_) slices_S32x2055x64_S32x2048x64_0_0_0)) (broadcastInDim S32x2048x64 ![0, 1, 2] bcast_S1x2048x1_S32x2048x64_0_1_2 (broadcastInDim S1x2048x1 ![1] bcast_S2048_S1x2048x1_1 (sitofp .f32 (minsi (addi (broadcastInDim S2048 ![] bcast_S_S2048 (constantI S_ 32 1#32)) (iotaInDim S2048 32 0)) (broadcastInDim S2048 ![] bcast_S_S2048 (constantI S_ 32 8#32))))))

/-- The trailing mean over 16 rows, as the reference writes it. -/
def mean16 (x : FVec Ideal S32x2048x64 .f32) : FVec Ideal S32x2048x64 .f32 :=
  Host.divf (addf (addf (addf (addf (addf (addf (addf (addf (addf (addf (addf (addf (addf (addf (addf x
    (extractStridedSlice S32x2048x64 ![0, 0, 0] (pad S32x2049x64 ![0, 1, 0] ![0, 0, 0] ![0, 0, 0] x (sitofp .f32 (constantI S_ 32 0#32)) pads_S32x2048x64_S32x2049x64_000_100_000 h_S_) slices_S32x2049x64_S32x2048x64_0_0_0))
    (extractStridedSlice S32x2048x64 ![0, 0, 0] (pad S32x2050x64 ![0, 2, 0] ![0, 0, 0] ![0, 0, 0] x (sitofp .f32 (constantI S_ 32 0#32)) pads_S32x2048x64_S32x2050x64_000_200_000 h_S_) slices_S32x2050x64_S32x2048x64_0_0_0))
    (extractStridedSlice S32x2048x64 ![0, 0, 0] (pad S32x2051x64 ![0, 3, 0] ![0, 0, 0] ![0, 0, 0] x (sitofp .f32 (constantI S_ 32 0#32)) pads_S32x2048x64_S32x2051x64_000_300_000 h_S_) slices_S32x2051x64_S32x2048x64_0_0_0))
    (extractStridedSlice S32x2048x64 ![0, 0, 0] (pad S32x2052x64 ![0, 4, 0] ![0, 0, 0] ![0, 0, 0] x (sitofp .f32 (constantI S_ 32 0#32)) pads_S32x2048x64_S32x2052x64_000_400_000 h_S_) slices_S32x2052x64_S32x2048x64_0_0_0))
    (extractStridedSlice S32x2048x64 ![0, 0, 0] (pad S32x2053x64 ![0, 5, 0] ![0, 0, 0] ![0, 0, 0] x (sitofp .f32 (constantI S_ 32 0#32)) pads_S32x2048x64_S32x2053x64_000_500_000 h_S_) slices_S32x2053x64_S32x2048x64_0_0_0))
    (extractStridedSlice S32x2048x64 ![0, 0, 0] (pad S32x2054x64 ![0, 6, 0] ![0, 0, 0] ![0, 0, 0] x (sitofp .f32 (constantI S_ 32 0#32)) pads_S32x2048x64_S32x2054x64_000_600_000 h_S_) slices_S32x2054x64_S32x2048x64_0_0_0))
    (extractStridedSlice S32x2048x64 ![0, 0, 0] (pad S32x2055x64 ![0, 7, 0] ![0, 0, 0] ![0, 0, 0] x (sitofp .f32 (constantI S_ 32 0#32)) pads_S32x2048x64_S32x2055x64_000_700_000 h_S_) slices_S32x2055x64_S32x2048x64_0_0_0))
    (extractStridedSlice S32x2048x64 ![0, 0, 0] (pad S32x2056x64 ![0, 8, 0] ![0, 0, 0] ![0, 0, 0] x (sitofp .f32 (constantI S_ 32 0#32)) pads_S32x2048x64_S32x2056x64_000_800_000 h_S_) slices_S32x2056x64_S32x2048x64_0_0_0))
    (extractStridedSlice S32x2048x64 ![0, 0, 0] (pad S32x2057x64 ![0, 9, 0] ![0, 0, 0] ![0, 0, 0] x (sitofp .f32 (constantI S_ 32 0#32)) pads_S32x2048x64_S32x2057x64_000_900_000 h_S_) slices_S32x2057x64_S32x2048x64_0_0_0))
    (extractStridedSlice S32x2048x64 ![0, 0, 0] (pad S32x2058x64 ![0, 10, 0] ![0, 0, 0] ![0, 0, 0] x (sitofp .f32 (constantI S_ 32 0#32)) pads_S32x2048x64_S32x2058x64_000_1000_000 h_S_) slices_S32x2058x64_S32x2048x64_0_0_0))
    (extractStridedSlice S32x2048x64 ![0, 0, 0] (pad S32x2059x64 ![0, 11, 0] ![0, 0, 0] ![0, 0, 0] x (sitofp .f32 (constantI S_ 32 0#32)) pads_S32x2048x64_S32x2059x64_000_1100_000 h_S_) slices_S32x2059x64_S32x2048x64_0_0_0))
    (extractStridedSlice S32x2048x64 ![0, 0, 0] (pad S32x2060x64 ![0, 12, 0] ![0, 0, 0] ![0, 0, 0] x (sitofp .f32 (constantI S_ 32 0#32)) pads_S32x2048x64_S32x2060x64_000_1200_000 h_S_) slices_S32x2060x64_S32x2048x64_0_0_0))
    (extractStridedSlice S32x2048x64 ![0, 0, 0] (pad S32x2061x64 ![0, 13, 0] ![0, 0, 0] ![0, 0, 0] x (sitofp .f32 (constantI S_ 32 0#32)) pads_S32x2048x64_S32x2061x64_000_1300_000 h_S_) slices_S32x2061x64_S32x2048x64_0_0_0))
    (extractStridedSlice S32x2048x64 ![0, 0, 0] (pad S32x2062x64 ![0, 14, 0] ![0, 0, 0] ![0, 0, 0] x (sitofp .f32 (constantI S_ 32 0#32)) pads_S32x2048x64_S32x2062x64_000_1400_000 h_S_) slices_S32x2062x64_S32x2048x64_0_0_0))
    (extractStridedSlice S32x2048x64 ![0, 0, 0] (pad S32x2063x64 ![0, 15, 0] ![0, 0, 0] ![0, 0, 0] x (sitofp .f32 (constantI S_ 32 0#32)) pads_S32x2048x64_S32x2063x64_000_1500_000 h_S_) slices_S32x2063x64_S32x2048x64_0_0_0)) (broadcastInDim S32x2048x64 ![0, 1, 2] bcast_S1x2048x1_S32x2048x64_0_1_2 (broadcastInDim S1x2048x1 ![1] bcast_S2048_S1x2048x1_1 (sitofp .f32 (minsi (addi (broadcastInDim S2048 ![] bcast_S_S2048 (constantI S_ 32 1#32)) (iotaInDim S2048 32 0)) (broadcastInDim S2048 ![] bcast_S_S2048 (constantI S_ 32 16#32))))))

theorem mean2_at (x : FVec Ideal S32x2048x64 .f32) (b : Fin 32) (s : Fin 2048) (c : Fin 64) :
    mean2 x (ix3 b s c) = Ideal.div (∑ i ∈ Finset.range 2, back x b s c i) (Cert.Merge.count s.val 2) := by
  pointwise [mean2]
  simp only [Finset.sum_range_succ, Finset.sum_range_zero, zero_add, back_zero, zeroWord, back_if]
  rfl

theorem mean4_at (x : FVec Ideal S32x2048x64 .f32) (b : Fin 32) (s : Fin 2048) (c : Fin 64) :
    mean4 x (ix3 b s c) = Ideal.div (∑ i ∈ Finset.range 4, back x b s c i) (Cert.Merge.count s.val 4) := by
  pointwise [mean4]
  simp only [Finset.sum_range_succ, Finset.sum_range_zero, zero_add, back_zero, zeroWord, back_if]
  rfl

theorem mean8_at (x : FVec Ideal S32x2048x64 .f32) (b : Fin 32) (s : Fin 2048) (c : Fin 64) :
    mean8 x (ix3 b s c) = Ideal.div (∑ i ∈ Finset.range 8, back x b s c i) (Cert.Merge.count s.val 8) := by
  pointwise [mean8]
  simp only [Finset.sum_range_succ, Finset.sum_range_zero, zero_add, back_zero, zeroWord, back_if]
  rfl

theorem mean16_at (x : FVec Ideal S32x2048x64 .f32) (b : Fin 32) (s : Fin 2048) (c : Fin 64) :
    mean16 x (ix3 b s c) = Ideal.div (∑ i ∈ Finset.range 16, back x b s c i) (Cert.Merge.count s.val 16) := by
  pointwise [mean16]
  simp only [Finset.sum_range_succ, Finset.sum_range_zero, zero_add, back_zero, zeroWord, back_if]
  rfl
variable (V : Valuation τ sig (Elt Ideal))

/-- The arguments. -/
def args : Cert.Merge.Args where
  x := V (Proc.devRef .tc main_arg0)
  g := V (Proc.devRef .tc main_arg1)
  gates := V (Proc.devRef .tc main_arg2)
  ya := V (Proc.devRef .tc main_arg3)
  yd := V (Proc.devRef .tc main_arg4)
  u := V (Proc.devRef .tc main_arg5)
  taps := V (Proc.devRef .tc main_arg6)
  mix := V (Proc.devRef .tc main_arg7)
  scale := V (Proc.devRef .tc main_arg8)
  branch := V (Proc.devRef .tc main_arg9)
  last := V (Proc.devRef .tc main_arg10)

/-- Row `s` of sequence `b`. -/
def row (b : Fin 32) (s : Fin 2048) : Fin 65536 := ⟨b.val * 2048 + s.val, by omega⟩

theorem v12_at (b : Fin 32) (s : Fin 2048) (c : Fin 2560) : (res_main_v12 (F := Ideal) V (ix3 b s c) : EReal) = (args V).u (ix2 (row b s) c) := by
  pointwise [res_main_v12]
  rfl

/-- The row `i` before row `s` of a sequence is the row `i` before its row of the whole. -/
theorem before_row (f : Fin 65536 → EReal) (b : Fin 32) (s : Fin 2048) (i : ℕ) :
    Cert.Merge.before f (row b s) i = if h : i ≤ s.val then f (row b ⟨s.val - i, by omega⟩) else 0 := by
  unfold Cert.Merge.before row
  have e : (b.val * 2048 + s.val) % 2048 = s.val := by omega
  simp only [e]
  split_ifs with h
  · exact congrArg f (Fin.ext (show b.val * 2048 + s.val - i = b.val * 2048 + (s.val - i) by omega))
  · rfl

theorem v18_at (b : Fin 32) (s : Fin 2048) (c : Fin 256) (i : ℕ) (hi : i ≤ 2) (p : Fin 2050) (hp : p.val = s.val + i) :
    (res_main_v18 (F := Ideal) V (ix3 b p c) : EReal) = Cert.Merge.before (Cert.Merge.prod (args V) c) (row b s) (2 - i) := by
  rw [before_row]
  pointwise [res_main_v18]
  simp only [v12_at, zeroWord]
  by_cases h : 2 - i ≤ s.val
  · rw [dif_pos h, dif_pos ⟨by omega, by omega⟩]
    have e : (⟨p.val - 2, by omega⟩ : Fin 2048) = ⟨s.val - (2 - i), by omega⟩ := Fin.ext (by simp only; omega)
    rw [e]
    rfl
  · rw [dif_neg h, dif_neg (by omega)]

theorem v42_at (b : Fin 32) (s : Fin 2048) (g : Fin 4) (c : Fin 64) (k : Fin 256) (hk : k.val = g.val * 64 + c.val) :
    (res_main_v42 (F := Ideal) V (ix4 b s g c) : EReal) = Cert.Merge.col (args V) 6 (by omega) k (row b s) := by
  pointwise [res_main_v42]
  rw [v12_at]
  unfold Cert.Merge.col
  exact congrArg (fun z => (args V).u (ix2 (row b s) z)) (Fin.ext (by simp only; omega))

theorem v44_at (b : Fin 32) (s : Fin 2048) (c : Fin 64) : (res_main_v44 (F := Ideal) V (ix3 b s c) : EReal) = res_main_v42 (F := Ideal) V (ix4 b s 0 c) := by
  pointwise [res_main_v44]
theorem v58_at (b : Fin 32) (s : Fin 2048) (c : Fin 64) : (res_main_v58 (F := Ideal) V (ix3 b s c) : EReal) = res_main_v42 (F := Ideal) V (ix4 b s 1 c) := by
  pointwise [res_main_v58]
theorem v78_at (b : Fin 32) (s : Fin 2048) (c : Fin 64) : (res_main_v78 (F := Ideal) V (ix3 b s c) : EReal) = res_main_v42 (F := Ideal) V (ix4 b s 2 c) := by
  pointwise [res_main_v78]
theorem v110_at (b : Fin 32) (s : Fin 2048) (c : Fin 64) : (res_main_v110 (F := Ideal) V (ix3 b s c) : EReal) = res_main_v42 (F := Ideal) V (ix4 b s 3 c) := by
  pointwise [res_main_v110]

/-- The four means side by side. -/
def means (x0 x1 x2 x3 : FVec Ideal S32x2048x64 .f32) : FVec Ideal S32x2048x4x64 .f32 :=
  concatenate S32x2048x4x64 2 [⟨S32x2048x1x64, broadcastInDim S32x2048x1x64 ![0, 1, 3] bcast_S32x2048x64_S32x2048x1x64_0_1_3 x0⟩,
    ⟨S32x2048x1x64, broadcastInDim S32x2048x1x64 ![0, 1, 3] bcast_S32x2048x64_S32x2048x1x64_0_1_3 x1⟩,
    ⟨S32x2048x1x64, broadcastInDim S32x2048x1x64 ![0, 1, 3] bcast_S32x2048x64_S32x2048x1x64_0_1_3 x2⟩,
    ⟨S32x2048x1x64, broadcastInDim S32x2048x1x64 ![0, 1, 3] bcast_S32x2048x64_S32x2048x1x64_0_1_3 x3⟩] concatenates_S32x2048x1x64_S32x2048x1x64_S32x2048x1x64_S32x2048x1x64_S32x2048x4x64_d2

theorem v169_eq : res_main_v169 (F := Ideal) V = means (mean2 (res_main_v44 V)) (mean4 (res_main_v58 V)) (mean8 (res_main_v78 V)) (mean16 (res_main_v110 V)) := rfl

theorem means_at0 (x0 x1 x2 x3 : FVec Ideal S32x2048x64 .f32) (b : Fin 32) (s : Fin 2048) (c : Fin 64) : means x0 x1 x2 x3 (ix4 b s 0 c) = x0 (ix3 b s c) := by
  pointwise [means]
theorem means_at1 (x0 x1 x2 x3 : FVec Ideal S32x2048x64 .f32) (b : Fin 32) (s : Fin 2048) (c : Fin 64) : means x0 x1 x2 x3 (ix4 b s 1 c) = x1 (ix3 b s c) := by
  pointwise [means]
theorem means_at2 (x0 x1 x2 x3 : FVec Ideal S32x2048x64 .f32) (b : Fin 32) (s : Fin 2048) (c : Fin 64) : means x0 x1 x2 x3 (ix4 b s 2 c) = x2 (ix3 b s c) := by
  pointwise [means]
theorem means_at3 (x0 x1 x2 x3 : FVec Ideal S32x2048x64 .f32) (b : Fin 32) (s : Fin 2048) (c : Fin 64) : means x0 x1 x2 x3 (ix4 b s 3 c) = x3 (ix3 b s c) := by
  pointwise [means]

/-- A group's mean, of the group's columns. -/
theorem back_sum (x : FVec Ideal S32x2048x64 .f32) (b : Fin 32) (s : Fin 2048) (g : Fin 4) (c : Fin 64) (k : Fin 256) (hk : k.val = g.val * 64 + c.val) (w : ℕ)
    (hx : ∀ s, x (ix3 b s c) = res_main_v42 (F := Ideal) V (ix4 b s g c)) :
    ∑ i ∈ Finset.range w, back x b s c i = ∑ i ∈ Finset.range w, Cert.Merge.before (Cert.Merge.col (args V) 6 (by omega) k) (row b s) i := by
  refine Finset.sum_congr rfl fun i _ => ?_
  rw [before_row]
  unfold back
  split_ifs with h
  · exact (hx _).trans (v42_at V b _ g c k hk)
  · rfl

theorem v169_at (b : Fin 32) (s : Fin 2048) (g : Fin 4) (c : Fin 64) (k : Fin 256) (hk : k.val = g.val * 64 + c.val) :
    (res_main_v169 (F := Ideal) V (ix4 b s g c) : EReal) = Ideal.div (∑ i ∈ Finset.range (Cert.Merge.width g.val), Cert.Merge.before (Cert.Merge.col (args V) 6 (by omega) k) (row b s) i)
      (Cert.Merge.count s.val (Cert.Merge.width g.val)) := by
  rw [v169_eq]
  match g with
  | 0 => exact (means_at0 _ _ _ _ b s c).trans ((mean2_at _ b s c).trans (congrArg (Ideal.div · _) (back_sum V _ b s 0 c k hk 2 fun s => v44_at V b s c)))
  | 1 => exact (means_at1 _ _ _ _ b s c).trans ((mean4_at _ b s c).trans (congrArg (Ideal.div · _) (back_sum V _ b s 1 c k hk 4 fun s => v58_at V b s c)))
  | 2 => exact (means_at2 _ _ _ _ b s c).trans ((mean8_at _ b s c).trans (congrArg (Ideal.div · _) (back_sum V _ b s 2 c k hk 8 fun s => v78_at V b s c)))
  | 3 => exact (means_at3 _ _ _ _ b s c).trans ((mean16_at _ b s c).trans (congrArg (Ideal.div · _) (back_sum V _ b s 3 c k hk 16 fun s => v110_at V b s c)))

end Cert.Reference4Ideal.Hand

end
-- ==== Proof.Merge.Reference.lean ====
/- What the reference's merge leaves is the merge of its arguments. -/
module

public import proofs.«01_k».proof.Proof.Merge.Means

@[expose] public section

set_option maxRecDepth 16384

noncomputable section

namespace Cert.Reference4Ideal.Hand

open Idealize.ShloMosaic Idealize.ShloMosaic.TcCoe
open Cert.Reference4Ideal Cert.Reference4Ideal.Gen Cert.Reference4Ideal.Value

variable (V : Valuation τ sig (Elt Ideal))

/-- The convolution's branch, the mixed means' branch and the result, of their parts. -/
def convOf (v12 : FVec Ideal S32x2048x2560 .f32) (v18 : FVec Ideal S32x2050x256 .f32) (a6 : FVec Ideal S3x256 .f32) : FVec Ideal S65536x256 .f32 :=
  shapeCast _ (mulf (extractStridedSlice S32x2048x256 ![0, 0, 1024] v12 slices_S32x2048x2560_S32x2048x256_0_0_1024) (addf (addf (mulf (broadcastInDim S32x2048x256 ![0, 1, 2] bcast_S1x1x256_S32x2048x256_0_1_2 (broadcastInDim S1x1x256 ![2] bcast_S256_S1x1x256_2 (shapeCast _ (extractStridedSlice S1x256 ![0, 0] a6 slices_S3x256_S1x256_0_0) shapeCasts_S1x256_S256))) (extractStridedSlice S32x2048x256 ![0, 0, 0] v18 slices_S32x2050x256_S32x2048x256_0_0_0)) (mulf (broadcastInDim S32x2048x256 ![0, 1, 2] bcast_S1x1x256_S32x2048x256_0_1_2 (broadcastInDim S1x1x256 ![2] bcast_S256_S1x1x256_2 (shapeCast _ (extractStridedSlice S1x256 ![1, 0] a6 slices_S3x256_S1x256_1_0) shapeCasts_S1x256_S256))) (extractStridedSlice S32x2048x256 ![0, 1, 0] v18 slices_S32x2050x256_S32x2048x256_0_1_0))) (mulf (broadcastInDim S32x2048x256 ![0, 1, 2] bcast_S1x1x256_S32x2048x256_0_1_2 (broadcastInDim S1x1x256 ![2] bcast_S256_S1x1x256_2 (shapeCast _ (extractStridedSlice S1x256 ![2, 0] a6 slices_S3x256_S1x256_2_0) shapeCasts_S1x256_S256))) (extractStridedSlice S32x2048x256 ![0, 2, 0] v18 slices_S32x2050x256_S32x2048x256_0_2_0)))) shapeCasts_S32x2048x256_S65536x256
def mixOf (v42 : FVec Ideal S32x2048x4x64 .f32) (v169 : FVec Ideal S32x2048x4x64 .f32) (a7 : FVec Ideal S4x64x64 .f32) (a8 : FVec Ideal S1x256 .f32) : FVec Ideal S65536x256 .f32 :=
  shapeCast _ (mulf (shapeCast _ (transpose S32x2048x4x64 [2, 3, 0, 1] (Host.dotGeneral dot_S4x64x64_S32x2048x4x64_S4x64x32x2048_1_3_2_01_0_2 none a7 (subf v169 v42)) transposes_S4x64x32x2048_S32x2048x4x64_2_3_0_1) shapeCasts_S32x2048x4x64_S32x2048x256) (broadcastInDim S32x2048x256 ![0, 1, 2] bcast_S1x1x256_S32x2048x256_0_1_2 (broadcastInDim S1x1x256 ![2] bcast_S256_S1x1x256_2 (shapeCast _ a8 shapeCasts_S1x256_S256)))) shapeCasts_S32x2048x256_S65536x256
def resultOf (v186 : FVec Ideal S65536x4x1024 .f32) (v188 : FVec Ideal S4x256x1024 .f32) (a0 : FVec Ideal S65536x1024 .f32) (a3 : FVec Ideal S65536x256 .bf16) (a4 : FVec Ideal S65536x256 .bf16) (a10 : FVec Ideal S1024x1024 .bf16) (conv : FVec Ideal S65536x256 .f32) (mix : FVec Ideal S65536x256 .f32) : FVec Ideal S65536x1024 .f32 :=
  addf a0 (Host.dotGeneral dot_S65536x1024_S1024x1024_S65536x1024_1_0_0_1_n_n none (addf (addf (addf (mulf (shapeCast _ (extractStridedSlice S65536x1x1024 ![0, 0, 0] v186 slices_S65536x4x1024_S65536x1x1024_0_0_0) shapeCasts_S65536x1x1024_S65536x1024) (Host.dotGeneral dot_S65536x256_S256x1024_S65536x1024_1_0_0_1_n_n none (extf .f32 a3 bitsLt_bf16_f32) (shapeCast _ (extractStridedSlice S1x256x1024 ![0, 0, 0] v188 slices_S4x256x1024_S1x256x1024_0_0_0) shapeCasts_S1x256x1024_S256x1024))) (mulf (shapeCast _ (extractStridedSlice S65536x1x1024 ![0, 1, 0] v186 slices_S65536x4x1024_S65536x1x1024_0_1_0) shapeCasts_S65536x1x1024_S65536x1024) (Host.dotGeneral dot_S65536x256_S256x1024_S65536x1024_1_0_0_1_n_n none conv (shapeCast _ (extractStridedSlice S1x256x1024 ![1, 0, 0] v188 slices_S4x256x1024_S1x256x1024_1_0_0) shapeCasts_S1x256x1024_S256x1024)))) (mulf (shapeCast _ (extractStridedSlice S65536x1x1024 ![0, 2, 0] v186 slices_S65536x4x1024_S65536x1x1024_0_2_0) shapeCasts_S65536x1x1024_S65536x1024) (Host.dotGeneral dot_S65536x256_S256x1024_S65536x1024_1_0_0_1_n_n none mix (shapeCast _ (extractStridedSlice S1x256x1024 ![2, 0, 0] v188 slices_S4x256x1024_S1x256x1024_2_0_0) shapeCasts_S1x256x1024_S256x1024)))) (mulf (shapeCast _ (extractStridedSlice S65536x1x1024 ![0, 3, 0] v186 slices_S65536x4x1024_S65536x1x1024_0_3_0) shapeCasts_S65536x1x1024_S65536x1024) (Host.dotGeneral dot_S65536x256_S256x1024_S65536x1024_1_0_0_1_n_n none (extf .f32 a4 bitsLt_bf16_f32) (shapeCast _ (extractStridedSlice S1x256x1024 ![3, 0, 0] v188 slices_S4x256x1024_S1x256x1024_3_0_0) shapeCasts_S1x256x1024_S256x1024)))) (extf .f32 a10 bitsLt_bf16_f32))
def convTerm : FVec Ideal S65536x256 .f32 := convOf (res_main_v12 V) (res_main_v18 V) (V (Proc.devRef .tc main_arg6))
def mixTerm : FVec Ideal S65536x256 .f32 := mixOf (res_main_v42 V) (res_main_v169 V) (V (Proc.devRef .tc main_arg7)) (V (Proc.devRef .tc main_arg8))
/-- The reference's result. -/
def result : FVec Ideal S65536x1024 .f32 := resultOf (res_main_v186 V) (res_main_v188 V) (V (Proc.devRef .tc main_arg0)) (V (Proc.devRef .tc main_arg3)) (V (Proc.devRef .tc main_arg4)) (V (Proc.devRef .tc main_arg10)) (convTerm V) (mixTerm V)

theorem gates_at (r : Fin 65536) (b : ℕ) (hb : b < 4) (k : Fin 1024) : (res_main_v186 (F := Ideal) V (ix3 r ⟨b, hb⟩ k) : EReal) = Cert.Merge.gate (args V) r b hb k := by
  pointwise [res_main_v186]
  rfl

theorem rows_at (b : ℕ) (hb : b < 4) (e : Fin 256) (k : Fin 1024) : (res_main_v188 (F := Ideal) V (ix3 ⟨b, hb⟩ e k) : EReal) = (args V).branch (ix2 ⟨b * 256 + e.val, by omega⟩ k) := by
  pointwise [res_main_v188]
  rfl

theorem row_of (r : Fin 65536) : row ⟨r.val / 2048, by omega⟩ ⟨r.val % 2048, by omega⟩ = r := Fin.ext (by unfold row; simp only; omega)

theorem conv_at (r : Fin 65536) (c : Fin 256) : convTerm V (ix2 r c) = Cert.Merge.conv (args V) r c := by
  pointwise [convTerm, convOf]
  rw [v12_at, v18_at V _ ⟨r.val % 2048, by omega⟩ c 0 (by omega) _ (by simp), v18_at V _ ⟨r.val % 2048, by omega⟩ c 1 (by omega) _ (by simp only; omega),
    v18_at V _ ⟨r.val % 2048, by omega⟩ c 2 (by omega) _ (by simp only; omega), row_of]
  rfl

theorem mix_at (r : Fin 65536) (c : Fin 256) : mixTerm V (ix2 r c) = Cert.Merge.mixed (args V) r c := by
  pointwise [mixTerm, mixOf]
  refine Ideal.mul_congr (Finset.sum_congr rfl fun x _ => ?_) rfl
  have hk : ((⟨c.val / 64 * 64 + x.val, by omega⟩ : Fin 256)).val = (⟨c.val / 64, by omega⟩ : Fin 4).val * 64 + x.val := rfl
  rw [v169_at V _ _ _ x _ hk, v42_at V _ _ _ x _ hk, row_of, mul_comm]
  refine Ideal.mul_congr ?_ rfl
  unfold Cert.Merge.pooled
  have e : (c.val / 64 * 64 + x.val) / 64 = c.val / 64 := by omega
  simp only [e]

/-- A product of a gate and a sum over a branch's rows. -/
theorem branch_at (r : Fin 65536) (b : ℕ) (hb : b < 4) (y : Fin 256 → EReal) (k : Fin 1024) :
    @HMul.hMul EReal EReal EReal _ (res_main_v186 (F := Ideal) V (ix3 r ⟨b, hb⟩ k)) (∑ e : Fin 256, @HMul.hMul EReal EReal EReal _ (y e) (res_main_v188 (F := Ideal) V (ix3 ⟨b, hb⟩ e k))) = Cert.Merge.branch (args V) r b hb y k :=
  Ideal.mul_congr (gates_at V r b hb k) (Finset.sum_congr rfl fun e _ => Ideal.mul_congr rfl (rows_at V b hb e k))

theorem result_at (r : Fin 65536) (j : Fin 1024) : result V (ix2 r j) = Cert.Merge.out (args V) r j := by
  pointwise [result, resultOf]
  unfold Cert.Merge.out
  refine congrArg₂ (fun a b : EReal => a + b) rfl (Finset.sum_congr rfl fun k _ => Ideal.mul_congr ?_ rfl)
  have h1 : (fun e => convTerm V (ix2 r e)) = Cert.Merge.conv (args V) r := funext fun e => conv_at V r e
  have h2 : (fun e => mixTerm V (ix2 r e)) = Cert.Merge.mixed (args V) r := funext fun e => mix_at V r e
  rw [← h1, ← h2]
  exact congrArg₂ (fun a b : EReal => a + b) (congrArg₂ (fun a b : EReal => a + b) (congrArg₂ (fun a b : EReal => a + b)
    (branch_at V r 0 (by omega) (fun e => (args V).ya (ix2 r e)) k) (branch_at V r 1 (by omega) (fun e => convTerm V (ix2 r e)) k))
    (branch_at V r 2 (by omega) (fun e => mixTerm V (ix2 r e)) k)) (branch_at V r 3 (by omega) (fun e => (args V).yd (ix2 r e)) k)

theorem result_eq : result V = fun i => Cert.Merge.out (args V) (i 0) (i 1) := by
  funext i
  obtain ⟨r, j, rfl⟩ : ∃ (r : Fin 65536) (j : Fin 1024), i = ix2 r j := ⟨i (0 : Fin 2), i (1 : Fin 2), (ix2_eta (n0 := 65536) (n1 := 1024) i).symm⟩
  exact result_at V r j

end Cert.Reference4Ideal.Hand

end
-- ==== Proof.Merge.Value.lean ====
/- The merge: the kernel's result array is the merge of its arguments. -/
module

public import proofs.«01_k».proof.Proof.Merge.Rows
public import proofs.«01_k».proof.Proof.Merge.Reference
public import proofs.«01_k».proof.Proof.Gen.Kernel4.Frame

@[expose] public section

set_option maxRecDepth 16384

noncomputable section

namespace Cert.Kernel4Ideal.Hand

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ) (c : Dev nD) (t : Fin cfg0.N) (i : Fin 1024)

/-- A gate of a row, and a branch's projection. -/
theorem gate_of (b : ℕ) (hb : b < 4) (w : FVec Ideal S1024x1024 .bf16) (k : Fin 1024) (hw : ∀ d, w (ix2 d k) = (args m c).gates (ix2 d ⟨b * 1024 + k.val, by omega⟩)) :
    Ideal.logistic (∑ d, Cert.Spec.normed (fun e => b0 m c t (ix2 i e)) (fun e => b1 m c t (ix2 0 e)) d * w (ix2 d k)) = Cert.Merge.gate (args m c) (rowAt t i) b hb k := by
  unfold Cert.Merge.gate
  refine congrArg Ideal.logistic (Finset.sum_congr rfl fun d _ => ?_)
  rw [hw]
  simp only [b0_at, b1_at]

theorem proj_of (b : ℕ) (hb : b < 4) (y y' : Fin 256 → EReal) (w : FVec Ideal S256x1024 .bf16) (k : Fin 1024) (hy : y = y') (hw : ∀ e : Fin 256, w (ix2 e k) = (args m c).branch (ix2 ⟨b * 256 + e.val, by omega⟩ k)) :
    ∑ e, y e * w (ix2 e k) = Cert.Merge.proj (args m c) b hb y' k := by
  subst hy
  exact Finset.sum_congr rfl fun e _ => congrArg (y e * ·) (hw e)

/-- The pool's branch through the diagonal of the groups' matrices. -/
theorem mixed_of (k : Fin 256) : (∑ f, poolB m c t (ix2 i f) * b13 m c t (ix2 f k)) * b14 m c t (ix2 0 k) = Cert.Merge.mixed (args m c) (rowAt t i) k := by
  simp only [b13_at]
  rw [sum_diag (fun f => poolB m c t (ix2 i f)), b14_at]
  simp only [poolB_at]
  rfl

/-- The rows normed, and the two branches whose rows arrive whole. -/
theorem pay2_at (x : FVec Ideal S1024x1024 .f32) (g : FVec Ideal S1x1024 .f32) (d : Fin 1024) :
    k0_pay2 (F := Ideal) x g (ix2 i d) = Cert.Spec.normed (fun e => x (ix2 i e)) (fun e => g (ix2 0 e)) d := by
  pointwise [k0_pay2, Cert.Spec.normed]

theorem pay3_at (x : FVec Ideal S1024x1024 .f32) (g : FVec Ideal S1x1024 .f32) (ya : FVec Ideal S1024x256 .bf16) (wa : FVec Ideal S1024x1024 .bf16) (pa : FVec Ideal S256x1024 .bf16)
    (yd : FVec Ideal S1024x256 .bf16) (wd : FVec Ideal S1024x1024 .bf16) (pd : FVec Ideal S256x1024 .bf16) (k : Fin 1024) :
    k0_pay3 (F := Ideal) x g ya wa pa yd wd pd (ix2 i k)
      = Ideal.logistic (∑ d, Cert.Spec.normed (fun e => x (ix2 i e)) (fun e => g (ix2 0 e)) d * wa (ix2 d k)) * ∑ e, ya (ix2 i e) * pa (ix2 e k)
        + Ideal.logistic (∑ d, Cert.Spec.normed (fun e => x (ix2 i e)) (fun e => g (ix2 0 e)) d * wd (ix2 d k)) * ∑ e, yd (ix2 i e) * pd (ix2 e k) := by
  simp only [← pay2_at]
  pointwise [k0_pay3, Ideal.logistic]

theorem pay1_at (x : FVec Ideal S1024x1024 .f32) (n : FVec Ideal S1024x1024 .bf16) (s : FVec Ideal S1024x1024 .f32) (cb pb : FVec Ideal S1024x256 .bf16) (w : FVec Ideal S256x256 .bf16)
    (sc : FVec Ideal S1x256 .f32) (w1 : FVec Ideal S1024x1024 .bf16) (q1 : FVec Ideal S256x1024 .bf16) (w2 : FVec Ideal S1024x1024 .bf16) (q2 : FVec Ideal S256x1024 .bf16)
    (l : FVec Ideal S1024x1024 .bf16) (j : Fin 1024) :
    k0_pay1 (F := Ideal) x n s cb pb w sc w1 q1 w2 q2 l (ix2 i j)
      = x (ix2 i j) + ∑ k, (s (ix2 i k) + Ideal.logistic (∑ d, n (ix2 i d) * w1 (ix2 d k)) * ∑ e, cb (ix2 i e) * q1 (ix2 e k)
        + Ideal.logistic (∑ d, n (ix2 i d) * w2 (ix2 d k)) * ∑ e, ((∑ f, pb (ix2 i f) * w (ix2 f e)) * sc (ix2 0 e)) * q2 (ix2 e k)) * l (ix2 k j) := by
  pointwise [k0_pay1, Ideal.logistic]

/-- What a point stores, at an index. -/
theorem stored_at (j : Fin 1024) : stored m c t (ix2 i j) = Cert.Merge.out (args m c) (rowAt t i) j := by
  refine (pay1_at i _ _ _ _ _ _ _ _ _ _ _ _ j).trans ?_
  unfold Cert.Merge.out
  refine congrArg₂ (· + ·) (b0_at m c t i j) (Finset.sum_congr rfl fun k _ => Ideal.mul_congr ?_ (b16_at m c t k j))
  simp only [pay2_at]
  rw [pay3_at]
  rw [gate_of m c t i 0 (by omega) _ k (fun d => g0_at m c t d k), gate_of m c t i 3 (by omega) _ k (fun d => g3_at m c t d k),
    gate_of m c t i 1 (by omega) _ k (fun d => g1_at m c t d k), gate_of m c t i 2 (by omega) _ k (fun d => g2_at m c t d k),
    proj_of m c 0 (by omega) (fun e => b3 m c t (ix2 i e)) _ (p0 m c t) k (funext fun e => b3_at m c t i e) (fun e => p0_at m c t e k),
    proj_of m c 3 (by omega) (fun e => b4 m c t (ix2 i e)) _ (p3 m c t) k (funext fun e => b4_at m c t i e) (fun e => p3_at m c t e k),
    proj_of m c 1 (by omega) (fun e => convB m c t (ix2 i e)) _ (p1 m c t) k (funext fun e => convB_at m c t i e) (fun e => p1_at m c t e k),
    proj_of m c 2 (by omega) (fun e => (∑ f, poolB m c t (ix2 i f) * b13 m c t (ix2 f e)) * b14 m c t (ix2 0 e)) _ (p2 m c t) k (funext fun e => mixed_of m c t i e) (fun e => p2_at m c t e k)]
  unfold Cert.Merge.branch
  rw [add_right_comm (_ * Cert.Merge.proj _ 0 _ _ _) (_ * Cert.Merge.proj _ 3 _ _ _), add_right_comm _ (_ * Cert.Merge.proj _ 3 _ _ _)]

/-- The result array. -/
theorem final : (dats m 0 c).arrAt 17 (cfgs 0).N = (fun i => Cert.Merge.out (args m c) (i 0) (i 1) : FVec Ideal S65536x1024 .f32) := by
  refine (dats m 0 c).arrAt_eq_of_covers 17 _ (by decide +kernel) fun t _ y => ?_
  blk_simp
  rw [after0_17, outs_eq]
  obtain ⟨i, j, rfl⟩ : ∃ (i : Fin 1024) (j : Fin 1024), y = ix2 i j := ⟨y (0 : Fin 2), y (1 : Fin 2), (ix2_eta (n0 := 1024) (n1 := 1024) y).symm⟩
  have h0 : ∀ f : S65536x1024.Idx → EReal, f (((cfg0.win 17).blk t).view.emb (ix2 i j : S1024x1024.Idx)) = f (ix2 (rowAt t i) j) := fun f => by blk_ext [rowAt, idx t]
  exact (stored_at m c t i j).trans (h0 fun i => Cert.Merge.out (args m c) (i 0) (i 1)).symm

end Cert.Kernel4Ideal.Hand

end
-- ==== Proof.Combine.Value.lean ====
/- The combination of the experts' rows: the kernel's result and the reference's are each token's row plus its two experts' rows by their weights, normed. -/
module

public import proofs.«01_k».proof.Proof.Norm
public import proofs.«01_k».proof.Proof.Spec
public import proofs.«01_k».proof.Proof.Gen.Kernel5.Frame
public import proofs.«01_k».proof.Proof.Gen.Kernel5Ideal.Frame
public import proofs.«01_k».proof.Proof.Gen.Reference5Ideal.Run
public import Idealize.ShloMosaic.Lib.Pipeline.ValueKit

@[expose] public section

set_option maxRecDepth 16384

noncomputable section

namespace Cert.Combine

open Idealize.ShloMosaic Idealize.ShloMosaic.TcCoe
open Cert.Spec (Mat)

/-- Element `d` of a token's row plus its two experts' rows by their weights. -/
def sum (x : Fin 1024 → EReal) (p q : EReal) (y z : Fin 512 → BitVec 32) (d : Fin 1024) : EReal :=
  x d + (p * Cert.Spec.unpack y d + q * Cert.Spec.unpack z d)

/-- Element `j` of token `r`'s row: the first expert's row is row `r` of the pairs, the second's row `65536 + r`. -/
def out (x : (Mat 65536 1024).Idx → EReal) (y : (Mat 131072 512).Idx → BitVec 32) (w : (Mat 65536 8).Idx → EReal) (g : (Mat 1 1024).Idx → EReal)
    (r : Fin 65536) (j : Fin 1024) : EReal :=
  Cert.Spec.normed (sum (fun e => x (ix2 r e)) (w (ix2 r 0)) (w (ix2 r 1)) (fun q => y (ix2 ⟨r.val, by omega⟩ q)) (fun q => y (ix2 ⟨65536 + r.val, by omega⟩ q)))
    (fun e => g (ix2 0 e)) j

end Cert.Combine

namespace Cert.Kernel5Ideal.Hand

open Idealize.ShloMosaic Idealize.ShloMosaic.TcCoe Idealize.SL.Sem
open Idealize.ShloMosaic.Pipeline (Dat)
open Cert.Kernel5Ideal Cert.Kernel5Ideal.Gen

/-- The unpacked rows. -/
def unpacked (y : Vec Ideal S512x512 .i32) : FVec Ideal S512x1024 .f32 :=
  concatenate S512x1024 1 [⟨S512x512, bitcastToFloat (F := Ideal) .f32 (shli y (broadcast S512x512 16#32))⟩, ⟨S512x512, bitcastToFloat (F := Ideal) .f32 (andi y (broadcast S512x512 4294901760#32))⟩] concatenates_S512x512_S512x512_S512x1024_d1

theorem unpacked_at (y : Vec Ideal S512x512 .i32) (i : Fin 512) (d : Fin 1024) : unpacked y (ix2 i d) = Cert.Spec.unpack (fun q => y (ix2 i q)) d := by
  pointwise [unpacked]
  rfl

/-- The rows before the norm. -/
def summed (x : FVec Ideal S512x1024 .f32) (u v : FVec Ideal S512x1024 .f32) (w : FVec Ideal S512x8 .f32) : FVec Ideal S512x1024 .f32 :=
  addf x (addf (mulf (broadcastTo S512x1024 (extractStridedSlice S512x1 ![0, 0] w slices_S512x8_o0_0_S512x1) broadcasts_S512x1_S512x1024) u)
    (mulf (broadcastTo S512x1024 (extractStridedSlice S512x1 ![0, 1] w slices_S512x8_o0_1_S512x1) broadcasts_S512x1_S512x1024) v))

theorem summed_at (x : FVec Ideal S512x1024 .f32) (y z : Vec Ideal S512x512 .i32) (w : FVec Ideal S512x8 .f32) (i : Fin 512) (d : Fin 1024) :
    summed x (unpacked y) (unpacked z) w (ix2 i d)
      = Cert.Combine.sum (fun e => x (ix2 i e)) (w (ix2 i 0)) (w (ix2 i 1)) (fun q => y (ix2 i q)) (fun q => z (ix2 i q)) d := by
  unfold Cert.Combine.sum
  rw [← unpacked_at y i d, ← unpacked_at z i d]
  generalize unpacked y = u
  generalize unpacked z = v
  pointwise [summed]

/-- The normed rows. -/
def nrm (s : FVec Ideal S512x1024 .f32) (g : FVec Ideal S1x1024 .f32) : FVec Ideal S512x1024 .f32 :=
  mulf (mulf s (broadcastTo S512x1024 (rsqrt (addf (divf (shapeCast S512x1 (multiReduction .add [1] S512 (mulf s s) 0x00000000#32 reduces_S512x1024_S512 (.inl rfl) rfl) shapeCasts_S512_S512x1)
    (broadcast S512x1 (Scalar.ofBits (F := Ideal) .f32 0x44800000#32))) (broadcast S512x1 (Scalar.ofBits (F := Ideal) .f32 0x358637BD#32)))) broadcasts_S512x1_S512x1024))
    (broadcastTo S512x1024 g broadcasts_S1x1024_S512x1024)

theorem nrm_at (s : FVec Ideal S512x1024 .f32) (g : FVec Ideal S1x1024 .f32) (i : Fin 512) (j : Fin 1024) :
    nrm s g (ix2 i j) = Cert.Spec.normed (fun e => s (ix2 i e)) (fun e => g (ix2 0 e)) j := by
  pointwise [nrm, Cert.Spec.normed]

theorem pay_eq (w : FVec Ideal S512x8 .f32) (x : FVec Ideal S512x1024 .f32) (y z : Vec Ideal S512x512 .i32) (g : FVec Ideal S1x1024 .f32) :
    k0_pay1 (F := Ideal) w x y z g = nrm (summed x (unpacked y) (unpacked z) w) g := rfl

/-- What the body stores, at an index. -/
theorem pay_at (w : FVec Ideal S512x8 .f32) (x : FVec Ideal S512x1024 .f32) (y z : Vec Ideal S512x512 .i32) (g : FVec Ideal S1x1024 .f32) (i : Fin 512) (j : Fin 1024) :
    k0_pay1 (F := Ideal) w x y z g (ix2 i j)
      = Cert.Spec.normed (Cert.Combine.sum (fun e => x (ix2 i e)) (w (ix2 i 0)) (w (ix2 i 1)) (fun q => y (ix2 i q)) (fun q => z (ix2 i q))) (fun e => g (ix2 0 e)) j := by
  rw [pay_eq, nrm_at]
  exact congrArg (fun a => Cert.Spec.normed a (fun e => g (ix2 0 e)) j) (funext fun d => summed_at x y z w i d)

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val + 128, 0] ∧ win0_3.index t = ![t.val, 0] ∧ win0_4.index t = ![0, 0] ∧ win0_5.index t = ![t.val, 0] :=
  (by decide +kernel : ∀ t : Fin grid0.N, _)

/-- The blocks a point reads. -/
def b0 (c : Dev nD) (t : Fin cfg0.N) : FVec Ideal S512x1024 .f32 := iblk m c 0 t
def b1 (c : Dev nD) (t : Fin cfg0.N) : Vec Ideal S512x512 .i32 := iblk m c 1 t
def b2 (c : Dev nD) (t : Fin cfg0.N) : Vec Ideal S512x512 .i32 := iblk m c 2 t
def b3 (c : Dev nD) (t : Fin cfg0.N) : FVec Ideal S512x8 .f32 := iblk m c 3 t
def b4 (c : Dev nD) (t : Fin cfg0.N) : FVec Ideal S1x1024 .f32 := iblk m c 4 t

/-- A tile's row, in the array. -/
def rowAt (t : Fin cfg0.N) (i : Fin 512) : Fin 65536 := ⟨512 * t.val + i.val, by have h : t.val < 128 := t.isLt; omega⟩

theorem emb_at (t : Fin cfg0.N) (i : Fin 512) (j : Fin 1024) (f : S65536x1024.Idx → EReal) :
    f (((cfg0.win 5).blk t).view.emb (ix2 i j : S512x1024.Idx)) = f (ix2 (rowAt t i) j) := by
  blk_ext [rowAt, idx t]

/-- The result array. -/
theorem final (c : Dev nD) : (dats m 0 c).arrAt 5 (cfgs 0).N
    = (fun i => Cert.Combine.out (m ((c : Thread nD τ).loc main_arg0)) (m ((c : Thread nD τ).loc main_arg1)) (m ((c : Thread nD τ).loc main_arg2)) (m ((c : Thread nD τ).loc main_arg3)) (i 0) (i 1) : FVec Ideal S65536x1024 .f32) := by
  refine (dats m 0 c).arrAt_eq_of_covers 5 _ (by decide +kernel) fun t _ y => ?_
  blk_simp
  rw [after0_5]
  frame_out
  obtain ⟨i, j, rfl⟩ : ∃ (i : Fin 512) (j : Fin 1024), y = ix2 i j := ⟨y (0 : Fin 2), y (1 : Fin 2), (ix2_eta (n0 := 512) (n1 := 1024) y).symm⟩
  refine (pay_at _ _ _ _ _ i j).trans ?_
  refine Eq.trans ?_ (emb_at t i j fun i' => Cert.Combine.out (m ((c : Thread nD τ).loc main_arg0)) (m ((c : Thread nD τ).loc main_arg1)) (m ((c : Thread nD τ).loc main_arg2)) (m ((c : Thread nD τ).loc main_arg3)) (i' 0) (i' 1)).symm
  have h0 : ∀ e : Fin 1024, b0 m c t (ix2 i e) = m ((c : Thread nD τ).loc main_arg0) (ix2 (rowAt t i) e) := fun e => by blk_ext [b0, iblk, V, rowAt, idx t]
  have h1 : ∀ q : Fin 512, b1 m c t (ix2 i q) = m ((c : Thread nD τ).loc main_arg1) (ix2 ⟨(rowAt t i).val, by omega⟩ q) := fun q => by
    blk_ext [b1, iblk, V, rowAt, idx t]
  have h2 : ∀ q : Fin 512, b2 m c t (ix2 i q) = m ((c : Thread nD τ).loc main_arg1) (ix2 ⟨65536 + (rowAt t i).val, by omega⟩ q) := fun q => by
    blk_ext [b2, iblk, V, rowAt, idx t]
  have h3 : ∀ e : Fin 8, b3 m c t (ix2 i e) = m ((c : Thread nD τ).loc main_arg2) (ix2 (rowAt t i) e) := fun e => by blk_ext [b3, iblk, V, rowAt, idx t]
  have h4 : ∀ e : Fin 1024, b4 m c t (ix2 0 e) = m ((c : Thread nD τ).loc main_arg3) (ix2 0 e) := fun e => by blk_ext [b4, iblk, V, idx t]
  refine Eq.trans (b := Cert.Spec.normed (Cert.Combine.sum (fun e => b0 m c t (ix2 i e)) (b3 m c t (ix2 i 0)) (b3 m c t (ix2 i 1)) (fun q => b1 m c t (ix2 i q)) (fun q => b2 m c t (ix2 i q))) (fun e => b4 m c t (ix2 0 e)) j) rfl ?_
  rw [funext h0, funext h1, funext h2, h3 0, h3 1, funext h4]
  rfl

end Cert.Kernel5Ideal.Hand

namespace Cert.Reference5Ideal.Hand

open Idealize.ShloMosaic Idealize.ShloMosaic.TcCoe Idealize.SL.Sem
open Cert.Reference5Ideal Cert.Reference5Ideal.Gen

/-- The unpacked rows. -/
def unpacked (y : Vec Ideal S131072x512 .i32) : FVec Ideal S131072x1024 .f32 :=
  concatenate S131072x1024 1 [⟨S131072x512, bitcastToFloat (F := Ideal) .f32 (Host.shli y (broadcastInDim S131072x512 ![] bcast_S_S131072x512 (constantI S_ 32 16#32)))⟩, ⟨S131072x512, bitcastToFloat (F := Ideal) .f32 (andi y (broadcastInDim S131072x512 ![] bcast_S_S131072x512 (constantI S_ 32 4294901760#32)))⟩] concatenates_S131072x512_S131072x512_S131072x1024_d1

theorem unpacked_at (y : Vec Ideal S131072x512 .i32) (r : Fin 131072) (d : Fin 1024) : unpacked y (ix2 r d) = Cert.Spec.unpack (fun q => y (ix2 r q)) d := by
  pointwise [unpacked]
  rfl

/-- The rows before the norm. -/
def summed (x : FVec Ideal S65536x1024 .f32) (u : FVec Ideal S131072x1024 .f32) (w : FVec Ideal S65536x8 .f32) : FVec Ideal S65536x1024 .f32 :=
  addf x (addf (mulf (broadcastInDim S65536x1024 ![0, 1] bcast_S65536x1_S65536x1024_0_1 (extractStridedSlice S65536x1 ![0, 0] w slices_S65536x8_S65536x1_0_0)) (extractStridedSlice S65536x1024 ![0, 0] u slices_S131072x1024_S65536x1024_0_0))
    (mulf (broadcastInDim S65536x1024 ![0, 1] bcast_S65536x1_S65536x1024_0_1 (extractStridedSlice S65536x1 ![0, 1] w slices_S65536x8_S65536x1_0_1)) (extractStridedSlice S65536x1024 ![65536, 0] u slices_S131072x1024_S65536x1024_65536_0)))

theorem summed_at (x : FVec Ideal S65536x1024 .f32) (y : Vec Ideal S131072x512 .i32) (w : FVec Ideal S65536x8 .f32) (r : Fin 65536) (d : Fin 1024) :
    summed x (unpacked y) w (ix2 r d)
      = Cert.Combine.sum (fun e => x (ix2 r e)) (w (ix2 r 0)) (w (ix2 r 1)) (fun q => y (ix2 ⟨r.val, by omega⟩ q)) (fun q => y (ix2 ⟨65536 + r.val, by omega⟩ q)) d := by
  unfold Cert.Combine.sum
  rw [← unpacked_at y ⟨r.val, by omega⟩ d, ← unpacked_at y ⟨65536 + r.val, by omega⟩ d]
  generalize unpacked y = u
  pointwise [summed]

/-- The normed rows. -/
def nrm (s : FVec Ideal S65536x1024 .f32) (g : FVec Ideal S1x1024 .f32) : FVec Ideal S65536x1024 .f32 :=
  mulf (mulf s (broadcastInDim S65536x1024 ![0, 1] bcast_S65536x1_S65536x1024_0_1 (Host.rsqrt (addf (Host.divf (broadcastInDim S65536x1 ![0] bcast_S65536_S65536x1_0 (Host.reduceAdd (mulf s s) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 g)

theorem nrm_at (s : FVec Ideal S65536x1024 .f32) (g : FVec Ideal S1x1024 .f32) (r : Fin 65536) (j : Fin 1024) :
    nrm s g (ix2 r j) = Cert.Spec.normed (fun e => s (ix2 r e)) (fun e => g (ix2 0 e)) j := by
  pointwise [nrm, Cert.Spec.normed]

/-- The reference's result. -/
def ref (x : FVec Ideal S65536x1024 .f32) (y : Vec Ideal S131072x512 .i32) (w : FVec Ideal S65536x8 .f32) (g : FVec Ideal S1x1024 .f32) : FVec Ideal S65536x1024 .f32 :=
  nrm (summed x (unpacked y) w) g

theorem ref_eq (x : FVec Ideal S65536x1024 .f32) (y : Vec Ideal S131072x512 .i32) (w : FVec Ideal S65536x8 .f32) (g : FVec Ideal S1x1024 .f32) :
    ref x y w g = fun i => Cert.Combine.out x y w g (i 0) (i 1) := by
  funext i
  obtain ⟨r, j, rfl⟩ : ∃ (r : Fin 65536) (j : Fin 1024), i = ix2 r j := ⟨i (0 : Fin 2), i (1 : Fin 2), (ix2_eta (n0 := 65536) (n1 := 1024) i).symm⟩
  refine (nrm_at _ g r j).trans ?_
  exact congrArg (fun a => Cert.Spec.normed a (fun e => g (ix2 0 e)) j) (funext fun d => summed_at x y w r d)

/-- What the run leaves is `ref` of the arguments. -/
theorem result_eq (m : (ℓ : Loc nD τ sig) → Buf (Elt Ideal) ℓ) (c : Dev nD) :
    Value.res_out0 (F := Ideal) m c = ref (m ((c.tc : Thread nD τ).loc main_arg0)) (m ((c.tc : Thread nD τ).loc main_arg1)) (m ((c.tc : Thread nD τ).loc main_arg2)) (m ((c.tc : Thread nD τ).loc main_arg3)) := rfl

end Cert.Reference5Ideal.Hand

end
-- ==== Proof.BiasTiles.Value.lean ====
/- The bias tiles: the kernel's result and the reference's are each distance's bias, by its bucket. -/
module

public import proofs.«01_k».proof.Proof.Pre
public import proofs.«01_k».proof.Proof.Spec
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Pre_buckets_in_range
public import Idealize.ShloMosaic.Lib.Pipeline.ValueKit
public import Idealize.ShloMosaic.Lib.WordCmp

@[expose] public section

set_option maxRecDepth 16384

noncomputable section

namespace Cert.BiasTiles

open Idealize.ShloMosaic Idealize.ShloMosaic.TcCoe

/-- The bias of distance `(k, i, j)` for head `h`: the table's row of its bucket less the table's last row, in units of log 2. -/
def out (tab : (⟨2, ![32, 8]⟩ : Shape).Idx → EReal) (bkt : (⟨3, ![2, 256, 256]⟩ : Shape).Idx → BitVec 32)
    (h : Fin 8) (k : Fin 2) (i j : Fin 256) : EReal :=
  (tab (ix2 (⟨min (bkt (ix3 k i j)).toNat 31, by omega⟩ : Fin 32) h) - tab (ix2 (31 : Fin 32) h)) * Scalar.ofBits (F := Ideal) .f32 0x3FB8AA3B#32

end Cert.BiasTiles

namespace Cert.Kernel6Ideal.Hand

open Idealize.ShloMosaic Idealize.ShloMosaic.TcCoe Idealize.SL.Sem
open Cert.Kernel6Ideal Cert.Kernel6Ideal.Gen

/-- What the body stores, of a head's biases and the buckets. -/
def chain (x : Vec Ideal S2x256x256 .i32) (s : ℕ → EReal) : FVec Ideal S1x2x256x256 .f32 :=
  k0_pay1 (F := Ideal) x (k0_pay7 x (k0_pay5 x (k0_pay4 x (k0_pay2 x (s 0) (s 1) (s 2) (s 3) (s 4) (s 5)) (k0_pay3 x) (s 6) (s 7) (s 8) (s 9) (s 10) (s 11) (s 12) (s 13)) 14#32 (s 14) (s 15) (s 16) (s 17) (s 18) (s 19) (s 20)) (k0_pay6 x) (s 21) (s 22) (s 23) (s 24) (s 25) (s 26) (s 27) (s 28)) 29#32 (s 29) (s 30) (s 31) (s 31)

theorem chain_at (x : Vec Ideal S2x256x256 .i32) (s : ℕ → EReal) (b : ℕ) (hb : b < 32) (k : Fin 2) (i j : Fin 256) (hx : x (ix3 k i j) = BitVec.ofNat 32 b) :
    chain x s (ix4 0 k i j) = (s b - s 31) * Scalar.ofBits (F := Ideal) .f32 0x3FB8AA3B#32 := by
  pointwise [chain, k0_pay1, k0_pay2, k0_pay3, k0_pay4, k0_pay5, k0_pay6, k0_pay7]
  rw [hx]
  interval_cases b <;> rfl

variable (m : (ℓ : Loc nD τ sig) → Buf (Elt Ideal) ℓ) (ρ : Dev nD → PrngReg)

theorem idx : ∀ t : Fin cfg0.N, win0_0.index t = ![0, 0] ∧ win0_1.index t = ![0, 0, 0] ∧ win0_2.index t = ![t.val, 0, 0, 0] :=
  (by decide +kernel : ∀ t : Fin grid0.N, _)

/-- The blocks a point reads. -/
def b0 (c : Dev nD) (t : Fin cfg0.N) : FVec Ideal S32x8 .f32 := iblk m c 0 t
def b1 (c : Dev nD) (t : Fin cfg0.N) : Vec Ideal S2x256x256 .i32 := iblk m c 1 t

/-- A point's head. -/
def headAt (t : Fin cfg0.N) : Fin 8 := ⟨t.val, t.isLt⟩

theorem head_word : ∀ t : Fin cfg0.N, (Scalar.indexCast (BitVec.ofNat 32 (grid0.coords t 0).val)).toNat = t.val :=
  (by decide +kernel : ∀ t : Fin grid0.N, _)

/-- A scalar read of the table. -/
theorem ld_at (x : FVec Ideal S32x8 .f32) (t : Fin cfg0.N) (b : Fin 32) (off : Fin 2 → ℕ) (h : off = ![b.val, (Scalar.indexCast (BitVec.ofNat 32 (grid0.coords t 0).val)).toNat])
    (inb : ∀ a, off a + (![1, 1] : Fin 2 → ℕ) a ≤ S32x8.size a) (hf : 0 < S1x1.numel) :
    View.ld (Val := Elt Ideal) (S := S32x8) (e' := .f32) x (Rect.unit off ![1, 1] inb) (Shape.Idx.first hf) = x (ix2 b (headAt t)) := by
  rw [head_word] at h
  subst h
  refine congrArg x (funext fun a => Fin.ext ?_)
  match a with
  | ⟨0, _⟩ => rfl
  | ⟨1, _⟩ => rfl

theorem one_pos : 0 < S1x1.numel := by decide

/-- The scalars a point reads, by bucket. -/
def reads (c : Dev nD) (t : Fin cfg0.N) : ℕ → EReal
  | 0 => View.ld (Val := Elt Ideal) (S := S32x8) (e' := .f32) (b0 m c t) (Rect.unit (k0_off1 (grid0.coords t)) ![1, 1] (k0_off1_inb _)) (Shape.Idx.first one_pos)
  | 1 => View.ld (Val := Elt Ideal) (S := S32x8) (e' := .f32) (b0 m c t) (Rect.unit (k0_off2 (grid0.coords t)) ![1, 1] (k0_off2_inb _)) (Shape.Idx.first one_pos)
  | 2 => View.ld (Val := Elt Ideal) (S := S32x8) (e' := .f32) (b0 m c t) (Rect.unit (k0_off3 (grid0.coords t)) ![1, 1] (k0_off3_inb _)) (Shape.Idx.first one_pos)
  | 3 => View.ld (Val := Elt Ideal) (S := S32x8) (e' := .f32) (b0 m c t) (Rect.unit (k0_off4 (grid0.coords t)) ![1, 1] (k0_off4_inb _)) (Shape.Idx.first one_pos)
  | 4 => View.ld (Val := Elt Ideal) (S := S32x8) (e' := .f32) (b0 m c t) (Rect.unit (k0_off5 (grid0.coords t)) ![1, 1] (k0_off5_inb _)) (Shape.Idx.first one_pos)
  | 5 => View.ld (Val := Elt Ideal) (S := S32x8) (e' := .f32) (b0 m c t) (Rect.unit (k0_off6 (grid0.coords t)) ![1, 1] (k0_off6_inb _)) (Shape.Idx.first one_pos)
  | 6 => View.ld (Val := Elt Ideal) (S := S32x8) (e' := .f32) (b0 m c t) (Rect.unit (k0_off7 (grid0.coords t)) ![1, 1] (k0_off7_inb _)) (Shape.Idx.first one_pos)
  | 7 => View.ld (Val := Elt Ideal) (S := S32x8) (e' := .f32) (b0 m c t) (Rect.unit (k0_off8 (grid0.coords t)) ![1, 1] (k0_off8_inb _)) (Shape.Idx.first one_pos)
  | 8 => View.ld (Val := Elt Ideal) (S := S32x8) (e' := .f32) (b0 m c t) (Rect.unit (k0_off9 (grid0.coords t)) ![1, 1] (k0_off9_inb _)) (Shape.Idx.first one_pos)
  | 9 => View.ld (Val := Elt Ideal) (S := S32x8) (e' := .f32) (b0 m c t) (Rect.unit (k0_off10 (grid0.coords t)) ![1, 1] (k0_off10_inb _)) (Shape.Idx.first one_pos)
  | 10 => View.ld (Val := Elt Ideal) (S := S32x8) (e' := .f32) (b0 m c t) (Rect.unit (k0_off11 (grid0.coords t)) ![1, 1] (k0_off11_inb _)) (Shape.Idx.first one_pos)
  | 11 => View.ld (Val := Elt Ideal) (S := S32x8) (e' := .f32) (b0 m c t) (Rect.unit (k0_off12 (grid0.coords t)) ![1, 1] (k0_off12_inb _)) (Shape.Idx.first one_pos)
  | 12 => View.ld (Val := Elt Ideal) (S := S32x8) (e' := .f32) (b0 m c t) (Rect.unit (k0_off13 (grid0.coords t)) ![1, 1] (k0_off13_inb _)) (Shape.Idx.first one_pos)
  | 13 => View.ld (Val := Elt Ideal) (S := S32x8) (e' := .f32) (b0 m c t) (Rect.unit (k0_off14 (grid0.coords t)) ![1, 1] (k0_off14_inb _)) (Shape.Idx.first one_pos)
  | 14 => View.ld (Val := Elt Ideal) (S := S32x8) (e' := .f32) (b0 m c t) (Rect.unit (k0_off15 (grid0.coords t)) ![1, 1] (k0_off15_inb _)) (Shape.Idx.first one_pos)
  | 15 => View.ld (Val := Elt Ideal) (S := S32x8) (e' := .f32) (b0 m c t) (Rect.unit (k0_off16 (grid0.coords t)) ![1, 1] (k0_off16_inb _)) (Shape.Idx.first one_pos)
  | 16 => View.ld (Val := Elt Ideal) (S := S32x8) (e' := .f32) (b0 m c t) (Rect.unit (k0_off17 (grid0.coords t)) ![1, 1] (k0_off17_inb _)) (Shape.Idx.first one_pos)
  | 17 => View.ld (Val := Elt Ideal) (S := S32x8) (e' := .f32) (b0 m c t) (Rect.unit (k0_off18 (grid0.coords t)) ![1, 1] (k0_off18_inb _)) (Shape.Idx.first one_pos)
  | 18 => View.ld (Val := Elt Ideal) (S := S32x8) (e' := .f32) (b0 m c t) (Rect.unit (k0_off19 (grid0.coords t)) ![1, 1] (k0_off19_inb _)) (Shape.Idx.first one_pos)
  | 19 => View.ld (Val := Elt Ideal) (S := S32x8) (e' := .f32) (b0 m c t) (Rect.unit (k0_off20 (grid0.coords t)) ![1, 1] (k0_off20_inb _)) (Shape.Idx.first one_pos)
  | 20 => View.ld (Val := Elt Ideal) (S := S32x8) (e' := .f32) (b0 m c t) (Rect.unit (k0_off21 (grid0.coords t)) ![1, 1] (k0_off21_inb _)) (Shape.Idx.first one_pos)
  | 21 => View.ld (Val := Elt Ideal) (S := S32x8) (e' := .f32) (b0 m c t) (Rect.unit (k0_off22 (grid0.coords t)) ![1, 1] (k0_off22_inb _)) (Shape.Idx.first one_pos)
  | 22 => View.ld (Val := Elt Ideal) (S := S32x8) (e' := .f32) (b0 m c t) (Rect.unit (k0_off23 (grid0.coords t)) ![1, 1] (k0_off23_inb _)) (Shape.Idx.first one_pos)
  | 23 => View.ld (Val := Elt Ideal) (S := S32x8) (e' := .f32) (b0 m c t) (Rect.unit (k0_off24 (grid0.coords t)) ![1, 1] (k0_off24_inb _)) (Shape.Idx.first one_pos)
  | 24 => View.ld (Val := Elt Ideal) (S := S32x8) (e' := .f32) (b0 m c t) (Rect.unit (k0_off25 (grid0.coords t)) ![1, 1] (k0_off25_inb _)) (Shape.Idx.first one_pos)
  | 25 => View.ld (Val := Elt Ideal) (S := S32x8) (e' := .f32) (b0 m c t) (Rect.unit (k0_off26 (grid0.coords t)) ![1, 1] (k0_off26_inb _)) (Shape.Idx.first one_pos)
  | 26 => View.ld (Val := Elt Ideal) (S := S32x8) (e' := .f32) (b0 m c t) (Rect.unit (k0_off27 (grid0.coords t)) ![1, 1] (k0_off27_inb _)) (Shape.Idx.first one_pos)
  | 27 => View.ld (Val := Elt Ideal) (S := S32x8) (e' := .f32) (b0 m c t) (Rect.unit (k0_off28 (grid0.coords t)) ![1, 1] (k0_off28_inb _)) (Shape.Idx.first one_pos)
  | 28 => View.ld (Val := Elt Ideal) (S := S32x8) (e' := .f32) (b0 m c t) (Rect.unit (k0_off29 (grid0.coords t)) ![1, 1] (k0_off29_inb _)) (Shape.Idx.first one_pos)
  | 29 => View.ld (Val := Elt Ideal) (S := S32x8) (e' := .f32) (b0 m c t) (Rect.unit (k0_off30 (grid0.coords t)) ![1, 1] (k0_off30_inb _)) (Shape.Idx.first one_pos)
  | 30 => View.ld (Val := Elt Ideal) (S := S32x8) (e' := .f32) (b0 m c t) (Rect.unit (k0_off31 (grid0.coords t)) ![1, 1] (k0_off31_inb _)) (Shape.Idx.first one_pos)
  | 31 => View.ld (Val := Elt Ideal) (S := S32x8) (e' := .f32) (b0 m c t) (Rect.unit (k0_off32 (grid0.coords t)) ![1, 1] (k0_off32_inb _)) (Shape.Idx.first one_pos)
  | _ => 0

theorem outs_eq (c : Dev nD) (t : Fin cfg0.N) : outsAt0 m c t = chain (b1 m c t) (reads m c t) := by
  unfold outsAt0 out0_A_2 kernelRun0_A
  dsimp only
  frame_out
  rfl

theorem reads_at (c : Dev nD) (t : Fin cfg0.N) (b : Fin 32) : reads m c t b.val = b0 m c t (ix2 b (headAt t)) := by
  fin_cases b
  · exact ld_at (b0 m c t) t 0 (k0_off1 (grid0.coords t)) rfl (k0_off1_inb _) one_pos
  · exact ld_at (b0 m c t) t 1 (k0_off2 (grid0.coords t)) rfl (k0_off2_inb _) one_pos
  · exact ld_at (b0 m c t) t 2 (k0_off3 (grid0.coords t)) rfl (k0_off3_inb _) one_pos
  · exact ld_at (b0 m c t) t 3 (k0_off4 (grid0.coords t)) rfl (k0_off4_inb _) one_pos
  · exact ld_at (b0 m c t) t 4 (k0_off5 (grid0.coords t)) rfl (k0_off5_inb _) one_pos
  · exact ld_at (b0 m c t) t 5 (k0_off6 (grid0.coords t)) rfl (k0_off6_inb _) one_pos
  · exact ld_at (b0 m c t) t 6 (k0_off7 (grid0.coords t)) rfl (k0_off7_inb _) one_pos
  · exact ld_at (b0 m c t) t 7 (k0_off8 (grid0.coords t)) rfl (k0_off8_inb _) one_pos
  · exact ld_at (b0 m c t) t 8 (k0_off9 (grid0.coords t)) rfl (k0_off9_inb _) one_pos
  · exact ld_at (b0 m c t) t 9 (k0_off10 (grid0.coords t)) rfl (k0_off10_inb _) one_pos
  · exact ld_at (b0 m c t) t 10 (k0_off11 (grid0.coords t)) rfl (k0_off11_inb _) one_pos
  · exact ld_at (b0 m c t) t 11 (k0_off12 (grid0.coords t)) rfl (k0_off12_inb _) one_pos
  · exact ld_at (b0 m c t) t 12 (k0_off13 (grid0.coords t)) rfl (k0_off13_inb _) one_pos
  · exact ld_at (b0 m c t) t 13 (k0_off14 (grid0.coords t)) rfl (k0_off14_inb _) one_pos
  · exact ld_at (b0 m c t) t 14 (k0_off15 (grid0.coords t)) rfl (k0_off15_inb _) one_pos
  · exact ld_at (b0 m c t) t 15 (k0_off16 (grid0.coords t)) rfl (k0_off16_inb _) one_pos
  · exact ld_at (b0 m c t) t 16 (k0_off17 (grid0.coords t)) rfl (k0_off17_inb _) one_pos
  · exact ld_at (b0 m c t) t 17 (k0_off18 (grid0.coords t)) rfl (k0_off18_inb _) one_pos
  · exact ld_at (b0 m c t) t 18 (k0_off19 (grid0.coords t)) rfl (k0_off19_inb _) one_pos
  · exact ld_at (b0 m c t) t 19 (k0_off20 (grid0.coords t)) rfl (k0_off20_inb _) one_pos
  · exact ld_at (b0 m c t) t 20 (k0_off21 (grid0.coords t)) rfl (k0_off21_inb _) one_pos
  · exact ld_at (b0 m c t) t 21 (k0_off22 (grid0.coords t)) rfl (k0_off22_inb _) one_pos
  · exact ld_at (b0 m c t) t 22 (k0_off23 (grid0.coords t)) rfl (k0_off23_inb _) one_pos
  · exact ld_at (b0 m c t) t 23 (k0_off24 (grid0.coords t)) rfl (k0_off24_inb _) one_pos
  · exact ld_at (b0 m c t) t 24 (k0_off25 (grid0.coords t)) rfl (k0_off25_inb _) one_pos
  · exact ld_at (b0 m c t) t 25 (k0_off26 (grid0.coords t)) rfl (k0_off26_inb _) one_pos
  · exact ld_at (b0 m c t) t 26 (k0_off27 (grid0.coords t)) rfl (k0_off27_inb _) one_pos
  · exact ld_at (b0 m c t) t 27 (k0_off28 (grid0.coords t)) rfl (k0_off28_inb _) one_pos
  · exact ld_at (b0 m c t) t 28 (k0_off29 (grid0.coords t)) rfl (k0_off29_inb _) one_pos
  · exact ld_at (b0 m c t) t 29 (k0_off30 (grid0.coords t)) rfl (k0_off30_inb _) one_pos
  · exact ld_at (b0 m c t) t 30 (k0_off31 (grid0.coords t)) rfl (k0_off31_inb _) one_pos
  · exact ld_at (b0 m c t) t 31 (k0_off32 (grid0.coords t)) rfl (k0_off32_inb _) one_pos

theorem emb_at (t : Fin cfg0.N) (k : Fin 2) (i j : Fin 256) (f : S8x2x256x256.Idx → EReal) :
    f (((cfg0.win 2).blk t).view.emb (ix4 0 k i j : S1x2x256x256.Idx)) = f (ix4 (headAt t) k i j) := by
  blk_ext [headAt, idx t]

/-- The result array, when every bucket is one of the table's. -/
theorem final (c : Dev nD) (hb : ∀ k i j, (m ((c : Thread nD τ).loc main_arg1) (ix3 k i j : S2x256x256.Idx) : BitVec 32).toNat < 32) : (dats m 0 c).arrAt 2 (cfgs 0).N
    = (fun i => Cert.BiasTiles.out (m ((c : Thread nD τ).loc main_arg0)) (m ((c : Thread nD τ).loc main_arg1)) (i 0) (i 1) (i 2) (i 3) : FVec Ideal S8x2x256x256 .f32) := by
  refine (dats m 0 c).arrAt_eq_of_covers 2 _ (by decide +kernel) fun t _ y => ?_
  blk_simp
  rw [after0_2, outs_eq]
  obtain ⟨z, k, i, j, rfl⟩ : ∃ (z : Fin 1) (k : Fin 2) (i j : Fin 256), y = ix4 z k i j := ⟨y (0 : Fin 4), y (1 : Fin 4), y (2 : Fin 4), y (3 : Fin 4), (ix4_eta (n0 := 1) (n1 := 2) (n2 := 256) (n3 := 256) y).symm⟩
  obtain rfl : z = 0 := Subsingleton.elim _ _
  refine Eq.trans ?_ (emb_at t k i j fun i' => Cert.BiasTiles.out (m ((c : Thread nD τ).loc main_arg0)) (m ((c : Thread nD τ).loc main_arg1)) (i' 0) (i' 1) (i' 2) (i' 3)).symm
  have h0 : ∀ b : Fin 32, b0 m c t (ix2 b (headAt t)) = m ((c : Thread nD τ).loc main_arg0) (ix2 b (headAt t)) := fun b => by blk_ext [b0, iblk, V, idx t]
  have h1 : b1 m c t (ix3 k i j) = m ((c : Thread nD τ).loc main_arg1) (ix3 k i j) := by blk_ext [b1, iblk, V, idx t]
  have hw := hb k i j
  rw [← h1] at hw
  refine (chain_at (b1 m c t) (reads m c t) (b1 m c t (ix3 k i j)).toNat hw k i j (by rw [BitVec.ofNat_toNat, BitVec.setWidth_eq])).trans ?_
  have e : (⟨min (b1 m c t (ix3 k i j)).toNat 31, by omega⟩ : Fin 32) = ⟨(b1 m c t (ix3 k i j)).toNat, hw⟩ := Fin.ext (by simp only; omega)
  have r0 := (reads_at m c t ⟨_, hw⟩).trans ((h0 _).trans (congrArg (fun b : Fin 32 => m ((c : Thread nD τ).loc main_arg0) (ix2 b (headAt t))) e.symm))
  have r1 := (reads_at m c t 31).trans (h0 _)
  rw [show reads m c t 31 = _ from r1, show reads m c t (b1 m c t (ix3 k i j)).toNat = _ from r0]
  simp only [h1]
  rfl

end Cert.Kernel6Ideal.Hand

namespace Cert.Reference6Ideal.Hand

open Idealize.ShloMosaic Idealize.ShloMosaic.TcCoe Idealize.SL.Sem
open Cert.Reference6Ideal Cert.Reference6Ideal.Gen

/-- The lookup at an index: row `h` of the table at the bucket, read signed and clamped. -/
theorem gather_at (x : FVec Ideal S8x32 .f32) (v : IVec S2x256x256x1 32) (h : Fin 8) (k : Fin 2) (i j : Fin 256) :
    Host.gather gather_S8x32_S2x256x256x1_S8x2x256x256_0_1_n_n_1_3_81 x v (ix4 h k i j)
      = x (ix2 h (⟨min (v (ix4 k i j 0)).toInt.toNat 31, by omega⟩ : Fin 32)) := by
  unfold Host.gather
  refine congrArg x (funext fun a => Fin.ext ?_)
  show GatherDims.start _ _ v a + GatherDims.batchCoord _ _ a + GatherDims.offCoord _ _ a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start
    rw [dif_neg (by decide), Nat.zero_add]
    unfold GatherDims.offCoord
    rw [dif_pos (by decide)]
    rfl
  · rw [GatherDims.offCoord_eq_zero _ _ _ (by decide), Nat.add_zero]
    unfold GatherDims.start
    rw [dif_pos (by decide)]
    refine congrArg (fun z => min (v z).toInt.toNat 31) (funext fun b => Fin.ext ?_)
    match b with
    | ⟨0, _⟩ => rfl
    | ⟨1, _⟩ => rfl
    | ⟨2, _⟩ => rfl
    | ⟨3, _⟩ => rfl

/-- The reference's result. -/
def res (tab : FVec Ideal S32x8 .f32) (bkt : IVec S2x256x256 32) : FVec Ideal S8x2x256x256 .f32 :=
  mulf (subf (Host.gather gather_S8x32_S2x256x256x1_S8x2x256x256_0_1_n_n_1_3_81 (transpose S8x32 [1, 0] tab transposes_S32x8_S8x32_1_0) (broadcastInDim S2x256x256x1 ![0, 1, 2] bcast_S2x256x256_S2x256x256x1_0_1_2 (select (cmpi .slt bkt (broadcastInDim S2x256x256 ![] bcast_S_S2x256x256 (constantI S_ 32 0#32))) (addi bkt (broadcastInDim S2x256x256 ![] bcast_S_S2x256x256 (constantI S_ 32 32#32))) bkt))) (broadcastInDim S8x2x256x256 ![0, 1, 2, 3] bcast_S8x1x1x1_S8x2x256x256_0_1_2_3 (broadcastInDim S8x1x1x1 ![0] bcast_S8_S8x1x1x1_0 (shapeCast _ (extractStridedSlice S1x8 ![31, 0] tab slices_S32x8_S1x8_31_0) shapeCasts_S1x8_S8)))) (broadcastInDim S8x2x256x256 ![] bcast_S_S8x2x256x256 (constant S_ .f32 0x3FB8AA3B#32))

theorem slt_zero (b : BitVec 32) (hb : b.toNat < 32) : IntOp.cmpi .slt b 0#32 = 0#1 := by
  have e : b = BitVec.ofNat 32 b.toNat := by rw [BitVec.ofNat_toNat, BitVec.setWidth_eq]
  generalize b.toNat = n at e hb
  subst e
  interval_cases n <;> rfl

theorem toInt_of (b : BitVec 32) (hb : b.toNat < 32) : b.toInt.toNat = b.toNat := by
  rw [BitVec.toInt_eq_toNat_of_lt (by omega)]
  rfl

theorem res_at (tab : FVec Ideal S32x8 .f32) (bkt : IVec S2x256x256 32) (hb : ∀ k i j, (bkt (ix3 k i j) : BitVec 32).toNat < 32) (h : Fin 8) (k : Fin 2) (i j : Fin 256) :
    res tab bkt (ix4 h k i j) = Cert.BiasTiles.out tab bkt h k i j := by
  have hw := hb k i j
  have g := gather_at (transpose S8x32 [1, 0] tab transposes_S32x8_S8x32_1_0) (broadcastInDim S2x256x256x1 ![0, 1, 2] bcast_S2x256x256_S2x256x256x1_0_1_2 (select (cmpi .slt bkt (broadcastInDim S2x256x256 ![] bcast_S_S2x256x256 (constantI S_ 32 0#32))) (addi bkt (broadcastInDim S2x256x256 ![] bcast_S_S2x256x256 (constantI S_ 32 32#32))) bkt)) h k i j
  have s : (broadcastInDim S2x256x256x1 ![0, 1, 2] bcast_S2x256x256_S2x256x256x1_0_1_2 (select (cmpi .slt bkt (broadcastInDim S2x256x256 ![] bcast_S_S2x256x256 (constantI S_ 32 0#32))) (addi bkt (broadcastInDim S2x256x256 ![] bcast_S_S2x256x256 (constantI S_ 32 32#32))) bkt)) (ix4 k i j 0) = bkt (ix3 k i j) := by
    pointwise []
    rw [slt_zero _ hw]
    rfl
  unfold res
  generalize (broadcastInDim S2x256x256x1 ![0, 1, 2] bcast_S2x256x256_S2x256x256x1_0_1_2 (select (cmpi .slt bkt (broadcastInDim S2x256x256 ![] bcast_S_S2x256x256 (constantI S_ 32 0#32))) (addi bkt (broadcastInDim S2x256x256 ![] bcast_S_S2x256x256 (constantI S_ 32 32#32))) bkt)) = v at g s ⊢
  simp only [s, toInt_of _ hw] at g
  generalize Host.gather _ _ v = u at g ⊢
  pointwise []
  rw [g]
  pointwise [Cert.BiasTiles.out]

/-- The reference's result, as an array. -/
theorem res_eq (tab : FVec Ideal S32x8 .f32) (bkt : IVec S2x256x256 32) (hb : ∀ k i j, (bkt (ix3 k i j) : BitVec 32).toNat < 32) :
    res tab bkt = fun i => Cert.BiasTiles.out tab bkt (i 0) (i 1) (i 2) (i 3) := by
  funext y
  obtain ⟨h, k, i, j, rfl⟩ : ∃ (h : Fin 8) (k : Fin 2) (i j : Fin 256), y = ix4 h k i j := ⟨y (0 : Fin 4), y (1 : Fin 4), y (2 : Fin 4), y (3 : Fin 4), (ix4_eta (n0 := 8) (n1 := 2) (n2 := 256) (n3 := 256) y).symm⟩
  exact res_at tab bkt hb h k i j

end Cert.Reference6Ideal.Hand

namespace Cert.BiasTiles

open Idealize.ShloMosaic Idealize.ShloMosaic.TcCoe Idealize.ShloMosaic.WordCmp

/-- What the precondition says of the buckets. -/
theorem buckets_of_pre (tab : FVec Ideal Cert.Pre_buckets_in_range.S32x8 .f32) (bkt : IVec Cert.Pre_buckets_in_range.S2x256x256 32)
    (h : Cert.Pre_buckets_in_range.fn tab bkt = fun _ => 1#1) (k : Fin 2) (i j : Fin 256) : (bkt (ix3 k i j) : BitVec 32).toNat < 32 := by
  have e := congrFun h ValueIdx.ix0
  dsimp only [Cert.Pre_buckets_in_range.fn] at e
  obtain ⟨h0, h1⟩ := Cert.Items.andi_one _ _ e
  have g0 : IntOp.cmpi .sge (bkt (ix3 k i j)) 0#32 = 1#1 := Host.reduce_andi_all _ _ _ _ _ h0 (ix3 k i j)
  have g1 : IntOp.cmpi .slt (bkt (ix3 k i j)) 32#32 = 1#1 := Host.reduce_andi_all _ _ _ _ _ h1 (ix3 k i j)
  rw [cmpi_sge_zero, ofBool_decide_eq_one_iff] at g0
  rw [cmpi_slt_of_lt g0 (by decide), ofBool_decide_eq_one_iff] at g1
  exact g1

end Cert.BiasTiles

end
-- ==== Proof.lean ====
module

public import proofs.«01_k».proof.Defs
public import proofs.«01_k».proof.Proof.Kernel.Frame
public import proofs.«01_k».proof.Proof.Kernel.Ok
public import proofs.«01_k».proof.Proof.KernelIdeal.Final
public import proofs.«01_k».proof.Proof.ReferenceIdeal.Value
public import proofs.«01_k».proof.Proof.DenseFfn.Value
public import proofs.«01_k».proof.Proof.InProj.Value
public import proofs.«01_k».proof.Proof.Merge.Value
public import proofs.«01_k».proof.Proof.Combine.Value
public import proofs.«01_k».proof.Proof.BiasTiles.Value
public import Idealize.ShloMosaic.Lib.Claim

@[expose] public section

set_option maxRecDepth 16384

noncomputable section

namespace Cert.Proof

open Idealize.ShloMosaic Idealize.SL.Sem

theorem kernel_frame : Cert.quiescent_Kernel := fun m ρ h =>
  Cert.Kernel.Hand.frame m ρ (Cert.Kernel.Hand.ok_of_counts m (Cert.Items.counts_of_pre _ _ _ _ _ (h 0)))

theorem kernelIdeal_frame : Cert.quiescent_KernelIdeal := fun m ρ h =>
  Cert.KernelIdeal.Hand.frame m ρ (Cert.KernelIdeal.Hand.ok_of_counts m (Cert.Items.counts_of_pre _ _ _ _ _ (h 0)))

theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- What the reference leaves is what the kernel leaves, of the same arguments. -/
theorem results_equal (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (hc : Cert.Items.ends (Cert.KernelIdeal.Hand.cnt m) 7 = 131072)
    (h0 : Cert.ReferenceIdeal.Hand.a0 V = Cert.KernelIdeal.Hand.counts m) (h1 : Cert.ReferenceIdeal.Hand.a1 V = Cert.KernelIdeal.Hand.a1 m c)
    (h2 : Cert.ReferenceIdeal.Hand.a2 V = Cert.KernelIdeal.Hand.a2 m c) (h3 : Cert.ReferenceIdeal.Hand.a3 V = Cert.KernelIdeal.Hand.a3 m c)
    (h4 : Cert.ReferenceIdeal.Hand.a4 V = Cert.KernelIdeal.Hand.a4 m c) :
    truncf (F := Ideal) .bf16 (Cert.ReferenceIdeal.Value.res_main_v168 V) Cert.ReferenceIdeal.Gen.bitsLt_bf16_f32
      = (fun i => Cert.KernelIdeal.Hand.out m c (i 0) (i 1) : FVec Ideal Cert.KernelIdeal.S131072x1024 .bf16) := by
  funext i
  obtain ⟨r, j, rfl⟩ : ∃ (r : Fin 131072) (j : Fin 1024), i = ix2 r j := ⟨i (0 : Fin 2), i (1 : Fin 2), (ix2_eta (n0 := 131072) (n1 := 1024) i).symm⟩
  refine (Cert.ReferenceIdeal.Hand.result_at V (by rw [h0]; exact hc) r j).trans ?_
  rw [h0, h1, h2, h3, h4]
  rfl

theorem value : Cert.algebraic_KernelIdeal_ReferenceIdeal := by
  intro m g m' g' hpre hagree
  have hc : Cert.Items.ends (Cert.KernelIdeal.Hand.cnt m) 7 = 131072 := Cert.Items.counts_of_pre _ _ _ _ _ (hpre 0)
  refine ⟨fun c => (fun i => Cert.KernelIdeal.Hand.out m c (i 0) (i 1) : FVec Ideal Cert.KernelIdeal.S131072x1024 .bf16), Cert.KernelIdeal.Hand.run_value m g hc, ?_⟩
  refine (θ_run Cert.ReferenceIdeal.defs _ _).mono (fun r h c => ⟨(h c).1.trans ?_, (h c).2⟩) (Cert.ReferenceIdeal.Value.run (F := Ideal) m' g')
  obtain rfl : c = 0 := Subsingleton.elim _ _
  obtain ⟨h0, h1, h2, h3, h4⟩ := hagree 0
  exact results_equal m _ 0 hc h0 h1 h2 h3 h4

theorem denseFfn_frame : Cert.quiescent_Kernel2 := fun m ρ _ => Cert.Kernel2.Gen.frame m ρ

theorem denseFfnIdeal_frame : Cert.quiescent_Kernel2Ideal := fun m ρ _ => Cert.Kernel2Ideal.Gen.frame m ρ

theorem denseFfnReference_frame : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem denseFfn_value : Cert.algebraic_Kernel2Ideal_Reference2Ideal := by
  pair_intro
  · run_from Cert.Kernel2Ideal.Gen.run_main m g
  · run_from Cert.Reference2Ideal.Value.run m' g'
    exact (Cert.Reference2Ideal.Hand.ref_eq _ _ _ _ _).trans (Cert.Kernel2Ideal.Hand.final m _).symm

theorem inProj_frame : Cert.quiescent_Kernel3 := fun m ρ _ => Cert.Kernel3.Gen.frame m ρ

theorem inProjIdeal_frame : Cert.quiescent_Kernel3Ideal := fun m ρ _ => Cert.Kernel3Ideal.Gen.frame m ρ

theorem inProjReference_frame : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem inProj_value : Cert.algebraic_Kernel3Ideal_Reference3Ideal := by
  pair_intro
  · run_from Cert.Kernel3Ideal.Gen.run_main m g
  · run_from Cert.Reference3Ideal.Value.run m' g'
    exact (Cert.Reference3Ideal.Hand.ref_eq _ _ _).trans (Cert.Kernel3Ideal.Hand.final m _).symm

theorem merge_frame : Cert.quiescent_Kernel4 := fun m ρ _ => Cert.Kernel4.Gen.frame m ρ

theorem mergeIdeal_frame : Cert.quiescent_Kernel4Ideal := fun m ρ _ => Cert.Kernel4Ideal.Gen.frame m ρ

theorem mergeReference_frame : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The reference's arguments of the merge are the kernel's, if each is. -/
theorem merge_args (m : (ℓ : Loc Cert.Kernel4Ideal.nD Cert.Kernel4Ideal.τ Cert.Kernel4Ideal.sig) → Buf (Elt Ideal) ℓ)
    (V : Valuation Cert.Reference4Ideal.τ Cert.Reference4Ideal.sig (Elt Ideal)) (c : Dev Cert.Kernel4Ideal.nD)
    (h0 : (Cert.Reference4Ideal.Hand.args V).x = (Cert.Kernel4Ideal.Hand.args m c).x) (h1 : (Cert.Reference4Ideal.Hand.args V).g = (Cert.Kernel4Ideal.Hand.args m c).g)
    (h2 : (Cert.Reference4Ideal.Hand.args V).gates = (Cert.Kernel4Ideal.Hand.args m c).gates) (h3 : (Cert.Reference4Ideal.Hand.args V).ya = (Cert.Kernel4Ideal.Hand.args m c).ya)
    (h4 : (Cert.Reference4Ideal.Hand.args V).yd = (Cert.Kernel4Ideal.Hand.args m c).yd) (h5 : (Cert.Reference4Ideal.Hand.args V).u = (Cert.Kernel4Ideal.Hand.args m c).u)
    (h6 : (Cert.Reference4Ideal.Hand.args V).taps = (Cert.Kernel4Ideal.Hand.args m c).taps) (h7 : (Cert.Reference4Ideal.Hand.args V).mix = (Cert.Kernel4Ideal.Hand.args m c).mix)
    (h8 : (Cert.Reference4Ideal.Hand.args V).scale = (Cert.Kernel4Ideal.Hand.args m c).scale) (h9 : (Cert.Reference4Ideal.Hand.args V).branch = (Cert.Kernel4Ideal.Hand.args m c).branch)
    (h10 : (Cert.Reference4Ideal.Hand.args V).last = (Cert.Kernel4Ideal.Hand.args m c).last) :
    Cert.Reference4Ideal.Hand.args V = Cert.Kernel4Ideal.Hand.args m c := by
  generalize Cert.Reference4Ideal.Hand.args V = a at *
  generalize Cert.Kernel4Ideal.Hand.args m c = b at *
  cases a; cases b
  simp only at h0 h1 h2 h3 h4 h5 h6 h7 h8 h9 h10
  subst h0 h1 h2 h3 h4 h5 h6 h7 h8 h9 h10
  rfl

/-- The merge: the kernel's result and the reference's are `Cert.Merge.out` of the same arguments. -/
theorem merge_value : Cert.algebraic_Kernel4Ideal_Reference4Ideal := by
  intro m g m' g' hpre hagree
  refine ⟨fun c => (fun i => Cert.Merge.out (Cert.Kernel4Ideal.Hand.args m c) (i 0) (i 1) : FVec Ideal Cert.Kernel4Ideal.S65536x1024 .f32), ?_, ?_⟩
  · exact (θ_run Cert.Kernel4Ideal.defs _ _).mono (fun r h c => ⟨((h.1 c).1 17).trans (Cert.Kernel4Ideal.Hand.final m c), h.2.1 c⟩)
      (θ_run_and (Cert.Kernel4Ideal.Gen.run_main m g) (Cert.Kernel4Ideal.Gen.frame m g))
  · refine (θ_run Cert.Reference4Ideal.defs _ _).mono (fun r h c => ⟨(h c).1.trans ?_, (h c).2⟩) (Cert.Reference4Ideal.Value.run (F := Ideal) m' g')
    obtain ⟨h0, h1, h2, h3, h4, h5, h6, h7, h8, h9, h10⟩ := hagree c
    refine (Cert.Reference4Ideal.Hand.result_eq (Idealize.ShloMosaic.StableHlo.launchContents m' c)).trans ?_
    rw [merge_args m (Idealize.ShloMosaic.StableHlo.launchContents m' c) c h0 h1 h2 h3 h4 h5 h6 h7 h8 h9 h10]

theorem combine_frame : Cert.quiescent_Kernel5 := fun m ρ _ => Cert.Kernel5.Gen.frame m ρ

theorem combineIdeal_frame : Cert.quiescent_Kernel5Ideal := fun m ρ _ => Cert.Kernel5Ideal.Gen.frame m ρ

theorem combineReference_frame : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The combination: the kernel's result and the reference's are `Cert.Combine.out` of the same arguments. -/
theorem combine_value : Cert.algebraic_Kernel5Ideal_Reference5Ideal := by
  intro m g m' g' hpre hagree
  refine ⟨fun c => (fun i => Cert.Combine.out (m ((c.tc : Thread _ _).loc Cert.Kernel5Ideal.main_arg0)) (m ((c.tc : Thread _ _).loc Cert.Kernel5Ideal.main_arg1))
    (m ((c.tc : Thread _ _).loc Cert.Kernel5Ideal.main_arg2)) (m ((c.tc : Thread _ _).loc Cert.Kernel5Ideal.main_arg3)) (i 0) (i 1) : FVec Ideal Cert.Kernel5Ideal.S65536x1024 .f32), ?_, ?_⟩
  · exact (θ_run Cert.Kernel5Ideal.defs _ _).mono (fun r h c => ⟨((h.1 c).1 5).trans (Cert.Kernel5Ideal.Hand.final m c), h.2.1 c⟩)
      (θ_run_and (Cert.Kernel5Ideal.Gen.run_main m g) (Cert.Kernel5Ideal.Gen.frame m g))
  · refine (θ_run Cert.Reference5Ideal.defs _ _).mono (fun r h c => ⟨(h c).1.trans ?_, (h c).2⟩) (Cert.Reference5Ideal.Value.run (F := Ideal) m' g')
    obtain ⟨h0, h1, h2, h3⟩ := hagree c
    refine (Cert.Reference5Ideal.Hand.result_eq m' c).trans ((Cert.Reference5Ideal.Hand.ref_eq _ _ _ _).trans ?_)
    rw [h0, h1, h2, h3]

theorem biasTiles_frame : Cert.quiescent_Kernel6 := fun m ρ _ => Cert.Kernel6.Gen.frame m ρ

theorem biasTilesIdeal_frame : Cert.quiescent_Kernel6Ideal := fun m ρ _ => Cert.Kernel6Ideal.Gen.frame m ρ

theorem biasTilesReference_frame : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The bias tiles: where every bucket is a row of the table, the kernel's result and the reference's are `Cert.BiasTiles.out` of the same arguments. -/
theorem biasTiles_value : Cert.algebraic_Kernel6Ideal_Reference6Ideal_pre_buckets_in_range := by
  intro m g m' g' hpre hagree
  refine ⟨fun c => (fun i => Cert.BiasTiles.out (m ((c.tc : Thread _ _).loc Cert.Kernel6Ideal.main_arg0)) (m ((c.tc : Thread _ _).loc Cert.Kernel6Ideal.main_arg1))
    (i 0) (i 1) (i 2) (i 3) : FVec Ideal Cert.Kernel6Ideal.S8x2x256x256 .f32), ?_, ?_⟩
  · exact (θ_run Cert.Kernel6Ideal.defs _ _).mono (fun r h c => ⟨((h.1 c).1 2).trans (Cert.Kernel6Ideal.Hand.final m c (Cert.BiasTiles.buckets_of_pre _ _ (hpre c))), h.2.1 c⟩)
      (θ_run_and (Cert.Kernel6Ideal.Gen.run_main m g) (Cert.Kernel6Ideal.Gen.frame m g))
  · refine (θ_run Cert.Reference6Ideal.defs _ _).mono (fun r h c => ⟨(h c).1.trans ?_, (h c).2⟩) (Cert.Reference6Ideal.Value.run (F := Ideal) m' g')
    obtain ⟨h0, h1⟩ := hagree c
    have hb := Cert.BiasTiles.buckets_of_pre _ _ (hpre c)
    refine Eq.trans (b := Cert.Reference6Ideal.Hand.res _ _) rfl ?_
    rw [h0, h1]
    exact Cert.Reference6Ideal.Hand.res_eq _ _ hb

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_counts_split.Gen.facts, Cert.Pre_buckets_in_range.Gen.facts,
  kernel_frame, kernelIdeal_frame, reference_frame, fun m ρ _ => reference_frame m ρ trivial,
  denseFfn_frame, denseFfnIdeal_frame, denseFfnReference_frame, inProj_frame, inProjIdeal_frame, inProjReference_frame,
  merge_frame, mergeIdeal_frame, mergeReference_frame, combine_frame, combineIdeal_frame, combineReference_frame,
  biasTiles_frame, biasTilesIdeal_frame, fun m ρ _ => biasTilesIdeal_frame m ρ trivial, biasTilesReference_frame, fun m ρ _ => biasTilesReference_frame m ρ trivial,
  trivial, value, trivial, denseFfn_value, trivial, inProj_value, trivial, merge_value, trivial, combine_value, trivial, biasTiles_value⟩

end Cert.Proof

end
